-- ==== Defs.lean ====
def Pre_BiasFwd (m : (ℓ : Loc Cert.BiasFwd.nD Cert.BiasFwd.τ Cert.BiasFwd.sig) → Buf (Elt Bits) ℓ) : Prop :=
  True

def Pre_BiasFwdIdeal (m : (ℓ : Loc Cert.BiasFwdIdeal.nD Cert.BiasFwdIdeal.τ Cert.BiasFwdIdeal.sig) → Buf (Elt Ideal) ℓ) : Prop :=
  True

def Pre_BiasFwdIdeal_finite_table [hPre_finite_table : Cert.Pre_finite_table.Facts] (m : (ℓ : Loc Cert.BiasFwdIdeal.nD Cert.BiasFwdIdeal.τ Cert.BiasFwdIdeal.sig) → Buf (Elt Ideal) ℓ) : Prop :=
  ∀ c : Dev Cert.BiasFwdIdeal.nD,
    (Cert.Pre_finite_table.fn (F := Ideal) (m ((c.tc : Thread Cert.BiasFwdIdeal.nD Cert.BiasFwdIdeal.τ).loc Cert.BiasFwdIdeal.main_arg0)) (m ((c.tc : Thread Cert.BiasFwdIdeal.nD Cert.BiasFwdIdeal.τ).loc Cert.BiasFwdIdeal.main_arg1)) (m ((c.tc : Thread Cert.BiasFwdIdeal.nD Cert.BiasFwdIdeal.τ).loc Cert.BiasFwdIdeal.main_arg2))) = (fun _ => 1#1)

def Pre_BiasFwdRefIdeal (m : (ℓ : Loc Cert.BiasFwdRefIdeal.nD Cert.BiasFwdRefIdeal.τ Cert.BiasFwdRefIdeal.sig) → Buf (Elt Ideal) ℓ) : Prop :=
  True

def Pre_BiasFwdRefIdeal_finite_table [hPre_finite_table : Cert.Pre_finite_table.Facts] (m : (ℓ : Loc Cert.BiasFwdRefIdeal.nD Cert.BiasFwdRefIdeal.τ Cert.BiasFwdRefIdeal.sig) → Buf (Elt Ideal) ℓ) : Prop :=
  ∀ c : Dev Cert.BiasFwdRefIdeal.nD,
    (Cert.Pre_finite_table.fn (F := Ideal) (m ((c.tc : Thread Cert.BiasFwdRefIdeal.nD Cert.BiasFwdRefIdeal.τ).loc Cert.BiasFwdRefIdeal.main_arg0)) (m ((c.tc : Thread Cert.BiasFwdRefIdeal.nD Cert.BiasFwdRefIdeal.τ).loc Cert.BiasFwdRefIdeal.main_arg1)) (m ((c.tc : Thread Cert.BiasFwdRefIdeal.nD Cert.BiasFwdRefIdeal.τ).loc Cert.BiasFwdRefIdeal.main_arg2))) = (fun _ => 1#1)

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasBwdIdeal_finite_dbias [hPre_finite_dbias : Cert.Pre_finite_dbias.Facts] (m : (ℓ : Loc Cert.BiasBwdIdeal.nD Cert.BiasBwdIdeal.τ Cert.BiasBwdIdeal.sig) → Buf (Elt Ideal) ℓ) : Prop :=
  ∀ c : Dev Cert.BiasBwdIdeal.nD,
    (Cert.Pre_finite_dbias.fn (F := Ideal) (m ((c.tc : Thread Cert.BiasBwdIdeal.nD Cert.BiasBwdIdeal.τ).loc Cert.BiasBwdIdeal.main_arg0)) (m ((c.tc : Thread Cert.BiasBwdIdeal.nD Cert.BiasBwdIdeal.τ).loc Cert.BiasBwdIdeal.main_arg1))) = (fun _ => 1#1)

def Pre_BiasBwdRefIdeal (m : (ℓ : Loc Cert.BiasBwdRefIdeal.nD Cert.BiasBwdRefIdeal.τ Cert.BiasBwdRefIdeal.sig) → Buf (Elt Ideal) ℓ) : Prop :=
  True

def Pre_BiasBwdRefIdeal_finite_dbias [hPre_finite_dbias : Cert.Pre_finite_dbias.Facts] (m : (ℓ : Loc Cert.BiasBwdRefIdeal.nD Cert.BiasBwdRefIdeal.τ Cert.BiasBwdRefIdeal.sig) → Buf (Elt Ideal) ℓ) : Prop :=
  ∀ c : Dev Cert.BiasBwdRefIdeal.nD,
    (Cert.Pre_finite_dbias.fn (F := Ideal) (m ((c.tc : Thread Cert.BiasBwdRefIdeal.nD Cert.BiasBwdRefIdeal.τ).loc Cert.BiasBwdRefIdeal.main_arg0)) (m ((c.tc : Thread Cert.BiasBwdRefIdeal.nD Cert.BiasBwdRefIdeal.τ).loc Cert.BiasBwdRefIdeal.main_arg1))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Reference (m : (ℓ : Loc Cert.Reference.nD Cert.Reference.τ Cert.Reference.sig) → Buf (Elt Bits) ℓ) : Prop :=
  True

def quiescent_BiasFwd [hBiasFwd : Cert.BiasFwd.Facts] : Prop :=
  ∀ (m : (ℓ : Loc Cert.BiasFwd.nD Cert.BiasFwd.τ Cert.BiasFwd.sig) → Buf (Elt Bits) ℓ) (g : Dev Cert.BiasFwd.nD → PrngReg), Pre_BiasFwd m →
    θ_run (Cert.BiasFwd.defs (F := Bits)) (onTc (τ := Cert.BiasFwd.τ) (Cert.BiasFwd.main (F := Bits))) ⟨m, fun _ => 0, g⟩ (fun r => (∀ c : Dev Cert.BiasFwd.nD,
      r.2.mem ((c.tc : Thread Cert.BiasFwd.nD Cert.BiasFwd.τ).loc Cert.BiasFwd.main_arg0) = m ((c.tc : Thread Cert.BiasFwd.nD Cert.BiasFwd.τ).loc Cert.BiasFwd.main_arg0)
      ∧ r.2.mem ((c.tc : Thread Cert.BiasFwd.nD Cert.BiasFwd.τ).loc Cert.BiasFwd.main_arg1) = m ((c.tc : Thread Cert.BiasFwd.nD Cert.BiasFwd.τ).loc Cert.BiasFwd.main_arg1)
      ∧ r.2.mem ((c.tc : Thread Cert.BiasFwd.nD Cert.BiasFwd.τ).loc Cert.BiasFwd.main_arg2) = m ((c.tc : Thread Cert.BiasFwd.nD Cert.BiasFwd.τ).loc Cert.BiasFwd.main_arg2))
      ∧ r.2.sem = fun _ => 0)

def quiescent_BiasFwdIdeal [hBiasFwdIdeal : Cert.BiasFwdIdeal.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0)
      ∧ r.2.mem ((c.tc : Thread Cert.BiasFwdIdeal.nD Cert.BiasFwdIdeal.τ).loc Cert.BiasFwdIdeal.main_arg1) = m ((c.tc : Thread Cert.BiasFwdIdeal.nD Cert.BiasFwdIdeal.τ).loc Cert.BiasFwdIdeal.main_arg1)
      ∧ r.2.mem ((c.tc : Thread Cert.BiasFwdIdeal.nD Cert.BiasFwdIdeal.τ).loc Cert.BiasFwdIdeal.main_arg2) = m ((c.tc : Thread Cert.BiasFwdIdeal.nD Cert.BiasFwdIdeal.τ).loc Cert.BiasFwdIdeal.main_arg2))
      ∧ r.2.sem = fun _ => 0)

def quiescent_BiasFwdIdeal_pre_finite_table [hBiasFwdIdeal : Cert.BiasFwdIdeal.Facts] [hPre_finite_table : Cert.Pre_finite_table.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal_finite_table m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0)
      ∧ r.2.mem ((c.tc : Thread Cert.BiasFwdIdeal.nD Cert.BiasFwdIdeal.τ).loc Cert.BiasFwdIdeal.main_arg1) = m ((c.tc : Thread Cert.BiasFwdIdeal.nD Cert.BiasFwdIdeal.τ).loc Cert.BiasFwdIdeal.main_arg1)
      ∧ r.2.mem ((c.tc : Thread Cert.BiasFwdIdeal.nD Cert.BiasFwdIdeal.τ).loc Cert.BiasFwdIdeal.main_arg2) = m ((c.tc : Thread Cert.BiasFwdIdeal.nD Cert.BiasFwdIdeal.τ).loc Cert.BiasFwdIdeal.main_arg2))
      ∧ r.2.sem = fun _ => 0)

def quiescent_BiasFwdRefIdeal [hBiasFwdRefIdeal : Cert.BiasFwdRefIdeal.Facts] : Prop :=
  ∀ (m : (ℓ : Loc Cert.BiasFwdRefIdeal.nD Cert.BiasFwdRefIdeal.τ Cert.BiasFwdRefIdeal.sig) → Buf (Elt Ideal) ℓ) (g : Dev Cert.BiasFwdRefIdeal.nD → PrngReg), Pre_BiasFwdRefIdeal m →
    θ_run (Cert.BiasFwdRefIdeal.defs (F := Ideal)) (onTc (τ := Cert.BiasFwdRefIdeal.τ) (Cert.BiasFwdRefIdeal.main (F := Ideal))) ⟨m, fun _ => 0, g⟩ (fun r => (∀ c : Dev Cert.BiasFwdRefIdeal.nD,
      r.2.mem ((c.tc : Thread Cert.BiasFwdRefIdeal.nD Cert.BiasFwdRefIdeal.τ).loc Cert.BiasFwdRefIdeal.main_arg0) = m ((c.tc : Thread Cert.BiasFwdRefIdeal.nD Cert.BiasFwdRefIdeal.τ).loc Cert.BiasFwdRefIdeal.main_arg0)
      ∧ r.2.mem ((c.tc : Thread Cert.BiasFwdRefIdeal.nD Cert.BiasFwdRefIdeal.τ).loc Cert.BiasFwdRefIdeal.main_arg1) = m ((c.tc : Thread Cert.BiasFwdRefIdeal.nD Cert.BiasFwdRefIdeal.τ).loc Cert.BiasFwdRefIdeal.main_arg1)
      ∧ r.2.mem ((c.tc : Thread Cert.BiasFwdRefIdeal.nD Cert.BiasFwdRefIdeal.τ).loc Cert.BiasFwdRefIdeal.main_arg2) = m ((c.tc : Thread Cert.BiasFwdRefIdeal.nD Cert.BiasFwdRefIdeal.τ).loc Cert.BiasFwdRefIdeal.main_arg2))
      ∧ r.2.sem = fun _ => 0)

def quiescent_BiasFwdRefIdeal_pre_finite_table [hBiasFwdRefIdeal : Cert.BiasFwdRefIdeal.Facts] [hPre_finite_table : Cert.Pre_finite_table.Facts] : Prop :=
  ∀ (m : (ℓ : Loc Cert.BiasFwdRefIdeal.nD Cert.BiasFwdRefIdeal.τ Cert.BiasFwdRefIdeal.sig) → Buf (Elt Ideal) ℓ) (g : Dev Cert.BiasFwdRefIdeal.nD → PrngReg), Pre_BiasFwdRefIdeal_finite_table m →
    θ_run (Cert.BiasFwdRefIdeal.defs (F := Ideal)) (onTc (τ := Cert.BiasFwdRefIdeal.τ) (Cert.BiasFwdRefIdeal.main (F := Ideal))) ⟨m, fun _ => 0, g⟩ (fun r => (∀ c : Dev Cert.BiasFwdRefIdeal.nD,
      r.2.mem ((c.tc : Thread Cert.BiasFwdRefIdeal.nD Cert.BiasFwdRefIdeal.τ).loc Cert.BiasFwdRefIdeal.main_arg0) = m ((c.tc : Thread Cert.BiasFwdRefIdeal.nD Cert.BiasFwdRefIdeal.τ).loc Cert.BiasFwdRefIdeal.main_arg0)
      ∧ r.2.mem ((c.tc : Thread Cert.BiasFwdRefIdeal.nD Cert.BiasFwdRefIdeal.τ).loc Cert.BiasFwdRefIdeal.main_arg1) = m ((c.tc : Thread Cert.BiasFwdRefIdeal.nD Cert.BiasFwdRefIdeal.τ).loc Cert.BiasFwdRefIdeal.main_arg1)
      ∧ r.2.mem ((c.tc : Thread Cert.BiasFwdRefIdeal.nD Cert.BiasFwdRefIdeal.τ).loc Cert.BiasFwdRefIdeal.main_arg2) = m ((c.tc : Thread Cert.BiasFwdRefIdeal.nD Cert.BiasFwdRefIdeal.τ).loc Cert.BiasFwdRefIdeal.main_arg2))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0)
      ∧ r.2.mem ((c.tc : Thread Cert.BiasBwd.nD Cert.BiasBwd.τ).loc Cert.BiasBwd.main_arg1) = m ((c.tc : Thread Cert.BiasBwd.nD Cert.BiasBwd.τ).loc Cert.BiasBwd.main_arg1))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ r.2.sem = fun _ => 0)

def quiescent_BiasBwdIdeal_pre_finite_dbias [hBiasBwdIdeal : Cert.BiasBwdIdeal.Facts] [hPre_finite_dbias : Cert.Pre_finite_dbias.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal_finite_dbias m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ r.2.sem = fun _ => 0)

def quiescent_BiasBwdRefIdeal [hBiasBwdRefIdeal : Cert.BiasBwdRefIdeal.Facts] : Prop :=
  ∀ (m : (ℓ : Loc Cert.BiasBwdRefIdeal.nD Cert.BiasBwdRefIdeal.τ Cert.BiasBwdRefIdeal.sig) → Buf (Elt Ideal) ℓ) (g : Dev Cert.BiasBwdRefIdeal.nD → PrngReg), Pre_BiasBwdRefIdeal m →
    θ_run (Cert.BiasBwdRefIdeal.defs (F := Ideal)) (onTc (τ := Cert.BiasBwdRefIdeal.τ) (Cert.BiasBwdRefIdeal.main (F := Ideal))) ⟨m, fun _ => 0, g⟩ (fun r => (∀ c : Dev Cert.BiasBwdRefIdeal.nD,
      r.2.mem ((c.tc : Thread Cert.BiasBwdRefIdeal.nD Cert.BiasBwdRefIdeal.τ).loc Cert.BiasBwdRefIdeal.main_arg0) = m ((c.tc : Thread Cert.BiasBwdRefIdeal.nD Cert.BiasBwdRefIdeal.τ).loc Cert.BiasBwdRefIdeal.main_arg0)
      ∧ r.2.mem ((c.tc : Thread Cert.BiasBwdRefIdeal.nD Cert.BiasBwdRefIdeal.τ).loc Cert.BiasBwdRefIdeal.main_arg1) = m ((c.tc : Thread Cert.BiasBwdRefIdeal.nD Cert.BiasBwdRefIdeal.τ).loc Cert.BiasBwdRefIdeal.main_arg1))
      ∧ r.2.sem = fun _ => 0)

def quiescent_BiasBwdRefIdeal_pre_finite_dbias [hBiasBwdRefIdeal : Cert.BiasBwdRefIdeal.Facts] [hPre_finite_dbias : Cert.Pre_finite_dbias.Facts] : Prop :=
  ∀ (m : (ℓ : Loc Cert.BiasBwdRefIdeal.nD Cert.BiasBwdRefIdeal.τ Cert.BiasBwdRefIdeal.sig) → Buf (Elt Ideal) ℓ) (g : Dev Cert.BiasBwdRefIdeal.nD → PrngReg), Pre_BiasBwdRefIdeal_finite_dbias m →
    θ_run (Cert.BiasBwdRefIdeal.defs (F := Ideal)) (onTc (τ := Cert.BiasBwdRefIdeal.τ) (Cert.BiasBwdRefIdeal.main (F := Ideal))) ⟨m, fun _ => 0, g⟩ (fun r => (∀ c : Dev Cert.BiasBwdRefIdeal.nD,
      r.2.mem ((c.tc : Thread Cert.BiasBwdRefIdeal.nD Cert.BiasBwdRefIdeal.τ).loc Cert.BiasBwdRefIdeal.main_arg0) = m ((c.tc : Thread Cert.BiasBwdRefIdeal.nD Cert.BiasBwdRefIdeal.τ).loc Cert.BiasBwdRefIdeal.main_arg0)
      ∧ r.2.mem ((c.tc : Thread Cert.BiasBwdRefIdeal.nD Cert.BiasBwdRefIdeal.τ).loc Cert.BiasBwdRefIdeal.main_arg1) = m ((c.tc : Thread Cert.BiasBwdRefIdeal.nD Cert.BiasBwdRefIdeal.τ).loc Cert.BiasBwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_BiasFwd_BiasFwdIdeal : Prop :=
  True

def algebraic_BiasFwdIdeal_BiasFwdRefIdeal_pre_finite_table [hBiasFwdIdeal : Cert.BiasFwdIdeal.Facts] [hBiasFwdRefIdeal : Cert.BiasFwdRefIdeal.Facts] [hPre_finite_table : Cert.Pre_finite_table.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg)
    (m' : (ℓ : Loc Cert.BiasFwdRefIdeal.nD Cert.BiasFwdRefIdeal.τ Cert.BiasFwdRefIdeal.sig) → Buf (Elt Ideal) ℓ) (g' : Dev Cert.BiasFwdRefIdeal.nD → PrngReg), Pre_BiasFwdIdeal_finite_table m →
    (∀ c : Dev Cert.BiasFwdIdeal.nD,
      m' ((c.tc : Thread Cert.BiasFwdRefIdeal.nD Cert.BiasFwdRefIdeal.τ).loc Cert.BiasFwdRefIdeal.main_arg0) = m ((c.tc : Thread Cert.BiasFwdIdeal.nD Cert.BiasFwdIdeal.τ).loc Cert.BiasFwdIdeal.main_arg0)
      ∧ m' ((c.tc : Thread Cert.BiasFwdRefIdeal.nD Cert.BiasFwdRefIdeal.τ).loc Cert.BiasFwdRefIdeal.main_arg1) = m ((c.tc : Thread Cert.BiasFwdIdeal.nD Cert.BiasFwdIdeal.τ).loc Cert.BiasFwdIdeal.main_arg1)
      ∧ m' ((c.tc : Thread Cert.BiasFwdRefIdeal.nD Cert.BiasFwdRefIdeal.τ).loc Cert.BiasFwdRefIdeal.main_arg2) = m ((c.tc : Thread Cert.BiasFwdIdeal.nD Cert.BiasFwdIdeal.τ).loc Cert.BiasFwdIdeal.main_arg2)) →
    ∃ (v0 : (c : Dev Cert.BiasFwdIdeal.nD) → Buf (Elt Ideal) ((c.tc : Thread Cert.BiasFwdIdeal.nD Cert.BiasFwdIdeal.τ).loc Cert.BiasFwdIdeal.main_v3_0)) (v1 : (c : Dev Cert.BiasFwdIdeal.nD) → Buf (Elt Ideal) ((c.tc : Thread Cert.BiasFwdIdeal.nD Cert.BiasFwdIdeal.τ).loc Cert.BiasFwdIdeal.main_v3_1)),
      θ_run (Cert.BiasFwdIdeal.defs (F := Ideal)) (onTc (τ := Cert.BiasFwdIdeal.τ) (Cert.BiasFwdIdeal.main (F := Ideal))) ⟨m, fun _ => 0, g⟩ (fun r => ∀ c : Dev Cert.BiasFwdIdeal.nD,
          r.2.mem ((c.tc : Thread Cert.BiasFwdIdeal.nD Cert.BiasFwdIdeal.τ).loc Cert.BiasFwdIdeal.main_v3_0) = v0 c
          ∧ r.2.mem ((c.tc : Thread Cert.BiasFwdIdeal.nD Cert.BiasFwdIdeal.τ).loc Cert.BiasFwdIdeal.main_v3_1) = v1 c
          ∧ r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0)
          ∧ r.2.mem ((c.tc : Thread Cert.BiasFwdIdeal.nD Cert.BiasFwdIdeal.τ).loc Cert.BiasFwdIdeal.main_arg1) = m ((c.tc : Thread Cert.BiasFwdIdeal.nD Cert.BiasFwdIdeal.τ).loc Cert.BiasFwdIdeal.main_arg1)
          ∧ r.2.mem ((c.tc : Thread Cert.BiasFwdIdeal.nD Cert.BiasFwdIdeal.τ).loc Cert.BiasFwdIdeal.main_arg2) = m ((c.tc : Thread Cert.BiasFwdIdeal.nD Cert.BiasFwdIdeal.τ).loc Cert.BiasFwdIdeal.main_arg2))
      ∧ θ_run (Cert.BiasFwdRefIdeal.defs (F := Ideal)) (onTc (τ := Cert.BiasFwdRefIdeal.τ) (Cert.BiasFwdRefIdeal.main (F := Ideal))) ⟨m', fun _ => 0, g'⟩ (fun r => ∀ c : Dev Cert.BiasFwdRefIdeal.nD,
          r.2.mem ((c.tc : Thread Cert.BiasFwdRefIdeal.nD Cert.BiasFwdRefIdeal.τ).loc Cert.BiasFwdRefIdeal.main_v2) = v0 c
          ∧ r.2.mem ((c.tc : Thread Cert.BiasFwdRefIdeal.nD Cert.BiasFwdRefIdeal.τ).loc Cert.BiasFwdRefIdeal.main_v5) = v1 c
          ∧ r.2.mem ((c.tc : Thread Cert.BiasFwdRefIdeal.nD Cert.BiasFwdRefIdeal.τ).loc Cert.BiasFwdRefIdeal.main_arg0) = m' ((c.tc : Thread Cert.BiasFwdRefIdeal.nD Cert.BiasFwdRefIdeal.τ).loc Cert.BiasFwdRefIdeal.main_arg0)
          ∧ r.2.mem ((c.tc : Thread Cert.BiasFwdRefIdeal.nD Cert.BiasFwdRefIdeal.τ).loc Cert.BiasFwdRefIdeal.main_arg1) = m' ((c.tc : Thread Cert.BiasFwdRefIdeal.nD Cert.BiasFwdRefIdeal.τ).loc Cert.BiasFwdRefIdeal.main_arg1)
          ∧ r.2.mem ((c.tc : Thread Cert.BiasFwdRefIdeal.nD Cert.BiasFwdRefIdeal.τ).loc Cert.BiasFwdRefIdeal.main_arg2) = m' ((c.tc : Thread Cert.BiasFwdRefIdeal.nD Cert.BiasFwdRefIdeal.τ).loc Cert.BiasFwdRefIdeal.main_arg2))

def preserves_BiasBwd_BiasBwdIdeal : Prop :=
  True

def algebraic_BiasBwdIdeal_BiasBwdRefIdeal_pre_finite_dbias [hBiasBwdIdeal : Cert.BiasBwdIdeal.Facts] [hBiasBwdRefIdeal : Cert.BiasBwdRefIdeal.Facts] [hPre_finite_dbias : Cert.Pre_finite_dbias.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasBwdRefIdeal.nD Cert.BiasBwdRefIdeal.τ Cert.BiasBwdRefIdeal.sig) → Buf (Elt Ideal) ℓ) (g' : Dev Cert.BiasBwdRefIdeal.nD → PrngReg), Pre_BiasBwdIdeal_finite_dbias m →
    (∀ c : Dev Cert.BiasBwdIdeal.nD,
      m' ((c.tc : Thread Cert.BiasBwdRefIdeal.nD Cert.BiasBwdRefIdeal.τ).loc Cert.BiasBwdRefIdeal.main_arg0) = m ((c.tc : Thread Cert.BiasBwdIdeal.nD Cert.BiasBwdIdeal.τ).loc Cert.BiasBwdIdeal.main_arg0)
      ∧ m' ((c.tc : Thread Cert.BiasBwdRefIdeal.nD Cert.BiasBwdRefIdeal.τ).loc Cert.BiasBwdRefIdeal.main_arg1) = m ((c.tc : Thread Cert.BiasBwdIdeal.nD Cert.BiasBwdIdeal.τ).loc Cert.BiasBwdIdeal.main_arg1)) →
    ∃ (v0 : (c : Dev Cert.BiasBwdIdeal.nD) → Buf (Elt Ideal) ((c.tc : Thread Cert.BiasBwdIdeal.nD Cert.BiasBwdIdeal.τ).loc Cert.BiasBwdIdeal.main_v1_0)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v1_0) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
          ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ θ_run (Cert.BiasBwdRefIdeal.defs (F := Ideal)) (onTc (τ := Cert.BiasBwdRefIdeal.τ) (Cert.BiasBwdRefIdeal.main (F := Ideal))) ⟨m', fun _ => 0, g'⟩ (fun r => ∀ c : Dev Cert.BiasBwdRefIdeal.nD,
          r.2.mem ((c.tc : Thread Cert.BiasBwdRefIdeal.nD Cert.BiasBwdRefIdeal.τ).loc Cert.BiasBwdRefIdeal.main_v9) = v0 c
          ∧ r.2.mem ((c.tc : Thread Cert.BiasBwdRefIdeal.nD Cert.BiasBwdRefIdeal.τ).loc Cert.BiasBwdRefIdeal.main_arg0) = m' ((c.tc : Thread Cert.BiasBwdRefIdeal.nD Cert.BiasBwdRefIdeal.τ).loc Cert.BiasBwdRefIdeal.main_arg0)
          ∧ r.2.mem ((c.tc : Thread Cert.BiasBwdRefIdeal.nD Cert.BiasBwdRefIdeal.τ).loc Cert.BiasBwdRefIdeal.main_arg1) = m' ((c.tc : Thread Cert.BiasBwdRefIdeal.nD Cert.BiasBwdRefIdeal.τ).loc Cert.BiasBwdRefIdeal.main_arg1))

def preserves_GateFwd_GateFwdIdeal : Prop :=
  IdealRules.named_const.Statement Cert.GateFwdIdeal.κ "c1" .f32 0x3D372713#32 ((8943 / 200000 : ℝ) : EReal)

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v5_0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v5_0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v74) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v51) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v5) = v0 c
          ∧ r.2.mem ((c.tc : Thread Cert.AdamOutRefIdeal.nD Cert.AdamOutRefIdeal.τ).loc Cert.AdamOutRefIdeal.main_v29) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_v16) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v5) = v0 c
          ∧ r.2.mem ((c.tc : Thread Cert.AdamUpRefIdeal.nD Cert.AdamUpRefIdeal.τ).loc Cert.AdamUpRefIdeal.main_v29) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_v16) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v5) = v0 c
          ∧ r.2.mem ((c.tc : Thread Cert.AdamDownRefIdeal.nD Cert.AdamDownRefIdeal.τ).loc Cert.AdamDownRefIdeal.main_v29) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_v16) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v31) = v0 c
          ∧ r.2.mem ((c.tc : Thread Cert.AdamInRefIdeal.nD Cert.AdamInRefIdeal.τ).loc Cert.AdamInRefIdeal.main_v32) = v1 c
          ∧ r.2.mem ((c.tc : Thread Cert.AdamInRefIdeal.nD Cert.AdamInRefIdeal.τ).loc Cert.AdamInRefIdeal.main_v33) = v2 c
          ∧ r.2.mem ((c.tc : Thread Cert.AdamInRefIdeal.nD Cert.AdamInRefIdeal.τ).loc Cert.AdamInRefIdeal.main_v34) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v42) = v0 c
          ∧ r.2.mem ((c.tc : Thread Cert.InBwdRefIdeal.nD Cert.InBwdRefIdeal.τ).loc Cert.InBwdRefIdeal.main_v43) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)) (v2 : (c : Dev Cert.OutBwdIdeal.nD) → Buf (Elt Ideal) ((c.tc : Thread Cert.OutBwdIdeal.nD Cert.OutBwdIdeal.τ).loc Cert.OutBwdIdeal.main_v0_2)) (v3 : (c : Dev Cert.OutBwdIdeal.nD) → Buf (Elt Ideal) ((c.tc : Thread Cert.OutBwdIdeal.nD Cert.OutBwdIdeal.τ).loc Cert.OutBwdIdeal.main_v0_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_v0_2) = v2 c
          ∧ r.2.mem ((c.tc : Thread Cert.OutBwdIdeal.nD Cert.OutBwdIdeal.τ).loc Cert.OutBwdIdeal.main_v0_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v80) = v0 c
          ∧ r.2.mem ((c.tc : Thread Cert.OutBwdRefIdeal.nD Cert.OutBwdRefIdeal.τ).loc Cert.OutBwdRefIdeal.main_v60) = v1 c
          ∧ r.2.mem ((c.tc : Thread Cert.OutBwdRefIdeal.nD Cert.OutBwdRefIdeal.τ).loc Cert.OutBwdRefIdeal.main_v81) = v2 c
          ∧ r.2.mem ((c.tc : Thread Cert.OutBwdRefIdeal.nD Cert.OutBwdRefIdeal.τ).loc Cert.OutBwdRefIdeal.main_v82) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)) (v2 : (c : Dev Cert.OutFwdIdeal.nD) → Buf (Elt Ideal) ((c.tc : Thread Cert.OutFwdIdeal.nD Cert.OutFwdIdeal.τ).loc Cert.OutFwdIdeal.main_v0_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_v0_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v31) = v0 c
          ∧ r.2.mem ((c.tc : Thread Cert.OutFwdRefIdeal.nD Cert.OutFwdRefIdeal.τ).loc Cert.OutFwdRefIdeal.main_v32) = v1 c
          ∧ r.2.mem ((c.tc : Thread Cert.OutFwdRefIdeal.nD Cert.OutFwdRefIdeal.τ).loc Cert.OutFwdRefIdeal.main_v47) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0_0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v2_0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v2_0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v7) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v2_0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v2_0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v14) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0_0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0_0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v8) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)) →
    ∃ (v0 : (c : Dev Cert.UpBwdIdeal.nD) → Buf (Elt Ideal) ((c.tc : Thread Cert.UpBwdIdeal.nD Cert.UpBwdIdeal.τ).loc Cert.UpBwdIdeal.main_v2_0)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v2_0) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v6) = v0 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0_0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0_0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v6) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0_0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0_0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v7) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0_0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v6) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0_0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v4) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0_0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v3) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_Kernel_KernelIdeal : Prop :=
  IdealRules.named_const.Statement Cert.KernelIdeal.κ "c1" .f32 0x3D372713#32 ((8943 / 200000 : ℝ) : EReal)
  ∧ IdealRules.named_const.Statement Cert.KernelIdeal.κ "c3" .f32 0x3E095D4F#32 ((26829 / 200000 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hBiasFwd : Cert.BiasFwd.Facts) (hBiasFwdIdeal : Cert.BiasFwdIdeal.Facts) (hBiasFwdRefIdeal : Cert.BiasFwdRefIdeal.Facts) (hBiasBwd : Cert.BiasBwd.Facts) (hBiasBwdIdeal : Cert.BiasBwdIdeal.Facts) (hBiasBwdRefIdeal : Cert.BiasBwdRefIdeal.Facts) (hGateFwd : Cert.GateFwd.Facts) (hGateFwdIdeal : Cert.GateFwdIdeal.Facts) (hGateFwdRefIdeal : Cert.GateFwdRefIdeal.Facts) (hLossHead : Cert.LossHead.Facts) (hLossHeadIdeal : Cert.LossHeadIdeal.Facts) (hLossHeadRefIdeal : Cert.LossHeadRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hInBwd : Cert.InBwd.Facts) (hInBwdIdeal : Cert.InBwdIdeal.Facts) (hInBwdRefIdeal : Cert.InBwdRefIdeal.Facts) (hOutBwd : Cert.OutBwd.Facts) (hOutBwdIdeal : Cert.OutBwdIdeal.Facts) (hOutBwdRefIdeal : Cert.OutBwdRefIdeal.Facts) (hNormBwd : Cert.NormBwd.Facts) (hNormBwdIdeal : Cert.NormBwdIdeal.Facts) (hNormBwdRefIdeal : Cert.NormBwdRefIdeal.Facts) (hOutFwd : Cert.OutFwd.Facts) (hOutFwdIdeal : Cert.OutFwdIdeal.Facts) (hOutFwdRefIdeal : Cert.OutFwdRefIdeal.Facts) (hNormFwd : Cert.NormFwd.Facts) (hNormFwdIdeal : Cert.NormFwdIdeal.Facts) (hNormFwdRefIdeal : Cert.NormFwdRefIdeal.Facts) (hGradDown : Cert.GradDown.Facts) (hGradDownIdeal : Cert.GradDownIdeal.Facts) (hGradDownRefIdeal : Cert.GradDownRefIdeal.Facts) (hDownBwd : Cert.DownBwd.Facts) (hDownBwdIdeal : Cert.DownBwdIdeal.Facts) (hDownBwdRefIdeal : Cert.DownBwdRefIdeal.Facts) (hGradUp : Cert.GradUp.Facts) (hGradUpIdeal : Cert.GradUpIdeal.Facts) (hGradUpRefIdeal : Cert.GradUpRefIdeal.Facts) (hUpBwd : Cert.UpBwd.Facts) (hUpBwdIdeal : Cert.UpBwdIdeal.Facts) (hUpBwdRefIdeal : Cert.UpBwdRefIdeal.Facts) (hGradOut : Cert.GradOut.Facts) (hGradOutIdeal : Cert.GradOutIdeal.Facts) (hGradOutRefIdeal : Cert.GradOutRefIdeal.Facts) (hGradIn : Cert.GradIn.Facts) (hGradInIdeal : Cert.GradInIdeal.Facts) (hGradInRefIdeal : Cert.GradInRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hInFwd : Cert.InFwd.Facts) (hInFwdIdeal : Cert.InFwdIdeal.Facts) (hInFwdRefIdeal : Cert.InFwdRefIdeal.Facts) (hKernel : Cert.Kernel.Facts) (hKernelIdeal : Cert.KernelIdeal.Facts) (hReferenceIdeal : Cert.ReferenceIdeal.Facts) (hReference : Cert.Reference.Facts) (hPre_finite_table : Cert.Pre_finite_table.Facts) (hPre_finite_dbias : Cert.Pre_finite_dbias.Facts) (hPre_finite : Cert.Pre_finite.Facts),
    quiescent_BiasFwd (hBiasFwd := hBiasFwd)
    ∧ quiescent_BiasFwdIdeal (hBiasFwdIdeal := hBiasFwdIdeal)
    ∧ quiescent_BiasFwdIdeal_pre_finite_table (hBiasFwdIdeal := hBiasFwdIdeal) (hPre_finite_table := hPre_finite_table)
    ∧ quiescent_BiasFwdRefIdeal (hBiasFwdRefIdeal := hBiasFwdRefIdeal)
    ∧ quiescent_BiasFwdRefIdeal_pre_finite_table (hBiasFwdRefIdeal := hBiasFwdRefIdeal) (hPre_finite_table := hPre_finite_table)
    ∧ quiescent_BiasBwd (hBiasBwd := hBiasBwd)
    ∧ quiescent_BiasBwdIdeal (hBiasBwdIdeal := hBiasBwdIdeal)
    ∧ quiescent_BiasBwdIdeal_pre_finite_dbias (hBiasBwdIdeal := hBiasBwdIdeal) (hPre_finite_dbias := hPre_finite_dbias)
    ∧ quiescent_BiasBwdRefIdeal (hBiasBwdRefIdeal := hBiasBwdRefIdeal)
    ∧ quiescent_BiasBwdRefIdeal_pre_finite_dbias (hBiasBwdRefIdeal := hBiasBwdRefIdeal) (hPre_finite_dbias := hPre_finite_dbias)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_BiasFwd_BiasFwdIdeal
    ∧ algebraic_BiasFwdIdeal_BiasFwdRefIdeal_pre_finite_table (hBiasFwdIdeal := hBiasFwdIdeal) (hBiasFwdRefIdeal := hBiasFwdRefIdeal) (hPre_finite_table := hPre_finite_table)
    ∧ preserves_BiasBwd_BiasBwdIdeal
    ∧ algebraic_BiasBwdIdeal_BiasBwdRefIdeal_pre_finite_dbias (hBiasBwdIdeal := hBiasBwdIdeal) (hBiasBwdRefIdeal := hBiasBwdRefIdeal) (hPre_finite_dbias := hPre_finite_dbias)
    ∧ preserves_GateFwd_GateFwdIdeal
    ∧ algebraic_GateFwdIdeal_GateFwdRefIdeal (hGateFwdIdeal := hGateFwdIdeal) (hGateFwdRefIdeal := hGateFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_InBwd_InBwdIdeal
    ∧ algebraic_InBwdIdeal_InBwdRefIdeal (hInBwdIdeal := hInBwdIdeal) (hInBwdRefIdeal := hInBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_GradDown_GradDownIdeal
    ∧ algebraic_GradDownIdeal_GradDownRefIdeal (hGradDownIdeal := hGradDownIdeal) (hGradDownRefIdeal := hGradDownRefIdeal)
    ∧ preserves_DownBwd_DownBwdIdeal
    ∧ algebraic_DownBwdIdeal_DownBwdRefIdeal (hDownBwdIdeal := hDownBwdIdeal) (hDownBwdRefIdeal := hDownBwdRefIdeal)
    ∧ preserves_GradUp_GradUpIdeal
    ∧ algebraic_GradUpIdeal_GradUpRefIdeal (hGradUpIdeal := hGradUpIdeal) (hGradUpRefIdeal := hGradUpRefIdeal)
    ∧ preserves_UpBwd_UpBwdIdeal
    ∧ algebraic_UpBwdIdeal_UpBwdRefIdeal (hUpBwdIdeal := hUpBwdIdeal) (hUpBwdRefIdeal := hUpBwdRefIdeal)
    ∧ preserves_GradOut_GradOutIdeal
    ∧ algebraic_GradOutIdeal_GradOutRefIdeal (hGradOutIdeal := hGradOutIdeal) (hGradOutRefIdeal := hGradOutRefIdeal)
    ∧ preserves_GradIn_GradInIdeal
    ∧ algebraic_GradInIdeal_GradInRefIdeal (hGradInIdeal := hGradInIdeal) (hGradInRefIdeal := hGradInRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_InFwd_InFwdIdeal
    ∧ algebraic_InFwdIdeal_InFwdRefIdeal (hInFwdIdeal := hInFwdIdeal) (hInFwdRefIdeal := hInFwdRefIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S4096x3328 : Shape := ⟨2, ![4096, 3328]⟩
abbrev S4096x1024 : Shape := ⟨2, ![4096, 1024]⟩
abbrev S1x8x128 : Shape := ⟨3, ![1, 8, 128]⟩
abbrev S1x8x128x128 : Shape := ⟨4, ![1, 8, 128, 128]⟩
abbrev S_ : Shape := ⟨0, ![]⟩

class Facts : Prop where
  bcast_S_S4096x3328 : S_.BroadcastsInDim S4096x3328 (![] : Fin 0 → Fin S4096x3328.rank)
  bcast_S_S4096x1024 : S_.BroadcastsInDim S4096x1024 (![] : Fin 0 → Fin S4096x1024.rank)
  bcast_S_S1x8x128 : S_.BroadcastsInDim S1x8x128 (![] : Fin 0 → Fin S1x8x128.rank)
  bcast_S_S1x8x128x128 : S_.BroadcastsInDim S1x8x128x128 (![] : Fin 0 → Fin S1x8x128x128.rank)

variable [Facts]

def fn {F : FTy → Type} [FloatOps F] (main_arg0 : FVec F S4096x3328 .f32) (main_arg1 : FVec F S4096x1024 .f32) (main_arg2 : FVec F S1x8x128 .f32) (main_arg3 : FVec F S1x8x128 .f32) (main_arg4 : FVec F S1x8x128x128 .f32) (main_arg5 : FVec F S1x8x128 .f32) : IVec S4096x3328 1 × IVec S4096x1024 1 × IVec S1x8x128 1 × IVec S1x8x128 1 × IVec S1x8x128x128 1 × IVec S1x8x128 1 :=
  let main_v0 : FVec F S4096x3328 .f32 := Host.absf main_arg0
  let main_cst : FVec F S_ .f32 := constant S_ .f32 0x7F800000#32
  let main_v1 : FVec F S4096x3328 .f32 := broadcastInDim S4096x3328 ![] bcast_S_S4096x3328 main_cst
  let main_v2 : IVec S4096x3328 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x8x128 .f32 := Host.absf main_arg2
  let main_cst_1 : FVec F S_ .f32 := constant S_ .f32 0x7F800000#32
  let main_v7 : FVec F S1x8x128 .f32 := broadcastInDim S1x8x128 ![] bcast_S_S1x8x128 main_cst_1
  let main_v8 : IVec S1x8x128 1 := cmpf .olt main_v6 main_v7
  let main_v9 : FVec F S1x8x128 .f32 := Host.absf main_arg3
  let main_cst_2 : FVec F S_ .f32 := constant S_ .f32 0x7F800000#32
  let main_v10 : FVec F S1x8x128 .f32 := broadcastInDim S1x8x128 ![] bcast_S_S1x8x128 main_cst_2
  let main_v11 : IVec S1x8x128 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Pre_finite_dbias.lean ====
abbrev S16x256x128 : Shape := ⟨3, ![16, 256, 128]⟩
abbrev S32768x32 : Shape := ⟨2, ![32768, 32]⟩
abbrev S_ : Shape := ⟨0, ![]⟩

class Facts : Prop where
  bcast_S_S16x256x128 : S_.BroadcastsInDim S16x256x128 (![] : Fin 0 → Fin S16x256x128.rank)

variable [Facts]

def fn {F : FTy → Type} [FloatOps F] (main_arg0 : FVec F S16x256x128 .f32) (main_arg1 : FVec F S32768x32 .bf16) : IVec S16x256x128 1 :=
  let main_v0 : FVec F S16x256x128 .f32 := Host.absf main_arg0
  let main_cst : FVec F S_ .f32 := constant S_ .f32 0x7F800000#32
  let main_v1 : FVec F S16x256x128 .f32 := broadcastInDim S16x256x128 ![] bcast_S_S16x256x128 main_cst
  let main_v2 : IVec S16x256x128 1 := cmpf .olt main_v0 main_v1
  main_v2
-- ==== Pre_finite_table.lean ====
abbrev S32x16 : Shape := ⟨2, ![32, 16]⟩
abbrev S32768x32 : Shape := ⟨2, ![32768, 32]⟩
abbrev S_ : Shape := ⟨0, ![]⟩

class Facts : Prop where
  bcast_S_S32x16 : S_.BroadcastsInDim S32x16 (![] : Fin 0 → Fin S32x16.rank)

variable [Facts]

def fn {F : FTy → Type} [FloatOps F] (main_arg0 : FVec F S32x16 .f32) (main_arg1 : FVec F S32768x32 .bf16) (main_arg2 : FVec F S32768x32 .bf16) : IVec S32x16 1 :=
  let main_v0 : FVec F S32x16 .f32 := Host.absf main_arg0
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  main_v2
-- ==== BiasFwd.lean ====
abbrev S32x16 : Shape := ⟨2, ![32, 16]⟩
abbrev S32768x32 : Shape := ⟨2, ![32768, 32]⟩
abbrev S16x32 : Shape := ⟨2, ![16, 32]⟩
abbrev S32x32768 : Shape := ⟨2, ![32, 32768]⟩
abbrev S16x32768 : Shape := ⟨2, ![16, 32768]⟩
abbrev S8x128 : Shape := ⟨2, ![8, 128]⟩

abbrev nBuf : Space → Nat
  | .hbm => 9
  | .vmem => 6
  | .smem => 0
  | _ => 0

abbrev bufTy : (tb : Table) → Fin (tcTables nBuf tb) → BufTy
  | .hbm, ⟨0, _⟩ => ⟨S32x16, .f32⟩
  | .hbm, ⟨1, _⟩ => ⟨S32768x32, .bf16⟩
  | .hbm, ⟨2, _⟩ => ⟨S32768x32, .bf16⟩
  | .hbm, ⟨3, _⟩ => ⟨S16x32, .f32⟩
  | .hbm, ⟨4, _⟩ => ⟨S32x32768, .bf16⟩
  | .hbm, ⟨5, _⟩ => ⟨S32x32768, .bf16⟩
  | .hbm, ⟨6, _⟩ => ⟨S16x32768, .f32⟩
  | .hbm, ⟨7, _⟩ => ⟨S16x32768, .f32⟩
  | .hbm, ⟨8, _⟩ => ⟨S8x128, .f32⟩
  | .local _ .vmem, ⟨0, _⟩ => ⟨S16x32, .f32⟩
  | .local _ .vmem, ⟨1, _⟩ => ⟨S32x32768, .bf16⟩
  | .local _ .vmem, ⟨2, _⟩ => ⟨S32x32768, .bf16⟩
  | .local _ .vmem, ⟨3, _⟩ => ⟨S16x32768, .f32⟩
  | .local _ .vmem, ⟨4, _⟩ => ⟨S16x32768, .f32⟩
  | .local _ .vmem, ⟨5, _⟩ => ⟨S8x128, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== BiasFwdRefIdeal.lean ====
abbrev S32x16 : Shape := ⟨2, ![32, 16]⟩
abbrev S32768x32 : Shape := ⟨2, ![32768, 32]⟩
abbrev S32768x16 : Shape := ⟨2, ![32768, 16]⟩
abbrev S16x32768 : Shape := ⟨2, ![16, 32768]⟩

abbrev nBuf : Space → Nat
  | .hbm => 9
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32768x32, .bf16⟩
  | .hbm, ⟨2, _⟩ => ⟨S32768x32, .bf16⟩
  | .hbm, ⟨3, _⟩ => ⟨S32768x32, .f32⟩
  | .hbm, ⟨4, _⟩ => ⟨S32768x16, .f32⟩
  | .hbm, ⟨5, _⟩ => ⟨S16x32768, .f32⟩
  | .hbm, ⟨6, _⟩ => ⟨S32768x32, .f32⟩
  | .hbm, ⟨7, _⟩ => ⟨S32768x16, .f32⟩
  | .hbm, ⟨8, _⟩ => ⟨S16x32768, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BiasBwd.lean ====
abbrev S16x256x128 : Shape := ⟨3, ![16, 256, 128]⟩
abbrev S32768x32 : Shape := ⟨2, ![32768, 32]⟩
abbrev S16x32768 : Shape := ⟨2, ![16, 32768]⟩
abbrev S16x32 : Shape := ⟨2, ![16, 32]⟩
abbrev S8x128 : Shape := ⟨2, ![8, 128]⟩

abbrev nBuf : Space → Nat
  | .hbm => 5
  | .vmem => 4
  | .smem => 0
  | _ => 0

abbrev bufTy : (tb : Table) → Fin (tcTables nBuf tb) → BufTy
  | .hbm, ⟨0, _⟩ => ⟨S16x256x128, .f32⟩
  | .hbm, ⟨1, _⟩ => ⟨S32768x32, .bf16⟩
  | .hbm, ⟨2, _⟩ => ⟨S16x32768, .f32⟩
  | .hbm, ⟨3, _⟩ => ⟨S16x32, .f32⟩
  | .hbm, ⟨4, _⟩ => ⟨S8x128, .f32⟩
  | .local _ .vmem, ⟨0, _⟩ => ⟨S16x32768, .f32⟩
  | .local _ .vmem, ⟨1, _⟩ => ⟨S32768x32, .bf16⟩
  | .local _ .vmem, ⟨2, _⟩ => ⟨S16x32, .f32⟩
  | .local _ .vmem, ⟨3, _⟩ => ⟨S8x128, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BiasBwdRefIdeal.lean ====
abbrev S16x256x128 : Shape := ⟨3, ![16, 256, 128]⟩
abbrev S32768x32 : Shape := ⟨2, ![32768, 32]⟩
abbrev S_ : Shape := ⟨0, ![]⟩
abbrev S32x16 : Shape := ⟨2, ![32, 16]⟩
abbrev S32768x16 : Shape := ⟨2, ![32768, 16]⟩
abbrev S16x32768 : Shape := ⟨2, ![16, 32768]⟩
abbrev S16x32 : Shape := ⟨2, ![16, 32]⟩

abbrev nBuf : Space → Nat
  | .hbm => 13
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S32768x32, .bf16⟩
  | .hbm, ⟨2, _⟩ => ⟨S_, .f32⟩
  | .hbm, ⟨3, _⟩ => ⟨S32x16, .f32⟩
  | .hbm, ⟨4, _⟩ => ⟨S32768x32, .f32⟩
  | .hbm, ⟨5, _⟩ => ⟨S32768x16, .f32⟩
  | .hbm, ⟨6, _⟩ => ⟨S16x32768, .f32⟩
  | .hbm, ⟨7, _⟩ => ⟨S16x256x128, .f32⟩
  | .hbm, ⟨8, _⟩ => ⟨S16x32768, .f32⟩
  | .hbm, ⟨9, _⟩ => ⟨S32768x16, .f32⟩
  | .hbm, ⟨10, _⟩ => ⟨S16x32, .f32⟩
  | .hbm, ⟨11, _⟩ => ⟨S32x16, .f32⟩
  | .hbm, ⟨12, _⟩ => ⟨S16x32, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateFwd.lean ====
abbrev S4096x3328 : Shape := ⟨2, ![4096, 3328]⟩
abbrev S1x8x128 : Shape := ⟨3, ![1, 8, 128]⟩
abbrev S1x8x128x128 : Shape := ⟨4, ![1, 8, 128, 128]⟩
abbrev S1x1024 : Shape := ⟨2, ![1, 1024]⟩
abbrev S8x128 : Shape := ⟨2, ![8, 128]⟩
abbrev S128x8 : Shape := ⟨2, ![128, 8]⟩
abbrev S8x128x128 : Shape := ⟨3, ![8, 128, 128]⟩
abbrev S4096x1024 : Shape := ⟨2, ![4096, 1024]⟩
abbrev S512x1024 : Shape := ⟨2, ![512, 1024]⟩
abbrev S128x128 : Shape := ⟨2, ![128, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x3328, .f32⟩
  | .hbm, ⟨1, _⟩ => ⟨S1x8x128, .f32⟩
  | .hbm, ⟨2, _⟩ => ⟨S1x8x128, .f32⟩
  | .hbm, ⟨3, _⟩ => ⟨S1x8x128x128, .f32⟩
  | .hbm, ⟨4, _⟩ => ⟨S1x8x128, .f32⟩
  | .hbm, ⟨5, _⟩ => ⟨S1x1024, .f32⟩
  | .hbm, ⟨6, _⟩ => ⟨S1x1024, .f32⟩
  | .hbm, ⟨7, _⟩ => ⟨S8x128, .f32⟩
  | .hbm, ⟨8, _⟩ => ⟨S128x8, .f32⟩
  | .hbm, ⟨9, _⟩ => ⟨S8x128x128, .f32⟩
  | .hbm, ⟨10, _⟩ => ⟨S4096x1024, .f32⟩
  | .hbm, ⟨11, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateFwdIdeal.lean ====
variable {F : FTy → Type} [FloatOps F] [Named F]
def κ : String → Option EReal := fun
  | "c1" => some ((8943 / 200000 : ℝ) : EReal)
  | _ => none
-- ==== GateFwdRefIdeal.lean ====
abbrev S4096x3328 : Shape := ⟨2, ![4096, 3328]⟩
abbrev S1x8x128 : Shape := ⟨3, ![1, 8, 128]⟩
abbrev S1x8x128x128 : Shape := ⟨4, ![1, 8, 128, 128]⟩
abbrev S4096x1024 : Shape := ⟨2, ![4096, 1024]⟩
abbrev S4096x8x128 : Shape := ⟨3, ![4096, 8, 128]⟩
abbrev S8x128 : Shape := ⟨2, ![8, 128]⟩
abbrev S8x128x128 : Shape := ⟨3, ![8, 128, 128]⟩
abbrev S_ : Shape := ⟨0, ![]⟩
abbrev S4096x8 : Shape := ⟨2, ![4096, 8]⟩
abbrev S4096x8x1 : Shape := ⟨3, ![4096, 8, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S1x8x128, .f32⟩
  | .hbm, ⟨2, _⟩ => ⟨S1x8x128, .f32⟩
  | .hbm, ⟨3, _⟩ => ⟨S1x8x128x128, .f32⟩
  | .hbm, ⟨4, _⟩ => ⟨S1x8x128, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S8x128, .f32⟩
  | .hbm, ⟨10, _⟩ => ⟨S8x128, .f32⟩
  | .hbm, ⟨11, _⟩ => ⟨S8x128x128, .f32⟩
  | .hbm, ⟨12, _⟩ => ⟨S8x128, .f32⟩
  | .hbm, ⟨13, _⟩ => ⟨S_, .f32⟩
  | .hbm, ⟨14, _⟩ => ⟨S4096x8x128, .f32⟩
  | .hbm, ⟨15, _⟩ => ⟨S4096x8x128, .f32⟩
  | .hbm, ⟨16, _⟩ => ⟨S4096x8x128, .f32⟩
  | .hbm, ⟨17, _⟩ => ⟨S4096x8x128, .f32⟩
  | .hbm, ⟨18, _⟩ => ⟨S_, .f32⟩
  | .hbm, ⟨19, _⟩ => ⟨S4096x8x128, .f32⟩
  | .hbm, ⟨20, _⟩ => ⟨S4096x8x128, .f32⟩
  | .hbm, ⟨21, _⟩ => ⟨S_, .f32⟩
  | .hbm, ⟨22, _⟩ => ⟨S4096x8x128, .f32⟩
  | .hbm, ⟨23, _⟩ => ⟨S4096x8x128, .f32⟩
  | .hbm, ⟨24, _⟩ => ⟨S4096x8x128, .f32⟩
  | .hbm, ⟨25, _⟩ => ⟨S_, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S_, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S_, .f32⟩
  | .hbm, ⟨34, _⟩ => ⟨S4096x8x128, .f32⟩
  | .hbm, ⟨35, _⟩ => ⟨S4096x8x128, .f32⟩
  | .hbm, ⟨36, _⟩ => ⟨S4096x8x128, .f32⟩
  | .hbm, ⟨37, _⟩ => ⟨S4096x8x128, .f32⟩
  | .hbm, ⟨38, _⟩ => ⟨S_, .f32⟩
  | .hbm, ⟨39, _⟩ => ⟨S4096x8x128, .f32⟩
  | .hbm, ⟨40, _⟩ => ⟨S4096x8x128, .f32⟩
  | .hbm, ⟨41, _⟩ => ⟨S_, .f32⟩
  | .hbm, ⟨42, _⟩ => ⟨S4096x8x128, .f32⟩
  | .hbm, ⟨43, _⟩ => ⟨S4096x8x128, .f32⟩
  | .hbm, ⟨44, _⟩ => ⟨S4096x8x128, .f32⟩
  | .hbm, ⟨45, _⟩ => ⟨S_, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S_, .f32⟩
  | .hbm, ⟨50, _⟩ => ⟨S4096x8x128, .f32⟩
  | .hbm, ⟨51, _⟩ => ⟨S4096x8x128, .f32⟩
  | .hbm, ⟨52, _⟩ => ⟨S4096x8x128, .f32⟩
  | .hbm, ⟨53, _⟩ => ⟨S_, .f32⟩
  | .hbm, ⟨54, _⟩ => ⟨S4096x8, .f32⟩
  | .hbm, ⟨55, _⟩ => ⟨S4096x8x1, .f32⟩
  | .hbm, ⟨56, _⟩ => ⟨S_, .f32⟩
  | .hbm, ⟨57, _⟩ => ⟨S4096x8x1, .f32⟩
  | .hbm, ⟨58, _⟩ => ⟨S4096x8x1, .f32⟩
  | .hbm, ⟨59, _⟩ => ⟨S4096x8x128, .f32⟩
  | .hbm, ⟨60, _⟩ => ⟨S4096x8x128, .f32⟩
  | .hbm, ⟨61, _⟩ => ⟨S4096x8x128, .f32⟩
  | .hbm, ⟨62, _⟩ => ⟨S_, .f32⟩
  | .hbm, ⟨63, _⟩ => ⟨S4096x8, .f32⟩
  | .hbm, ⟨64, _⟩ => ⟨S4096x8x1, .f32⟩
  | .hbm, ⟨65, _⟩ => ⟨S_, .f32⟩
  | .hbm, ⟨66, _⟩ => ⟨S4096x8x1, .f32⟩
  | .hbm, ⟨67, _⟩ => ⟨S4096x8x1, .f32⟩
  | .hbm, ⟨68, _⟩ => ⟨S_, .f32⟩
  | .hbm, ⟨69, _⟩ => ⟨S4096x8x1, .f32⟩
  | .hbm, ⟨70, _⟩ => ⟨S4096x8x1, .f32⟩
  | .hbm, ⟨71, _⟩ => ⟨S4096x8x1, .f32⟩
  | .hbm, ⟨72, _⟩ => ⟨S4096x8x128, .f32⟩
  | .hbm, ⟨73, _⟩ => ⟨S4096x8x128, .f32⟩
  | .hbm, ⟨74, _⟩ => ⟨S1x8x128, .f32⟩
  | .hbm, ⟨75, _⟩ => ⟨S4096x8x128, .f32⟩
  | .hbm, ⟨76, _⟩ => ⟨S4096x8x128, .f32⟩
  | .hbm, ⟨77, _⟩ => ⟨S1x8x128, .f32⟩
  | .hbm, ⟨78, _⟩ => ⟨S4096x8x128, .f32⟩
  | .hbm, ⟨79, _⟩ => ⟨S4096x8x128, .f32⟩
  | .hbm, ⟨80, _⟩ => ⟨S32x128x8x128, .f32⟩
  | .hbm, ⟨81, _⟩ => ⟨S_, .i1⟩
  | .hbm, ⟨82, _⟩ => ⟨S128x128, .i1⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S_, .i1⟩
  | .hbm, ⟨90, _⟩ => ⟨S128x128, .i1⟩
  | .hbm, ⟨91, _⟩ => ⟨S128x128, .i1⟩
  | .hbm, ⟨92, _⟩ => ⟨S1x128x128, .i1⟩
  | .hbm, ⟨93, _⟩ => ⟨S_, .f32⟩
  | .hbm, ⟨94, _⟩ => ⟨S8x128x128, .f32⟩
  | .hbm, ⟨95, _⟩ => ⟨S8x128x128, .i1⟩
  | .hbm, ⟨96, _⟩ => ⟨S8x128x128, .f32⟩
  | .hbm, ⟨97, _⟩ => ⟨S8x32x128x128, .f32⟩
  | .hbm, ⟨98, _⟩ => ⟨S32x128x8x128, .f32⟩
  | .hbm, ⟨99, _⟩ => ⟨S128x8, .f32⟩
  | .hbm, ⟨100, _⟩ => ⟨S1x128x8x1, .f32⟩
  | .hbm, ⟨101, _⟩ => ⟨S32x128x8x128, .f32⟩
  | .hbm, ⟨102, _⟩ => ⟨S32x128x8x128, .f32⟩
  | .hbm, ⟨103, _⟩ => ⟨S4096x8x128, .f32⟩
  | .hbm, ⟨104, _⟩ => ⟨S4096x8x128, .f32⟩
  | .hbm, ⟨105, _⟩ => ⟨S4096x1024, .f32⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c : Ref sig .tc := ⟨.hbm, 81, rfl⟩
abbrev main_v61 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x1 : Shape := ⟨2, ![1, 1]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x1, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x1, .f32⟩
  | .hbm, ⟨73, _⟩ => ⟨S1x2048, .f32⟩
  | .hbm, ⟨74, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== AdamOut.lean ====
abbrev S4x256x2048 : Shape := ⟨3, ![4, 256, 2048]⟩
abbrev S3x256x2048 : Shape := ⟨3, ![3, 256, 2048]⟩
abbrev S256x2048 : Shape := ⟨2, ![256, 2048]⟩
abbrev S8x128 : Shape := ⟨2, ![8, 128]⟩
abbrev S1x256x2048 : Shape := ⟨3, ![1, 256, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S8x128, .f32⟩
  | .local _ .vmem, ⟨0, _⟩ => ⟨S1x256x2048, .bf16⟩
  | .local _ .vmem, ⟨1, _⟩ => ⟨S3x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamOutIdeal.lean ====
abbrev S4x256x2048 : Shape := ⟨3, ![4, 256, 2048]⟩
abbrev S3x256x2048 : Shape := ⟨3, ![3, 256, 2048]⟩
abbrev S256x2048 : Shape := ⟨2, ![256, 2048]⟩
abbrev S8x128 : Shape := ⟨2, ![8, 128]⟩
abbrev S1x256x2048 : Shape := ⟨3, ![1, 256, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S8x128, .f32⟩
  | .local _ .vmem, ⟨0, _⟩ => ⟨S1x256x2048, .bf16⟩
  | .local _ .vmem, ⟨1, _⟩ => ⟨S3x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamOutRefIdeal.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S3x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamUp.lean ====
abbrev S4x2048x1024 : Shape := ⟨3, ![4, 2048, 1024]⟩
abbrev S3x2048x1024 : Shape := ⟨3, ![3, 2048, 1024]⟩
abbrev S2048x1024 : Shape := ⟨2, ![2048, 1024]⟩
abbrev S8x128 : Shape := ⟨2, ![8, 128]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S8x128, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S8x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamUpIdeal.lean ====
abbrev S4x2048x1024 : Shape := ⟨3, ![4, 2048, 1024]⟩
abbrev S3x2048x1024 : Shape := ⟨3, ![3, 2048, 1024]⟩
abbrev S2048x1024 : Shape := ⟨2, ![2048, 1024]⟩
abbrev S8x128 : Shape := ⟨2, ![8, 128]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S8x128, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S8x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamUpRefIdeal.lean ====
abbrev S4x2048x1024 : Shape := ⟨3, ![4, 2048, 1024]⟩
abbrev S3x2048x1024 : Shape := ⟨3, ![3, 2048, 1024]⟩
abbrev S2048x1024 : Shape := ⟨2, ![2048, 1024]⟩
abbrev S1x2048x1024 : Shape := ⟨3, ![1, 2048, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S3x2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamDown.lean ====
abbrev S4x1024x2048 : Shape := ⟨3, ![4, 1024, 2048]⟩
abbrev S3x1024x2048 : Shape := ⟨3, ![3, 1024, 2048]⟩
abbrev S1024x2048 : Shape := ⟨2, ![1024, 2048]⟩
abbrev S8x128 : Shape := ⟨2, ![8, 128]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 10
  | .vmem => 19
  | .smem => 0
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S8x128, .f32⟩
  | .local _ .vmem, ⟨0, _⟩ => ⟨S1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S3x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S8x128, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamDownRefIdeal.lean ====
abbrev S4x1024x2048 : Shape := ⟨3, ![4, 1024, 2048]⟩
abbrev S3x1024x2048 : Shape := ⟨3, ![3, 1024, 2048]⟩
abbrev S1024x2048 : Shape := ⟨2, ![1024, 2048]⟩
abbrev S1x1024x2048 : Shape := ⟨3, ![1, 1024, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1x1024x2048, .bf16⟩
  | .hbm, ⟨6, _⟩ => ⟨S1024x2048, .bf16⟩
  | .hbm, ⟨7, _⟩ => ⟨S1024x2048, .f32⟩
  | .hbm, ⟨8, _⟩ => ⟨S3x1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamIn.lean ====
abbrev S4x416x2048 : Shape := ⟨3, ![4, 416, 2048]⟩
abbrev S3x416x2048 : Shape := ⟨3, ![3, 416, 2048]⟩
abbrev S2048x416 : Shape := ⟨2, ![2048, 416]⟩
abbrev S416x2048 : Shape := ⟨2, ![416, 2048]⟩
abbrev S8x128 : Shape := ⟨2, ![8, 128]⟩
abbrev S1x208x2048 : Shape := ⟨3, ![1, 208, 2048]⟩
abbrev S3x208x2048 : Shape := ⟨3, ![3, 208, 2048]⟩
abbrev S208x2048 : Shape := ⟨2, ![208, 2048]⟩

abbrev nBuf : Space → Nat
  | .hbm => 13
  | .vmem => 19
  | .smem => 0
  | _ => 0

abbrev bufTy : (tb : Table) → Fin (tcTables nBuf tb) → BufTy
  | .hbm, ⟨0, _⟩ => ⟨S4x416x2048, .bf16⟩
  | .hbm, ⟨1, _⟩ => ⟨S3x416x2048, .bf16⟩
  | .hbm, ⟨2, _⟩ => ⟨S2048x416, .f32⟩
  | .hbm, ⟨3, _⟩ => ⟨S2048x416, .f32⟩
  | .hbm, ⟨4, _⟩ => ⟨S2048x416, .f32⟩
  | .hbm, ⟨5, _⟩ => ⟨S416x2048, .f32⟩
  | .hbm, ⟨6, _⟩ => ⟨S416x2048, .f32⟩
  | .hbm, ⟨7, _⟩ => ⟨S416x2048, .f32⟩
  | .hbm, ⟨8, _⟩ => ⟨S416x2048, .f32⟩
  | .hbm, ⟨9, _⟩ => ⟨S416x2048, .f32⟩
  | .hbm, ⟨10, _⟩ => ⟨S416x2048, .f32⟩
  | .hbm, ⟨11, _⟩ => ⟨S416x2048, .f32⟩
  | .hbm, ⟨12, _⟩ => ⟨S8x128, .f32⟩
  | .local _ .vmem, ⟨0, _⟩ => ⟨S1x208x2048, .bf16⟩
  | .local _ .vmem, ⟨1, _⟩ => ⟨S1x208x2048, .bf16⟩
  | .local _ .vmem, ⟨2, _⟩ => ⟨S3x208x2048, .bf16⟩
  | .local _ .vmem, ⟨3, _⟩ => ⟨S3x208x2048, .bf16⟩
  | .local _ .vmem, ⟨4, _⟩ => ⟨S208x2048, .f32⟩
  | .local _ .vmem, ⟨5, _⟩ => ⟨S208x2048, .f32⟩
  | .local _ .vmem, ⟨6, _⟩ => ⟨S208x2048, .f32⟩
  | .local _ .vmem, ⟨7, _⟩ => ⟨S208x2048, .f32⟩
  | .local _ .vmem, ⟨8, _⟩ => ⟨S208x2048, .f32⟩
  | .local _ .vmem, ⟨9, _⟩ => ⟨S208x2048, .f32⟩
  | .local _ .vmem, ⟨10, _⟩ => ⟨S208x2048, .f32⟩
  | .local _ .vmem, ⟨11, _⟩ => ⟨S208x2048, .f32⟩
  | .local _ .vmem, ⟨12, _⟩ => ⟨S208x2048, .f32⟩
  | .local _ .vmem, ⟨13, _⟩ => ⟨S208x2048, .f32⟩
  | .local _ .vmem, ⟨14, _⟩ => ⟨S208x2048, .f32⟩
  | .local _ .vmem, ⟨15, _⟩ => ⟨S208x2048, .f32⟩
  | .local _ .vmem, ⟨16, _⟩ => ⟨S208x2048, .f32⟩
  | .local _ .vmem, ⟨17, _⟩ => ⟨S208x2048, .f32⟩
  | .local _ .vmem, ⟨18, _⟩ => ⟨S8x128, .f32⟩
  | _, _ => ⟨S4x416x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x208x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x208x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S208x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamInRefIdeal.lean ====
abbrev S4x416x2048 : Shape := ⟨3, ![4, 416, 2048]⟩
abbrev S3x416x2048 : Shape := ⟨3, ![3, 416, 2048]⟩
abbrev S2048x416 : Shape := ⟨2, ![2048, 416]⟩
abbrev S1x416x2048 : Shape := ⟨3, ![1, 416, 2048]⟩
abbrev S416x2048 : Shape := ⟨2, ![416, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x416x2048, .bf16⟩
  | .hbm, ⟨1, _⟩ => ⟨S3x416x2048, .bf16⟩
  | .hbm, ⟨2, _⟩ => ⟨S2048x416, .f32⟩
  | .hbm, ⟨3, _⟩ => ⟨S2048x416, .f32⟩
  | .hbm, ⟨4, _⟩ => ⟨S2048x416, .f32⟩
  | .hbm, ⟨5, _⟩ => ⟨S1x416x2048, .bf16⟩
  | .hbm, ⟨6, _⟩ => ⟨S416x2048, .bf16⟩
  | .hbm, ⟨7, _⟩ => ⟨S416x2048, .f32⟩
  | .hbm, ⟨8, _⟩ => ⟨S3x416x2048, .f32⟩
  | .hbm, ⟨9, _⟩ => ⟨S_, .f32⟩
  | .hbm, ⟨10, _⟩ => ⟨S416x2048, .f32⟩
  | .hbm, ⟨11, _⟩ => ⟨S416x2048, .f32⟩
  | .hbm, ⟨12, _⟩ => ⟨S2048x416, .f32⟩
  | .hbm, ⟨13, _⟩ => ⟨S_, .f32⟩
  | .hbm, ⟨14, _⟩ => ⟨S2048x416, .f32⟩
  | .hbm, ⟨15, _⟩ => ⟨S2048x416, .f32⟩
  | .hbm, ⟨16, _⟩ => ⟨S_, .f32⟩
  | .hbm, ⟨17, _⟩ => ⟨S2048x416, .f32⟩
  | .hbm, ⟨18, _⟩ => ⟨S2048x416, .f32⟩
  | .hbm, ⟨19, _⟩ => ⟨S2048x416, .f32⟩
  | .hbm, ⟨20, _⟩ => ⟨S_, .f32⟩
  | .hbm, ⟨21, _⟩ => ⟨S2048x416, .f32⟩
  | .hbm, ⟨22, _⟩ => ⟨S2048x416, .f32⟩
  | .hbm, ⟨23, _⟩ => ⟨S2048x416, .f32⟩
  | .hbm, ⟨24, _⟩ => ⟨S_, .f32⟩
  | .hbm, ⟨25, _⟩ => ⟨S2048x416, .f32⟩
  | .hbm, ⟨26, _⟩ => ⟨S2048x416, .f32⟩
  | .hbm, ⟨27, _⟩ => ⟨S2048x416, .f32⟩
  | .hbm, ⟨28, _⟩ => ⟨S_, .f32⟩
  | .hbm, ⟨29, _⟩ => ⟨S2048x416, .f32⟩
  | .hbm, ⟨30, _⟩ => ⟨S2048x416, .f32⟩
  | .hbm, ⟨31, _⟩ => ⟨S_, .f32⟩
  | .hbm, ⟨32, _⟩ => ⟨S2048x416, .f32⟩
  | .hbm, ⟨33, _⟩ => ⟨S2048x416, .f32⟩
  | .hbm, ⟨34, _⟩ => ⟨S2048x416, .f32⟩
  | .hbm, ⟨35, _⟩ => ⟨S_, .f32⟩
  | .hbm, ⟨36, _⟩ => ⟨S2048x416, .f32⟩
  | .hbm, ⟨37, _⟩ => ⟨S2048x416, .f32⟩
  | .hbm, ⟨38, _⟩ => ⟨S2048x416, .f32⟩
  | .hbm, ⟨39, _⟩ => ⟨S_, .f32⟩
  | .hbm, ⟨40, _⟩ => ⟨S2048x416, .f32⟩
  | .hbm, ⟨41, _⟩ => ⟨S2048x416, .f32⟩
  | .hbm, ⟨42, _⟩ => ⟨S2048x416, .f32⟩
  | .hbm, ⟨43, _⟩ => ⟨S_, .f32⟩
  | .hbm, ⟨44, _⟩ => ⟨S2048x416, .f32⟩
  | .hbm, ⟨45, _⟩ => ⟨S2048x416, .f32⟩
  | .hbm, ⟨46, _⟩ => ⟨S416x2048, .f32⟩
  | .hbm, ⟨47, _⟩ => ⟨S416x2048, .f32⟩
  | .hbm, ⟨48, _⟩ => ⟨S416x2048, .f32⟩
  | .hbm, ⟨49, _⟩ => ⟨S416x2048, .f32⟩
  | _, _ => ⟨S4x416x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== InBwd.lean ====
abbrev S4096x3328 : Shape := ⟨2, ![4096, 3328]⟩
abbrev S3328x2048 : Shape := ⟨2, ![3328, 2048]⟩
abbrev S4096x2048 : Shape := ⟨2, ![4096, 2048]⟩
abbrev S1x2048 : Shape := ⟨2, ![1, 2048]⟩
abbrev S8x128 : Shape := ⟨2, ![8, 128]⟩
abbrev S512x3328 : Shape := ⟨2, ![512, 3328]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x3328, .bf16⟩
  | .hbm, ⟨1, _⟩ => ⟨S3328x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S8x128, .f32⟩
  | .local _ .vmem, ⟨0, _⟩ => ⟨S512x3328, .bf16⟩
  | .local _ .vmem, ⟨1, _⟩ => ⟨S512x3328, .bf16⟩
  | .local _ .vmem, ⟨2, _⟩ => ⟨S3328x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S8x128, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdRefIdeal.lean ====
abbrev S4096x3328 : Shape := ⟨2, ![4096, 3328]⟩
abbrev S3328x2048 : Shape := ⟨2, ![3328, 2048]⟩
abbrev S4096x2048 : Shape := ⟨2, ![4096, 2048]⟩
abbrev S1x2048 : Shape := ⟨2, ![1, 2048]⟩
abbrev S2048x3328 : Shape := ⟨2, ![2048, 3328]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S3328x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x3328, .bf16⟩
  | .hbm, ⟨6, _⟩ => ⟨S2048x3328, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x3328, .f32⟩
  | .hbm, ⟨29, _⟩ => ⟨S4096x3328, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S1x2048, .f32⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== OutBwd.lean ====
abbrev S4096x2048 : Shape := ⟨2, ![4096, 2048]⟩
abbrev S2048x2048 : Shape := ⟨2, ![2048, 2048]⟩
abbrev S4096x1024 : Shape := ⟨2, ![4096, 1024]⟩
abbrev S1x1024 : Shape := ⟨2, ![1, 1024]⟩
abbrev S8x128 : Shape := ⟨2, ![8, 128]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutBwdRefIdeal.lean ====
abbrev S4096x2048 : Shape := ⟨2, ![4096, 2048]⟩
abbrev S2048x2048 : Shape := ⟨2, ![2048, 2048]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x2048, .f32⟩
  | .hbm, ⟨49, _⟩ => ⟨S2048x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== OutFwd.lean ====
abbrev S4096x1024 : Shape := ⟨2, ![4096, 1024]⟩
abbrev S1x1024 : Shape := ⟨2, ![1, 1024]⟩
abbrev S4096x2048 : Shape := ⟨2, ![4096, 2048]⟩
abbrev S2048x2048 : Shape := ⟨2, ![2048, 2048]⟩
abbrev S1x2048 : Shape := ⟨2, ![1, 2048]⟩
abbrev S8x128 : Shape := ⟨2, ![8, 128]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x2048, .f32⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutFwdRefIdeal.lean ====
abbrev S4096x1024 : Shape := ⟨2, ![4096, 1024]⟩
abbrev S1x1024 : Shape := ⟨2, ![1, 1024]⟩
abbrev S4096x2048 : Shape := ⟨2, ![4096, 2048]⟩
abbrev S2048x2048 : Shape := ⟨2, ![2048, 2048]⟩
abbrev S1x2048 : Shape := ⟨2, ![1, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x2048, .f32⟩
  | .hbm, ⟨5, _⟩ => ⟨S2048x2048, .bf16⟩
  | .hbm, ⟨6, _⟩ => ⟨S1x2048, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x2048, .f32⟩
  | .hbm, ⟨42, _⟩ => ⟨S2048x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | .hbm, ⟨46, _⟩ => ⟨S2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S1x2048, .f32⟩
  | .hbm, ⟨61, _⟩ => ⟨S4096x2048, .f32⟩
  | .hbm, ⟨62, _⟩ => ⟨S4096x2048, .f32⟩
  | .hbm, ⟨63, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GradDown.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S8x128 : Shape := ⟨2, ![8, 128]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .bf16⟩
  | .hbm, ⟨6, _⟩ => ⟨S8192x2048, .bf16⟩
  | .hbm, ⟨7, _⟩ => ⟨S8x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradDownRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DownBwd.lean ====
abbrev S4096x8192 : Shape := ⟨2, ![4096, 8192]⟩
abbrev S4096x2048 : Shape := ⟨2, ![4096, 2048]⟩
abbrev S8192x2048 : Shape := ⟨2, ![8192, 2048]⟩
abbrev S_ : Shape := ⟨0, ![]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S8192x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .hbm, ⟨8, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== DownBwdRefIdeal.lean ====
abbrev S4096x8192 : Shape := ⟨2, ![4096, 8192]⟩
abbrev S4096x2048 : Shape := ⟨2, ![4096, 2048]⟩
abbrev S8192x2048 : Shape := ⟨2, ![8192, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S8192x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S8192x2048, .f32⟩
  | .hbm, ⟨13, _⟩ => ⟨S4096x2048, .f32⟩
  | .hbm, ⟨14, _⟩ => ⟨S4096x2048, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== GradUp.lean ====
abbrev S4096x2048 : Shape := ⟨2, ![4096, 2048]⟩
abbrev S4096x8192 : Shape := ⟨2, ![4096, 8192]⟩
abbrev S8x2048x1024 : Shape := ⟨3, ![8, 2048, 1024]⟩
abbrev S8x128 : Shape := ⟨2, ![8, 128]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .hbm, ⟨3, _⟩ => ⟨S8x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpBwd.lean ====
abbrev S4096x8192 : Shape := ⟨2, ![4096, 8192]⟩
abbrev S8x2048x1024 : Shape := ⟨3, ![8, 2048, 1024]⟩
abbrev S8x1024x2048 : Shape := ⟨3, ![8, 1024, 2048]⟩
abbrev S8192x2048 : Shape := ⟨2, ![8192, 2048]⟩
abbrev S4096x2048 : Shape := ⟨2, ![4096, 2048]⟩
abbrev S8x128 : Shape := ⟨2, ![8, 128]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S8x1024x2048, .bf16⟩
  | .hbm, ⟨3, _⟩ => ⟨S8192x2048, .bf16⟩
  | .hbm, ⟨4, _⟩ => ⟨S4096x2048, .f32⟩
  | .hbm, ⟨5, _⟩ => ⟨S8x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== UpBwdRefIdeal.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S4096x2048 : Shape := ⟨2, ![4096, 2048]⟩
abbrev S2048x2048 : Shape := ⟨2, ![2048, 2048]⟩
abbrev S8x128 : Shape := ⟨2, ![8, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S8x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradIn.lean ====
abbrev S4096x3328 : Shape := ⟨2, ![4096, 3328]⟩
abbrev S4096x2048 : Shape := ⟨2, ![4096, 2048]⟩
abbrev S3328x2048 : Shape := ⟨2, ![3328, 2048]⟩
abbrev S8x128 : Shape := ⟨2, ![8, 128]⟩
abbrev S4096x1664 : Shape := ⟨2, ![4096, 1664]⟩
abbrev S4096x512 : Shape := ⟨2, ![4096, 512]⟩
abbrev S1664x512 : Shape := ⟨2, ![1664, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x3328, .bf16⟩
  | .hbm, ⟨1, _⟩ => ⟨S4096x2048, .bf16⟩
  | .hbm, ⟨2, _⟩ => ⟨S3328x2048, .bf16⟩
  | .hbm, ⟨3, _⟩ => ⟨S8x128, .f32⟩
  | .local _ .vmem, ⟨0, _⟩ => ⟨S4096x1664, .bf16⟩
  | .local _ .vmem, ⟨1, _⟩ => ⟨S4096x1664, .bf16⟩
  | .local _ .vmem, ⟨2, _⟩ => ⟨S4096x512, .bf16⟩
  | .local _ .vmem, ⟨3, _⟩ => ⟨S4096x512, .bf16⟩
  | .local _ .vmem, ⟨4, _⟩ => ⟨S1664x512, .bf16⟩
  | .local _ .vmem, ⟨5, _⟩ => ⟨S1664x512, .bf16⟩
  | .local _ .vmem, ⟨6, _⟩ => ⟨S8x128, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradInRefIdeal.lean ====
abbrev S4096x3328 : Shape := ⟨2, ![4096, 3328]⟩
abbrev S4096x2048 : Shape := ⟨2, ![4096, 2048]⟩
abbrev S_ : Shape := ⟨0, ![]⟩
abbrev S2048x3328 : Shape := ⟨2, ![2048, 3328]⟩
abbrev S3328x2048 : Shape := ⟨2, ![3328, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S4096x2048, .bf16⟩
  | .hbm, ⟨2, _⟩ => ⟨S_, .f32⟩
  | .hbm, ⟨3, _⟩ => ⟨S2048x3328, .f32⟩
  | .hbm, ⟨4, _⟩ => ⟨S4096x2048, .f32⟩
  | .hbm, ⟨5, _⟩ => ⟨S4096x3328, .f32⟩
  | .hbm, ⟨6, _⟩ => ⟨S4096x3328, .f32⟩
  | .hbm, ⟨7, _⟩ => ⟨S3328x2048, .f32⟩
  | .hbm, ⟨8, _⟩ => ⟨S2048x3328, .f32⟩
  | .hbm, ⟨9, _⟩ => ⟨S3328x2048, .f32⟩
  | .hbm, ⟨10, _⟩ => ⟨S3328x2048, .bf16⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpFwd.lean ====
abbrev S4096x2048 : Shape := ⟨2, ![4096, 2048]⟩
abbrev S8x2048x1024 : Shape := ⟨3, ![8, 2048, 1024]⟩
abbrev S4096x8192 : Shape := ⟨2, ![4096, 8192]⟩
abbrev S8x128 : Shape := ⟨2, ![8, 128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== UpFwdRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownFwd.lean ====
abbrev S4096x2048 : Shape := ⟨2, ![4096, 2048]⟩
abbrev S4096x8192 : Shape := ⟨2, ![4096, 8192]⟩
abbrev S8192x2048 : Shape := ⟨2, ![8192, 2048]⟩
abbrev S8x128 : Shape := ⟨2, ![8, 128]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .bf16⟩
  | .hbm, ⟨3, _⟩ => ⟨S4096x2048, .f32⟩
  | .hbm, ⟨4, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x4096, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== DownFwdRefIdeal.lean ====
abbrev S4096x2048 : Shape := ⟨2, ![4096, 2048]⟩
abbrev S4096x8192 : Shape := ⟨2, ![4096, 8192]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .bf16⟩
  | .hbm, ⟨3, _⟩ => ⟨S4096x8192, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S4096x2048 : Shape := ⟨2, ![4096, 2048]⟩
abbrev S3328x2048 : Shape := ⟨2, ![3328, 2048]⟩
abbrev S4096x3328 : Shape := ⟨2, ![4096, 3328]⟩
abbrev S8x128 : Shape := ⟨2, ![8, 128]⟩
abbrev S512x2048 : Shape := ⟨2, ![512, 2048]⟩
abbrev S512x3328 : Shape := ⟨2, ![512, 3328]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3328x2048, .bf16⟩
  | .hbm, ⟨2, _⟩ => ⟨S4096x3328, .f32⟩
  | .hbm, ⟨3, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S3328x2048, .bf16⟩
  | .local _ .vmem, ⟨3, _⟩ => ⟨S512x3328, .f32⟩
  | .local _ .vmem, ⟨4, _⟩ => ⟨S512x3328, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== InFwdRefIdeal.lean ====
abbrev S4096x2048 : Shape := ⟨2, ![4096, 2048]⟩
abbrev S3328x2048 : Shape := ⟨2, ![3328, 2048]⟩
abbrev S2048x3328 : Shape := ⟨2, ![2048, 3328]⟩
abbrev S4096x3328 : Shape := ⟨2, ![4096, 3328]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3328x2048, .bf16⟩
  | .hbm, ⟨2, _⟩ => ⟨S4096x2048, .f32⟩
  | .hbm, ⟨3, _⟩ => ⟨S2048x3328, .bf16⟩
  | .hbm, ⟨4, _⟩ => ⟨S2048x3328, .f32⟩
  | .hbm, ⟨5, _⟩ => ⟨S4096x3328, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel.lean ====
abbrev S4096x3328 : Shape := ⟨2, ![4096, 3328]⟩
abbrev S4096x1024 : Shape := ⟨2, ![4096, 1024]⟩
abbrev S1x8x128 : Shape := ⟨3, ![1, 8, 128]⟩
abbrev S1x8x128x128 : Shape := ⟨4, ![1, 8, 128, 128]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S4096x2048 : Shape := ⟨2, ![4096, 2048]⟩
abbrev S512x1024 : Shape := ⟨2, ![512, 1024]⟩
abbrev S512x2048 : Shape := ⟨2, ![512, 2048]⟩
abbrev S128x128 : Shape := ⟨2, ![128, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S128 : Shape := ⟨1, ![128]⟩

abbrev nBuf : Space → Nat
  | .hbm => 18
  | .vmem => 18
  | .smem => 0
  | _ => 0

abbrev bufTy : (tb : Table) → Fin (tcTables nBuf tb) → BufTy
  | .hbm, ⟨0, _⟩ => ⟨S4096x3328, .f32⟩
  | .hbm, ⟨1, _⟩ => ⟨S4096x1024, .f32⟩
  | .hbm, ⟨2, _⟩ => ⟨S1x8x128, .f32⟩
  | .hbm, ⟨3, _⟩ => ⟨S1x8x128, .f32⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S8x128x128, .f32⟩
  | .hbm, ⟨10, _⟩ => ⟨S8x128, .f32⟩
  | .hbm, ⟨11, _⟩ => ⟨S128x8, .f32⟩
  | .hbm, ⟨12, _⟩ => ⟨S4096x2048, .bf16⟩
  | .hbm, ⟨13, _⟩ => ⟨S1x1024, .f32⟩
  | .hbm, ⟨14, _⟩ => ⟨S1x1024, .f32⟩
  | .hbm, ⟨15, _⟩ => ⟨S8x128x128, .f32⟩
  | .hbm, ⟨16, _⟩ => ⟨S128x8, .f32⟩
  | .hbm, ⟨17, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S128x8, .f32⟩
  | .local _ .vmem, ⟨11, _⟩ => ⟨S512x2048, .bf16⟩
  | .local _ .vmem, ⟨12, _⟩ => ⟨S512x2048, .bf16⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x8, .f32⟩
  | .local _ .vmem, ⟨17, _⟩ => ⟨S8x128, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "c1" => some ((8943 / 200000 : ℝ) : EReal)
  | "c3" => some ((26829 / 200000 : ℝ) : EReal)
  | _ => none
-- ==== Reference.lean ====
abbrev S4096x3328 : Shape := ⟨2, ![4096, 3328]⟩
abbrev S4096x1024 : Shape := ⟨2, ![4096, 1024]⟩
abbrev S1x8x128 : Shape := ⟨3, ![1, 8, 128]⟩
abbrev S1x8x128x128 : Shape := ⟨4, ![1, 8, 128, 128]⟩
abbrev S4096x8x128 : Shape := ⟨3, ![4096, 8, 128]⟩
abbrev S8x128 : Shape := ⟨2, ![8, 128]⟩
abbrev S8x128x128 : Shape := ⟨3, ![8, 128, 128]⟩
abbrev S_ : Shape := ⟨0, ![]⟩
abbrev S4096x8 : Shape := ⟨2, ![4096, 8]⟩
abbrev S4096x8x1 : Shape := ⟨3, ![4096, 8, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x2048 : Shape := ⟨2, ![4096, 2048]⟩
abbrev S1x1024 : Shape := ⟨2, ![1, 1024]⟩

abbrev nBuf : Space → Nat
  | .hbm => 238
  | .vmem => 0
  | .smem => 0
  | _ => 0

abbrev hbmTy0_0 (i : Nat) : BufTy := match i % 128 with
  | 0 => ⟨S4096x3328, .f32⟩
  | 1 => ⟨S4096x1024, .f32⟩
  | 2 => ⟨S1x8x128, .f32⟩
  | 3 => ⟨S1x8x128, .f32⟩
  | 4 => ⟨S1x8x128x128, .f32⟩
  | 5 => ⟨S1x8x128, .f32⟩
  | 6 => ⟨S4096x1024, .f32⟩
  | 7 => ⟨S4096x8x128, .f32⟩
  | 8 => ⟨S4096x1024, .f32⟩
  | 9 => ⟨S4096x8x128, .f32⟩
  | 10 => ⟨S8x128, .f32⟩
  | 11 => ⟨S8x128, .f32⟩
  | 12 => ⟨S8x128x128, .f32⟩
  | 13 => ⟨S8x128, .f32⟩
  | 14 => ⟨S_, .f32⟩
  | 15 => ⟨S4096x8x128, .f32⟩
  | 16 => ⟨S4096x8x128, .f32⟩
  | 17 => ⟨S4096x8x128, .f32⟩
  | 18 => ⟨S4096x8x128, .f32⟩
  | 19 => ⟨S_, .f32⟩
  | 20 => ⟨S4096x8x128, .f32⟩
  | 21 => ⟨S4096x8x128, .f32⟩
  | 22 => ⟨S_, .f32⟩
  | 23 => ⟨S4096x8x128, .f32⟩
  | 24 => ⟨S4096x8x128, .f32⟩
  | 25 => ⟨S4096x8x128, .f32⟩
  | 26 => ⟨S_, .f32⟩
  | 27 => ⟨S4096x8x128, .f32⟩
  | 28 => ⟨S4096x8x128, .f32⟩
  | 29 => ⟨S4096x8x128, .f32⟩
  | 30 => ⟨S_, .f32⟩
  | 31 => ⟨S4096x8x128, .f32⟩
  | 32 => ⟨S4096x8x128, .f32⟩
  | 33 => ⟨S_, .f32⟩
  | 34 => ⟨S4096x8x128, .f32⟩
  | 35 => ⟨S4096x8x128, .f32⟩
  | 36 => ⟨S4096x8x128, .f32⟩
  | 37 => ⟨S_, .f32⟩
  | 38 => ⟨S4096x8x128, .f32⟩
  | 39 => ⟨S4096x8x128, .f32⟩
  | 40 => ⟨S4096x8x128, .f32⟩
  | 41 => ⟨S_, .f32⟩
  | 42 => ⟨S4096x8x128, .f32⟩
  | 43 => ⟨S4096x8x128, .f32⟩
  | 44 => ⟨S4096x8x128, .f32⟩
  | 45 => ⟨S4096x8x128, .f32⟩
  | 46 => ⟨S_, .f32⟩
  | 47 => ⟨S4096x8x128, .f32⟩
  | 48 => ⟨S4096x8x128, .f32⟩
  | 49 => ⟨S_, .f32⟩
  | 50 => ⟨S4096x8x128, .f32⟩
  | 51 => ⟨S4096x8x128, .f32⟩
  | 52 => ⟨S4096x8x128, .f32⟩
  | 53 => ⟨S_, .f32⟩
  | 54 => ⟨S4096x8x128, .f32⟩
  | 55 => ⟨S4096x8x128, .f32⟩
  | 56 => ⟨S4096x8x128, .f32⟩
  | 57 => ⟨S_, .f32⟩
  | 58 => ⟨S4096x8x128, .f32⟩
  | 59 => ⟨S4096x8x128, .f32⟩
  | 60 => ⟨S_, .f32⟩
  | 61 => ⟨S4096x8x128, .f32⟩
  | 62 => ⟨S4096x8x128, .f32⟩
  | 63 => ⟨S4096x8x128, .f32⟩
  | 64 => ⟨S_, .f32⟩
  | 65 => ⟨S4096x8x128, .f32⟩
  | 66 => ⟨S4096x8x128, .f32⟩
  | 67 => ⟨S4096x8x128, .f32⟩
  | 68 => ⟨S_, .f32⟩
  | 69 => ⟨S4096x8, .f32⟩
  | 70 => ⟨S4096x8x1, .f32⟩
  | 71 => ⟨S_, .f32⟩
  | 72 => ⟨S4096x8x1, .f32⟩
  | 73 => ⟨S4096x8x1, .f32⟩
  | 74 => ⟨S4096x8x128, .f32⟩
  | 75 => ⟨S4096x8x128, .f32⟩
  | 76 => ⟨S4096x8x128, .f32⟩
  | 77 => ⟨S_, .f32⟩
  | 78 => ⟨S4096x8, .f32⟩
  | 79 => ⟨S4096x8x1, .f32⟩
  | 80 => ⟨S_, .f32⟩
  | 81 => ⟨S4096x8x1, .f32⟩
  | 82 => ⟨S4096x8x1, .f32⟩
  | 83 => ⟨S_, .f32⟩
  | 84 => ⟨S4096x8x1, .f32⟩
  | 85 => ⟨S4096x8x1, .f32⟩
  | 86 => ⟨S4096x8x1, .f32⟩
  | 87 => ⟨S4096x8x1, .f32⟩
  | 88 => ⟨S_, .f32⟩
  | 89 => ⟨S4096x8x1, .f32⟩
  | 90 => ⟨S4096x8x1, .f32⟩
  | 91 => ⟨S4096x8x128, .f32⟩
  | 92 => ⟨S4096x8x128, .f32⟩
  | 93 => ⟨S1x8x128, .f32⟩
  | 94 => ⟨S4096x8x128, .f32⟩
  | 95 => ⟨S4096x8x128, .f32⟩
  | 96 => ⟨S1x8x128, .f32⟩
  | 97 => ⟨S4096x8x128, .f32⟩
  | 98 => ⟨S4096x8x128, .f32⟩
  | 99 => ⟨S32x128x8x128, .f32⟩
  | 100 => ⟨S_, .i1⟩
  | 101 => ⟨S128x128, .i1⟩
  | 102 => ⟨S128x128, .i32⟩
  | 103 => ⟨S_, .i32⟩
  | 104 => ⟨S128x128, .i32⟩
  | 105 => ⟨S128x128, .i32⟩
  | 106 => ⟨S128x128, .i32⟩
  | 107 => ⟨S128x128, .i1⟩
  | 108 => ⟨S_, .i1⟩
  | 109 => ⟨S128x128, .i1⟩
  | 110 => ⟨S128x128, .i1⟩
  | 111 => ⟨S1x128x128, .i1⟩
  | 112 => ⟨S_, .f32⟩
  | 113 => ⟨S8x128x128, .f32⟩
  | 114 => ⟨S8x128x128, .i1⟩
  | 115 => ⟨S8x128x128, .f32⟩
  | 116 => ⟨S_, .f32⟩
  | 117 => ⟨S8x128x128, .f32⟩
  | 118 => ⟨S8x32x128x128, .f32⟩
  | 119 => ⟨S32x128x8x128, .f32⟩
  | 120 => ⟨S128x8, .f32⟩
  | 121 => ⟨S1x128x8x1, .f32⟩
  | 122 => ⟨S32x128x8x128, .f32⟩
  | 123 => ⟨S32x128x8x128, .f32⟩
  | 124 => ⟨S4096x8x128, .f32⟩
  | 125 => ⟨S4096x8x128, .f32⟩
  | 126 => ⟨S4096x8x128, .f32⟩
  | 127 => ⟨S4096x8x128, .f32⟩
  | _ => ⟨S4096x3328, .f32⟩

abbrev hbmTy0_1 (i : Nat) : BufTy := match i % 128 with
  | 0 => ⟨S4096x8x128, .f32⟩
  | 1 => ⟨S32x128x8x128, .f32⟩
  | 2 => ⟨S_, .f32⟩
  | 3 => ⟨S128x8, .f32⟩
  | 4 => ⟨S1x128x8x1, .f32⟩
  | 5 => ⟨S_, .f32⟩
  | 6 => ⟨S128x8, .f32⟩
  | 7 => ⟨S8x128, .f32⟩
  | 8 => ⟨S8x32x128x128, .f32⟩
  | 9 => ⟨S8x128x128, .f32⟩
  | 10 => ⟨S8x32x128x128, .f32⟩
  | 11 => ⟨S32x128x8x128, .f32⟩
  | 12 => ⟨S_, .f32⟩
  | 13 => ⟨S8x128x128, .f32⟩
  | 14 => ⟨S8x128x128, .f32⟩
  | 15 => ⟨S4096x8x128, .f32⟩
  | 16 => ⟨S_, .f32⟩
  | 17 => ⟨S8x128, .f32⟩
  | 18 => ⟨S1x8x128, .f32⟩
  | 19 => ⟨S_, .f32⟩
  | 20 => ⟨S8x128, .f32⟩
  | 21 => ⟨S4096x8x128, .f32⟩
  | 22 => ⟨S_, .f32⟩
  | 23 => ⟨S8x128, .f32⟩
  | 24 => ⟨S1x8x128, .f32⟩
  | 25 => ⟨S4096x8x128, .f32⟩
  | 26 => ⟨S4096x8x128, .f32⟩
  | 27 => ⟨S_, .f32⟩
  | 28 => ⟨S8x128, .f32⟩
  | 29 => ⟨S4096x8x128, .f32⟩
  | 30 => ⟨S_, .f32⟩
  | 31 => ⟨S4096x8, .f32⟩
  | 32 => ⟨S4096x8x1, .f32⟩
  | 33 => ⟨S4096x8x128, .f32⟩
  | 34 => ⟨S4096x8x128, .f32⟩
  | 35 => ⟨S4096x8x1, .f32⟩
  | 36 => ⟨S_, .f32⟩
  | 37 => ⟨S4096x8x1, .f32⟩
  | 38 => ⟨S4096x8x1, .f32⟩
  | 39 => ⟨S_, .f32⟩
  | 40 => ⟨S4096x8, .f32⟩
  | 41 => ⟨S4096x8x128, .f32⟩
  | 42 => ⟨S4096x8x128, .f32⟩
  | 43 => ⟨S4096x8x128, .f32⟩
  | 44 => ⟨S4096x8x128, .f32⟩
  | 45 => ⟨S4096x8x128, .f32⟩
  | 46 => ⟨S4096x8x128, .f32⟩
  | 47 => ⟨S_, .f32⟩
  | 48 => ⟨S4096x8, .f32⟩
  | 49 => ⟨S4096x8x1, .f32⟩
  | 50 => ⟨S_, .f32⟩
  | 51 => ⟨S4096x8x1, .f32⟩
  | 52 => ⟨S4096x8x1, .f32⟩
  | 53 => ⟨S_, .f32⟩
  | 54 => ⟨S4096x8, .f32⟩
  | 55 => ⟨S4096x8x128, .f32⟩
  | 56 => ⟨S4096x8x128, .f32⟩
  | 57 => ⟨S4096x8x128, .f32⟩
  | 58 => ⟨S4096x8x128, .f32⟩
  | 59 => ⟨S4096x8x128, .f32⟩
  | 60 => ⟨S_, .f32⟩
  | 61 => ⟨S4096x8x128, .f32⟩
  | 62 => ⟨S4096x8x128, .f32⟩
  | 63 => ⟨S_, .f32⟩
  | 64 => ⟨S4096x8x128, .f32⟩
  | 65 => ⟨S4096x8x128, .f32⟩
  | 66 => ⟨S_, .f32⟩
  | 67 => ⟨S4096x8x128, .f32⟩
  | 68 => ⟨S4096x8x128, .f32⟩
  | 69 => ⟨S4096x8x128, .f32⟩
  | 70 => ⟨S4096x8x128, .f32⟩
  | 71 => ⟨S4096x8x128, .f32⟩
  | 72 => ⟨S4096x8x128, .f32⟩
  | 73 => ⟨S4096x8x128, .f32⟩
  | 74 => ⟨S4096x8x128, .f32⟩
  | 75 => ⟨S4096x8x128, .f32⟩
  | 76 => ⟨S_, .f32⟩
  | 77 => ⟨S4096x8x128, .f32⟩
  | 78 => ⟨S4096x8x128, .f32⟩
  | 79 => ⟨S4096x8x128, .f32⟩
  | 80 => ⟨S4096x8x128, .f32⟩
  | 81 => ⟨S4096x8x128, .f32⟩
  | 82 => ⟨S4096x8x128, .f32⟩
  | 83 => ⟨S_, .f32⟩
  | 84 => ⟨S4096x8x128, .f32⟩
  | 85 => ⟨S4096x8x128, .f32⟩
  | 86 => ⟨S_, .f32⟩
  | 87 => ⟨S4096x8x128, .f32⟩
  | 88 => ⟨S4096x8x128, .f32⟩
  | 89 => ⟨S_, .f32⟩
  | 90 => ⟨S4096x8x128, .f32⟩
  | 91 => ⟨S4096x8x128, .f32⟩
  | 92 => ⟨S4096x8x128, .f32⟩
  | 93 => ⟨S4096x8x128, .f32⟩
  | 94 => ⟨S4096x8x128, .f32⟩
  | 95 => ⟨S4096x8x128, .f32⟩
  | 96 => ⟨S4096x8x128, .f32⟩
  | 97 => ⟨S4096x8x128, .f32⟩
  | 98 => ⟨S4096x8x128, .f32⟩
  | 99 => ⟨S_, .f32⟩
  | 100 => ⟨S4096x8x128, .f32⟩
  | 101 => ⟨S4096x8x128, .f32⟩
  | 102 => ⟨S4096x8x128, .f32⟩
  | 103 => ⟨S4096x1024, .f32⟩
  | 104 => ⟨S4096x1024, .f32⟩
  | 105 => ⟨S4096x2048, .f32⟩
  | 106 => ⟨S4096x2048, .bf16⟩
  | 107 => ⟨S1x1024, .f32⟩
  | 108 => ⟨S1x1024, .f32⟩
  | 109 => ⟨S128x8, .f32⟩
  | _ => ⟨S4096x3328, .f32⟩

abbrev hbmTy (i : Nat) : BufTy := match i / 128 with
  | 0 => hbmTy0_0 i
  | 1 => hbmTy0_1 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c : Ref sig .tc := ⟨.hbm, 100, rfl⟩
abbrev main_v74 : Ref sig .tc := ⟨.hbm, 101, rfl⟩
abbrev main_call0_v0 : Ref sig .tc := ⟨.hbm, 102, rfl⟩
abbrev main_call0_c : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_c_0 : Ref sig .tc := ⟨.hbm, 108, rfl⟩
abbrev main_call0_v5 : Ref sig .tc := ⟨.hbm, 109, rfl⟩
abbrev main_v75 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_v78_1 : Ref sig .tc := ⟨.hbm, 114, rfl⟩
abbrev main_v78_0 : Ref sig .tc := ⟨.hbm, 115, rfl⟩
abbrev main_call1_cst : Ref sig .tc := ⟨.hbm, 116, rfl⟩
abbrev main_v78_2 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_20 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call2_cst : Ref sig .tc := ⟨.hbm, 140, rfl⟩
abbrev main_call2_v0 : Ref sig .tc := ⟨.hbm, 141, rfl⟩
abbrev main_v99 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_cst_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_25 : Ref sig .tc := ⟨.hbm, 155, rfl⟩
abbrev main_v109 : Ref sig .tc := ⟨.hbm, 156, rfl⟩
abbrev main_v110 : Ref sig .tc := ⟨.hbm, 157, rfl⟩
abbrev main_cst_26 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_27 : Ref sig .tc := ⟨.hbm, 164, rfl⟩
abbrev main_v116 : Ref sig .tc := ⟨.hbm, 165, rfl⟩
abbrev main_v117 : Ref sig .tc := ⟨.hbm, 166, rfl⟩
abbrev main_cst_28 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_29 : Ref sig .tc := ⟨.hbm, 175, rfl⟩
abbrev main_v125 : Ref sig .tc := ⟨.hbm, 176, rfl⟩
abbrev main_v126 : Ref sig .tc := ⟨.hbm, 177, rfl⟩
abbrev main_cst_30 : Ref sig .tc := ⟨.hbm, 178, rfl⟩
abbrev main_v127 : Ref sig .tc := ⟨.hbm, 179, rfl⟩
abbrev main_v128 : Ref sig .tc := ⟨.hbm, 180, rfl⟩
abbrev main_cst_31 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_32 : Ref sig .tc := ⟨.hbm, 188, rfl⟩
abbrev main_v135 : Ref sig .tc := ⟨.hbm, 189, rfl⟩
abbrev main_v136 : Ref sig .tc := ⟨.hbm, 190, rfl⟩
abbrev main_cst_33 : Ref sig .tc := ⟨.hbm, 191, rfl⟩
abbrev main_v137 : Ref sig .tc := ⟨.hbm, 192, rfl⟩
abbrev main_v138 : Ref sig .tc := ⟨.hbm, 193, rfl⟩
abbrev main_cst_34 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_35 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_36 : Ref sig .tc := ⟨.hbm, 211, rfl⟩
abbrev main_v154 : Ref sig .tc := ⟨.hbm, 212, rfl⟩
abbrev main_v155 : Ref sig .tc := ⟨.hbm, 213, rfl⟩
abbrev main_cst_37 : Ref sig .tc := ⟨.hbm, 214, rfl⟩
abbrev main_v156 : Ref sig .tc := ⟨.hbm, 215, rfl⟩
abbrev main_v157 : Ref sig .tc := ⟨.hbm, 216, rfl⟩
abbrev main_cst_38 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_39 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩

abbrev nD : Nat := 1
abbrev τ : Topo := Topo.v7x

variable {F : FTy → Type} [FloatOps F]
-- ==== Proof.AdamDown.lean ====
/-
The optimiser's step on a shard of the weight of the second weight of the hidden layer: over the extended reals the kernel's
gradient, step and moments are those of the plain update.
-/
module

public import proofs.«01_k».proof.Defs
public import proofs.«01_k».proof.Proof.Gen.AdamDownIdeal.Value
public import proofs.«01_k».proof.Proof.Gen.AdamDownRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDownIdeal.Step

open Cert.AdamDownIdeal Cert.AdamDownIdeal.Gen Cert.AdamDownRefIdeal.Read

variable (m : (ℓ : Loc nD τ sig) → Buf (Elt Ideal) ℓ) (c : Dev nD)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev a0 : FVec Ideal S4x1024x2048 .bf16 := m ((c : Thread nD τ).loc main_arg0)
abbrev a1 : FVec Ideal S3x1024x2048 .bf16 := m ((c : Thread nD τ).loc main_arg1)
abbrev a2 : FVec Ideal S1024x2048 .f32 := m ((c : Thread nD τ).loc main_arg2)
abbrev a3 : FVec Ideal S1024x2048 .f32 := m ((c : Thread nD τ).loc main_arg3)
abbrev a4 : FVec Ideal S1024x2048 .f32 := m ((c : Thread nD τ).loc main_arg4)

/-- The kernel's array of the sum of the chips' gradients. -/
theorem final0 : (dats m 0 c).arrAt 5 cfg0.N = val_main_v5 (F := Ideal) (a0 m c) (a1 m c) := by
  refine (dats m 0 c).arrAt_eq_of_covers 5 _ (by decide +kernel) fun t hf y => ?_
  blk_simp
  rw [after0_5]
  frame_out
  pointwise [k0_pay3, val_main_v5, val_main_v4, val_main_v3, val_main_v2, val_main_v1, val_main_v0, val_main_cst]
  simp only [Fin.sum_univ_three, ← add_assoc]
  blk_point [iblk, V, idx0 t, idx1 t, idx5 t]

/-- The kernel's array of the step. -/
theorem final1 : (dats m 0 c).arrAt 6 cfg0.N = val_main_v29 (F := Ideal) (a0 m c) (a1 m c) (a2 m c) (a3 m c) (a4 m c) := by
  refine (dats m 0 c).arrAt_eq_of_covers 6 _ (by decide +kernel) fun t hf y => ?_
  blk_simp
  rw [after0_6]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx2 t, idx3 t, idx4 t, idx6 t]

/-- The kernel's array of the first moment. -/
theorem final2 : (dats m 0 c).arrAt 7 cfg0.N = val_main_v10 (F := Ideal) (a0 m c) (a1 m c) (a3 m c) := by
  refine (dats m 0 c).arrAt_eq_of_covers 7 _ (by decide +kernel) fun t hf y => ?_
  blk_simp
  rw [after0_7]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx3 t, idx7 t]

/-- The kernel's array of the second moment. -/
theorem final3 : (dats m 0 c).arrAt 8 cfg0.N = val_main_v16 (F := Ideal) (a0 m c) (a1 m c) (a4 m c) := by
  refine (dats m 0 c).arrAt_eq_of_covers 8 _ (by decide +kernel) fun t hf y => ?_
  blk_simp
  rw [after0_8]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx4 t, idx8 t]

end Cert.AdamDownIdeal.Step

namespace Cert.Proof

open Cert.AdamDownRefIdeal.Read Cert.AdamDownIdeal.Step

theorem algebraic_AdamDown : Cert.algebraic_AdamDownIdeal_AdamDownRefIdeal := fun m ρ m' ρ' _ hag =>
  ⟨fun c => val_main_v5 (F := Ideal) (a0 m c) (a1 m c),
    fun c => val_main_v29 (F := Ideal) (a0 m c) (a1 m c) (a2 m c) (a3 m c) (a4 m c),
    fun c => val_main_v10 (F := Ideal) (a0 m c) (a1 m c) (a3 m c),
    fun c => val_main_v16 (F := Ideal) (a0 m c) (a1 m c) (a4 m c),
    (θ_run _ _ _).mono (fun _ k c =>
      ⟨(k c).1.trans (final0 m c), (k c).2.1.trans (final1 m c), (k c).2.2.1.trans (final2 m c),
        (k c).2.2.2.1.trans (final3 m c), (k c).2.2.2.2.2⟩)
      (Cert.AdamDownIdeal.Value.run_blocks m ρ),
    (θ_run _ _ _).mono (fun _ k c => by
      obtain ⟨e0, e1, e2, e3, e4⟩ := hag c
      refine ⟨(k c).1.trans ?_, (k c).2.1.trans ?_, (k c).2.2.1.trans ?_, (k c).2.2.2.1.trans ?_, (k c).2.2.2.2⟩
      · refine (val_main_v5_eq _ _).trans ?_; simp only [e0, e1]
      · refine (val_main_v29_eq _ _ _ _ _).trans ?_; simp only [e0, e1, e2, e3, e4]
      · refine (val_main_v10_eq _ _ _).trans ?_; simp only [e0, e1, e3]
      · refine (val_main_v16_eq _ _ _).trans ?_; simp only [e0, e1, e4])
      (Cert.AdamDownRefIdeal.Value.run m' ρ')⟩

end Cert.Proof

end
-- ==== Proof.AdamIn.lean ====
/-
The optimiser's step on a shard of the weight of the input projection, whose shard the kernel takes transposed: over the extended reals the kernel's
gradient, step and moments are those of the plain update.
-/
module

public import proofs.«01_k».proof.Defs
public import proofs.«01_k».proof.Proof.Gen.AdamInIdeal.Value
public import proofs.«01_k».proof.Proof.Gen.AdamInRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInRefIdeal.Step

open Cert.AdamInRefIdeal Cert.AdamInRefIdeal.Gen Cert.AdamInRefIdeal.Read

/-- The gradient: this chip's sum and the three that it received. -/
def total (g : EReal) (r : Fin 3 → EReal) : EReal := g + ∑ k, r k

/-- The moments and the step of the update. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def step (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

theorem apply31 (x0 : (⟨S4x416x2048, .bf16⟩ : BufTy).Contents (Elt Ideal)) (x1 : (⟨S3x416x2048, .bf16⟩ : BufTy).Contents (Elt Ideal)) (p : Fin 416) (q : Fin 2048) :
    val_main_v31 (F := Ideal) x0 x1  (ix2 p q) = (total (x0 (ix3 0 p q)) fun k => x1 (ix3 k p q)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rfl

theorem apply32 (x0 : (⟨S4x416x2048, .bf16⟩ : BufTy).Contents (Elt Ideal)) (x1 : (⟨S3x416x2048, .bf16⟩ : BufTy).Contents (Elt Ideal)) (x2 x3 x4 : (⟨S2048x416, .f32⟩ : BufTy).Contents (Elt Ideal)) (p : Fin 416) (q : Fin 2048) :
    val_main_v32 (F := Ideal) x0 x1 x2 x3 x4 (ix2 p q) = step (x2 (ix2 q p)) (total (x0 (ix3 0 p q)) fun k => x1 (ix3 k p q)) (x3 (ix2 q p)) (x4 (ix2 q p)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rfl

theorem apply33 (x0 : (⟨S4x416x2048, .bf16⟩ : BufTy).Contents (Elt Ideal)) (x1 : (⟨S3x416x2048, .bf16⟩ : BufTy).Contents (Elt Ideal)) (x3 : (⟨S2048x416, .f32⟩ : BufTy).Contents (Elt Ideal)) (p : Fin 416) (q : Fin 2048) :
    val_main_v33 (F := Ideal) x0 x1 x3 (ix2 p q) = first (total (x0 (ix3 0 p q)) fun k => x1 (ix3 k p q)) (x3 (ix2 q p)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rfl

theorem apply34 (x0 : (⟨S4x416x2048, .bf16⟩ : BufTy).Contents (Elt Ideal)) (x1 : (⟨S3x416x2048, .bf16⟩ : BufTy).Contents (Elt Ideal)) (x4 : (⟨S2048x416, .f32⟩ : BufTy).Contents (Elt Ideal)) (p : Fin 416) (q : Fin 2048) :
    val_main_v34 (F := Ideal) x0 x1 x4 (ix2 p q) = second (total (x0 (ix3 0 p q)) fun k => x1 (ix3 k p q)) (x4 (ix2 q p)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rfl

end Cert.AdamInRefIdeal.Step

namespace Cert.AdamInIdeal.Step

open Cert.AdamInRefIdeal.Step (total first second step apply31 apply32 apply33 apply34)
open Cert.AdamInIdeal Cert.AdamInIdeal.Gen Cert.AdamInRefIdeal.Read

variable (m : (ℓ : Loc nD τ sig) → Buf (Elt Ideal) ℓ) (c : Dev nD)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev a0 : FVec Ideal S4x416x2048 .bf16 := m ((c : Thread nD τ).loc main_arg0)
abbrev a1 : FVec Ideal S3x416x2048 .bf16 := m ((c : Thread nD τ).loc main_arg1)
abbrev a2 : FVec Ideal S2048x416 .f32 := m ((c : Thread nD τ).loc main_arg2)
abbrev a3 : FVec Ideal S2048x416 .f32 := m ((c : Thread nD τ).loc main_arg3)
abbrev a4 : FVec Ideal S2048x416 .f32 := m ((c : Thread nD τ).loc main_arg4)

/-- Row p of the t-th block of 208 rows. -/
def shard (t : Fin cfg0.N) (p : Fin 208) : Fin 416 := ⟨208 * t.val + p.val, by have : t.val < 2 := t.isLt; omega⟩

theorem at0 (t : Fin cfg0.N) (p : Fin 208) (q : Fin 2048) : iblk m c 0 t (ix3 0 p q) = a0 m c (ix3 0 (shard t p) q) := by
  blk_point [iblk, V, idx0 t, shard]
theorem at1 (t : Fin cfg0.N) (k : Fin 3) (p : Fin 208) (q : Fin 2048) : iblk m c 1 t (ix3 k p q) = a1 m c (ix3 k (shard t p) q) := by
  blk_point [iblk, V, idx1 t, shard]
theorem at2 (t : Fin cfg0.N) (p : Fin 208) (q : Fin 2048) : iblk m c 2 t (ix2 p q) = a2 m c (ix2 q (shard t p)) := by
  simp only [iblk, V]
  pointwise []
  blk_point [idx2 t, shard]
theorem at3 (t : Fin cfg0.N) (p : Fin 208) (q : Fin 2048) : iblk m c 3 t (ix2 p q) = a3 m c (ix2 q (shard t p)) := by
  simp only [iblk, V]
  pointwise []
  blk_point [idx3 t, shard]
theorem at4 (t : Fin cfg0.N) (p : Fin 208) (q : Fin 2048) : iblk m c 4 t (ix2 p q) = a4 m c (ix2 q (shard t p)) := by
  simp only [iblk, V]
  pointwise []
  blk_point [idx4 t, shard]

/-- A block's entry of the sum of the chips' gradients. -/
theorem entry0 (t : Fin cfg0.N) (p : Fin 208) (q : Fin 2048) : (dats m 0 c).after 5 t (ix2 p q) = (total (iblk m c 0 t (ix3 0 p q) : EReal) fun k => (iblk m c 1 t (ix3 k p q) : EReal)) := by
  rw [after0_5]
  frame_out
  pointwise [k0_pay3]
  simp only [first, second, step, total, Fin.sum_univ_three, ← add_assoc]

/-- A block's entry of the step. -/
theorem entry1 (t : Fin cfg0.N) (p : Fin 208) (q : Fin 2048) : (dats m 0 c).after 6 t (ix2 p q) = step (iblk m c 2 t (ix2 p q)) (total (iblk m c 0 t (ix3 0 p q) : EReal) fun k => (iblk m c 1 t (ix3 k p q) : EReal)) (iblk m c 3 t (ix2 p q)) (iblk m c 4 t (ix2 p q)) := by
  rw [after0_6]
  frame_out
  pointwise [k0_pay1, k0_pay3, k0_pay4, k0_pay5, k0_pay6, k0_pay7, k0_pay8, k0_pay9]
  simp only [first, second, step, total, Fin.sum_univ_three, ← add_assoc]

/-- A block's entry of the first moment. -/
theorem entry2 (t : Fin cfg0.N) (p : Fin 208) (q : Fin 2048) : (dats m 0 c).after 7 t (ix2 p q) = first (total (iblk m c 0 t (ix3 0 p q) : EReal) fun k => (iblk m c 1 t (ix3 k p q) : EReal)) (iblk m c 3 t (ix2 p q)) := by
  rw [after0_7]
  frame_out
  pointwise [k0_pay1, k0_pay3, k0_pay4, k0_pay5, k0_pay6, k0_pay7, k0_pay8, k0_pay9]
  simp only [first, second, step, total, Fin.sum_univ_three, ← add_assoc]

/-- A block's entry of the second moment. -/
theorem entry3 (t : Fin cfg0.N) (p : Fin 208) (q : Fin 2048) : (dats m 0 c).after 8 t (ix2 p q) = second (total (iblk m c 0 t (ix3 0 p q) : EReal) fun k => (iblk m c 1 t (ix3 k p q) : EReal)) (iblk m c 4 t (ix2 p q)) := by
  rw [after0_8]
  frame_out
  pointwise [k0_pay1, k0_pay3, k0_pay4, k0_pay5, k0_pay6, k0_pay7, k0_pay8, k0_pay9]
  simp only [first, second, step, total, Fin.sum_univ_three, ← add_assoc]

theorem emb5 (t : Fin cfg0.N) (p : Fin 208) (q : Fin 2048) : (win0_5.blk t).view.emb (ix2 p q) = (ix2 (shard t p) q : S416x2048.Idx) := by
  have e0 := win0_5.rect_emb_val t (ix2 p q) 0 rfl
  have e1 := win0_5.rect_emb_val t (ix2 p q) 1 rfl
  rw [idx5 t] at e0 e1
  funext a
  fin_cases a
  · exact Fin.ext (e0.trans (by show t.val * 208 + p.val = 208 * t.val + p.val; omega))
  · exact Fin.ext (e1.trans (by show 0 * 2048 + q.val = q.val; omega))

theorem final0 : (dats m 0 c).arrAt 5 cfg0.N = val_main_v31 (F := Ideal) (a0 m c) (a1 m c) := by
  refine (dats m 0 c).arrAt_eq_of_covers 5 _ (by decide +kernel) fun t hf y => ?_
  obtain ⟨p, q, rfl⟩ : ∃ p q, y = ix2 p q := ⟨y 0, y 1, funext fun a => by fin_cases a <;> rfl⟩
  blk_simp
  refine (entry0 m c t p q).trans ?_
  rw [emb5, apply31]
  simp only [at0, at1]

theorem emb6 (t : Fin cfg0.N) (p : Fin 208) (q : Fin 2048) : (win0_6.blk t).view.emb (ix2 p q) = (ix2 (shard t p) q : S416x2048.Idx) := by
  have e0 := win0_6.rect_emb_val t (ix2 p q) 0 rfl
  have e1 := win0_6.rect_emb_val t (ix2 p q) 1 rfl
  rw [idx6 t] at e0 e1
  funext a
  fin_cases a
  · exact Fin.ext (e0.trans (by show t.val * 208 + p.val = 208 * t.val + p.val; omega))
  · exact Fin.ext (e1.trans (by show 0 * 2048 + q.val = q.val; omega))

theorem final1 : (dats m 0 c).arrAt 6 cfg0.N = val_main_v32 (F := Ideal) (a0 m c) (a1 m c) (a2 m c) (a3 m c) (a4 m c) := by
  refine (dats m 0 c).arrAt_eq_of_covers 6 _ (by decide +kernel) fun t hf y => ?_
  obtain ⟨p, q, rfl⟩ : ∃ p q, y = ix2 p q := ⟨y 0, y 1, funext fun a => by fin_cases a <;> rfl⟩
  blk_simp
  refine (entry1 m c t p q).trans ?_
  rw [emb6, apply32]
  simp only [at0, at1, at2, at3, at4]

theorem emb7 (t : Fin cfg0.N) (p : Fin 208) (q : Fin 2048) : (win0_7.blk t).view.emb (ix2 p q) = (ix2 (shard t p) q : S416x2048.Idx) := by
  have e0 := win0_7.rect_emb_val t (ix2 p q) 0 rfl
  have e1 := win0_7.rect_emb_val t (ix2 p q) 1 rfl
  rw [idx7 t] at e0 e1
  funext a
  fin_cases a
  · exact Fin.ext (e0.trans (by show t.val * 208 + p.val = 208 * t.val + p.val; omega))
  · exact Fin.ext (e1.trans (by show 0 * 2048 + q.val = q.val; omega))

theorem final2 : (dats m 0 c).arrAt 7 cfg0.N = val_main_v33 (F := Ideal) (a0 m c) (a1 m c) (a3 m c) := by
  refine (dats m 0 c).arrAt_eq_of_covers 7 _ (by decide +kernel) fun t hf y => ?_
  obtain ⟨p, q, rfl⟩ : ∃ p q, y = ix2 p q := ⟨y 0, y 1, funext fun a => by fin_cases a <;> rfl⟩
  blk_simp
  refine (entry2 m c t p q).trans ?_
  rw [emb7, apply33]
  simp only [at0, at1, at3]

theorem emb8 (t : Fin cfg0.N) (p : Fin 208) (q : Fin 2048) : (win0_8.blk t).view.emb (ix2 p q) = (ix2 (shard t p) q : S416x2048.Idx) := by
  have e0 := win0_8.rect_emb_val t (ix2 p q) 0 rfl
  have e1 := win0_8.rect_emb_val t (ix2 p q) 1 rfl
  rw [idx8 t] at e0 e1
  funext a
  fin_cases a
  · exact Fin.ext (e0.trans (by show t.val * 208 + p.val = 208 * t.val + p.val; omega))
  · exact Fin.ext (e1.trans (by show 0 * 2048 + q.val = q.val; omega))

theorem final3 : (dats m 0 c).arrAt 8 cfg0.N = val_main_v34 (F := Ideal) (a0 m c) (a1 m c) (a4 m c) := by
  refine (dats m 0 c).arrAt_eq_of_covers 8 _ (by decide +kernel) fun t hf y => ?_
  obtain ⟨p, q, rfl⟩ : ∃ p q, y = ix2 p q := ⟨y 0, y 1, funext fun a => by fin_cases a <;> rfl⟩
  blk_simp
  refine (entry3 m c t p q).trans ?_
  rw [emb8, apply34]
  simp only [at0, at1, at4]

end Cert.AdamInIdeal.Step

namespace Cert.Proof

open Cert.AdamInRefIdeal.Read Cert.AdamInIdeal.Step

theorem algebraic_AdamIn : Cert.algebraic_AdamInIdeal_AdamInRefIdeal := fun m ρ m' ρ' _ hag =>
  ⟨fun c => val_main_v31 (F := Ideal) (a0 m c) (a1 m c),
    fun c => val_main_v32 (F := Ideal) (a0 m c) (a1 m c) (a2 m c) (a3 m c) (a4 m c),
    fun c => val_main_v33 (F := Ideal) (a0 m c) (a1 m c) (a3 m c),
    fun c => val_main_v34 (F := Ideal) (a0 m c) (a1 m c) (a4 m c),
    (θ_run _ _ _).mono (fun _ k c =>
      ⟨(k c).1.trans (final0 m c), (k c).2.1.trans (final1 m c), (k c).2.2.1.trans (final2 m c),
        (k c).2.2.2.1.trans (final3 m c), (k c).2.2.2.2.2⟩)
      (Cert.AdamInIdeal.Value.run_blocks m ρ),
    (θ_run _ _ _).mono (fun _ k c => by
      obtain ⟨e0, e1, e2, e3, e4⟩ := hag c
      refine ⟨(k c).1.trans ?_, (k c).2.1.trans ?_, (k c).2.2.1.trans ?_, (k c).2.2.2.1.trans ?_, (k c).2.2.2.2⟩
      · refine (val_main_v31_eq _ _).trans ?_; simp only [e0, e1]
      · refine (val_main_v32_eq _ _ _ _ _).trans ?_; simp only [e0, e1, e2, e3, e4]
      · refine (val_main_v33_eq _ _ _).trans ?_; simp only [e0, e1, e3]
      · refine (val_main_v34_eq _ _ _).trans ?_; simp only [e0, e1, e4])
      (Cert.AdamInRefIdeal.Value.run m' ρ')⟩

end Cert.Proof

end
-- ==== Proof.AdamOut.lean ====
/-
The optimiser's step on a shard of the weight of the output projection: over the extended reals the kernel's
gradient, step and moments are those of the plain update.
-/
module

public import proofs.«01_k».proof.Defs
public import proofs.«01_k».proof.Proof.Gen.AdamOutIdeal.Value
public import proofs.«01_k».proof.Proof.Gen.AdamOutRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutIdeal.Step

open Cert.AdamOutIdeal Cert.AdamOutIdeal.Gen Cert.AdamOutRefIdeal.Read

variable (m : (ℓ : Loc nD τ sig) → Buf (Elt Ideal) ℓ) (c : Dev nD)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev a0 : FVec Ideal S4x256x2048 .bf16 := m ((c : Thread nD τ).loc main_arg0)
abbrev a1 : FVec Ideal S3x256x2048 .bf16 := m ((c : Thread nD τ).loc main_arg1)
abbrev a2 : FVec Ideal S256x2048 .f32 := m ((c : Thread nD τ).loc main_arg2)
abbrev a3 : FVec Ideal S256x2048 .f32 := m ((c : Thread nD τ).loc main_arg3)
abbrev a4 : FVec Ideal S256x2048 .f32 := m ((c : Thread nD τ).loc main_arg4)

/-- The kernel's array of the sum of the chips' gradients. -/
theorem final0 : (dats m 0 c).arrAt 5 cfg0.N = val_main_v5 (F := Ideal) (a0 m c) (a1 m c) := by
  refine (dats m 0 c).arrAt_eq_of_covers 5 _ (by decide +kernel) fun t hf y => ?_
  blk_simp
  rw [after0_5]
  frame_out
  pointwise [k0_pay3, val_main_v5, val_main_v4, val_main_v3, val_main_v2, val_main_v1, val_main_v0, val_main_cst]
  simp only [Fin.sum_univ_three, ← add_assoc]
  blk_point [iblk, V, idx0 t, idx1 t, idx5 t]

/-- The kernel's array of the step. -/
theorem final1 : (dats m 0 c).arrAt 6 cfg0.N = val_main_v29 (F := Ideal) (a0 m c) (a1 m c) (a2 m c) (a3 m c) (a4 m c) := by
  refine (dats m 0 c).arrAt_eq_of_covers 6 _ (by decide +kernel) fun t hf y => ?_
  blk_simp
  rw [after0_6]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx2 t, idx3 t, idx4 t, idx6 t]

/-- The kernel's array of the first moment. -/
theorem final2 : (dats m 0 c).arrAt 7 cfg0.N = val_main_v10 (F := Ideal) (a0 m c) (a1 m c) (a3 m c) := by
  refine (dats m 0 c).arrAt_eq_of_covers 7 _ (by decide +kernel) fun t hf y => ?_
  blk_simp
  rw [after0_7]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx3 t, idx7 t]

/-- The kernel's array of the second moment. -/
theorem final3 : (dats m 0 c).arrAt 8 cfg0.N = val_main_v16 (F := Ideal) (a0 m c) (a1 m c) (a4 m c) := by
  refine (dats m 0 c).arrAt_eq_of_covers 8 _ (by decide +kernel) fun t hf y => ?_
  blk_simp
  rw [after0_8]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx4 t, idx8 t]

end Cert.AdamOutIdeal.Step

namespace Cert.Proof

open Cert.AdamOutRefIdeal.Read Cert.AdamOutIdeal.Step

theorem algebraic_AdamOut : Cert.algebraic_AdamOutIdeal_AdamOutRefIdeal := fun m ρ m' ρ' _ hag =>
  ⟨fun c => val_main_v5 (F := Ideal) (a0 m c) (a1 m c),
    fun c => val_main_v29 (F := Ideal) (a0 m c) (a1 m c) (a2 m c) (a3 m c) (a4 m c),
    fun c => val_main_v10 (F := Ideal) (a0 m c) (a1 m c) (a3 m c),
    fun c => val_main_v16 (F := Ideal) (a0 m c) (a1 m c) (a4 m c),
    (θ_run _ _ _).mono (fun _ k c =>
      ⟨(k c).1.trans (final0 m c), (k c).2.1.trans (final1 m c), (k c).2.2.1.trans (final2 m c),
        (k c).2.2.2.1.trans (final3 m c), (k c).2.2.2.2.2⟩)
      (Cert.AdamOutIdeal.Value.run_blocks m ρ),
    (θ_run _ _ _).mono (fun _ k c => by
      obtain ⟨e0, e1, e2, e3, e4⟩ := hag c
      refine ⟨(k c).1.trans ?_, (k c).2.1.trans ?_, (k c).2.2.1.trans ?_, (k c).2.2.2.1.trans ?_, (k c).2.2.2.2⟩
      · refine (val_main_v5_eq _ _).trans ?_; simp only [e0, e1]
      · refine (val_main_v29_eq _ _ _ _ _).trans ?_; simp only [e0, e1, e2, e3, e4]
      · refine (val_main_v10_eq _ _ _).trans ?_; simp only [e0, e1, e3]
      · refine (val_main_v16_eq _ _ _).trans ?_; simp only [e0, e1, e4])
      (Cert.AdamOutRefIdeal.Value.run m' ρ')⟩

end Cert.Proof

end
-- ==== Proof.AdamUp.lean ====
/-
The optimiser's step on a shard of the weight of the first weight of the hidden layer: over the extended reals the kernel's
gradient, step and moments are those of the plain update.
-/
module

public import proofs.«01_k».proof.Defs
public import proofs.«01_k».proof.Proof.Gen.AdamUpIdeal.Value
public import proofs.«01_k».proof.Proof.Gen.AdamUpRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUpIdeal.Step

open Cert.AdamUpIdeal Cert.AdamUpIdeal.Gen Cert.AdamUpRefIdeal.Read

variable (m : (ℓ : Loc nD τ sig) → Buf (Elt Ideal) ℓ) (c : Dev nD)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev a0 : FVec Ideal S4x2048x1024 .bf16 := m ((c : Thread nD τ).loc main_arg0)
abbrev a1 : FVec Ideal S3x2048x1024 .bf16 := m ((c : Thread nD τ).loc main_arg1)
abbrev a2 : FVec Ideal S2048x1024 .f32 := m ((c : Thread nD τ).loc main_arg2)
abbrev a3 : FVec Ideal S2048x1024 .f32 := m ((c : Thread nD τ).loc main_arg3)
abbrev a4 : FVec Ideal S2048x1024 .f32 := m ((c : Thread nD τ).loc main_arg4)

/-- The kernel's array of the sum of the chips' gradients. -/
theorem final0 : (dats m 0 c).arrAt 5 cfg0.N = val_main_v5 (F := Ideal) (a0 m c) (a1 m c) := by
  refine (dats m 0 c).arrAt_eq_of_covers 5 _ (by decide +kernel) fun t hf y => ?_
  blk_simp
  rw [after0_5]
  frame_out
  pointwise [k0_pay3, val_main_v5, val_main_v4, val_main_v3, val_main_v2, val_main_v1, val_main_v0, val_main_cst]
  simp only [Fin.sum_univ_three, ← add_assoc]
  blk_point [iblk, V, idx0 t, idx1 t, idx5 t]

/-- The kernel's array of the step. -/
theorem final1 : (dats m 0 c).arrAt 6 cfg0.N = val_main_v29 (F := Ideal) (a0 m c) (a1 m c) (a2 m c) (a3 m c) (a4 m c) := by
  refine (dats m 0 c).arrAt_eq_of_covers 6 _ (by decide +kernel) fun t hf y => ?_
  blk_simp
  rw [after0_6]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx2 t, idx3 t, idx4 t, idx6 t]

/-- The kernel's array of the first moment. -/
theorem final2 : (dats m 0 c).arrAt 7 cfg0.N = val_main_v10 (F := Ideal) (a0 m c) (a1 m c) (a3 m c) := by
  refine (dats m 0 c).arrAt_eq_of_covers 7 _ (by decide +kernel) fun t hf y => ?_
  blk_simp
  rw [after0_7]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx3 t, idx7 t]

/-- The kernel's array of the second moment. -/
theorem final3 : (dats m 0 c).arrAt 8 cfg0.N = val_main_v16 (F := Ideal) (a0 m c) (a1 m c) (a4 m c) := by
  refine (dats m 0 c).arrAt_eq_of_covers 8 _ (by decide +kernel) fun t hf y => ?_
  blk_simp
  rw [after0_8]
  frame_out
  pointwise [k0_pay1, k0_pay3, k0_pay4, k0_pay5, k0_pay6, k0_pay7, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_three, ← add_assoc]
  blk_point [iblk, V, idx0 t, idx1 t, idx4 t, idx8 t]

end Cert.AdamUpIdeal.Step

namespace Cert.Proof

open Cert.AdamUpRefIdeal.Read Cert.AdamUpIdeal.Step

theorem algebraic_AdamUp : Cert.algebraic_AdamUpIdeal_AdamUpRefIdeal := fun m ρ m' ρ' _ hag =>
  ⟨fun c => val_main_v5 (F := Ideal) (a0 m c) (a1 m c),
    fun c => val_main_v29 (F := Ideal) (a0 m c) (a1 m c) (a2 m c) (a3 m c) (a4 m c),
    fun c => val_main_v10 (F := Ideal) (a0 m c) (a1 m c) (a3 m c),
    fun c => val_main_v16 (F := Ideal) (a0 m c) (a1 m c) (a4 m c),
    (θ_run _ _ _).mono (fun _ k c =>
      ⟨(k c).1.trans (final0 m c), (k c).2.1.trans (final1 m c), (k c).2.2.1.trans (final2 m c),
        (k c).2.2.2.1.trans (final3 m c), (k c).2.2.2.2.2⟩)
      (Cert.AdamUpIdeal.Value.run_blocks m ρ),
    (θ_run _ _ _).mono (fun _ k c => by
      obtain ⟨e0, e1, e2, e3, e4⟩ := hag c
      refine ⟨(k c).1.trans ?_, (k c).2.1.trans ?_, (k c).2.2.1.trans ?_, (k c).2.2.2.1.trans ?_, (k c).2.2.2.2⟩
      · refine (val_main_v5_eq _ _).trans ?_; simp only [e0, e1]
      · refine (val_main_v29_eq _ _ _ _ _).trans ?_; simp only [e0, e1, e2, e3, e4]
      · refine (val_main_v10_eq _ _ _).trans ?_; simp only [e0, e1, e3]
      · refine (val_main_v16_eq _ _ _).trans ?_; simp only [e0, e1, e4])
      (Cert.AdamUpRefIdeal.Value.run m' ρ')⟩

end Cert.Proof

end
-- ==== Proof.Finite.lean ====
/-
What a finite array is over the extended reals: an array of reals, on which a value split in a rounded part and two
remainders multiplies as the value itself.
-/
module

public import proofs.«01_k».proof.Defs
public import Idealize.ShloMosaic.Lib.Pipeline.ValueKit

@[expose] public section

noncomputable section

open Idealize.ShloMosaic Idealize.ShloMosaic.TcCoe Idealize.SL.Sem

namespace Cert.Finite

theorem ofBits_top : Ideal.ofBits .f32 0x7F800000#32 = ⊤ := by
  simp [Ideal.ofBits, Ideal.ieee]

/-- An array whose every absolute value is below infinity holds reals. -/
theorem real_of_finite {s : Shape} (x : FVec Ideal s .f32) (b : (⟨0, ![]⟩ : Shape).BroadcastsInDim s (![] : Fin 0 → Fin s.rank))
    (h : cmpf .olt (Host.absf x) (broadcastInDim s ![] b (constant ⟨0, ![]⟩ .f32 0x7F800000#32)) = fun _ => 1#1) (i : s.Idx) :
    x i = (((x i : EReal).toReal : ℝ) : EReal) := by
  have e := congrFun h i
  pointwise [] at e
  rw [ofBits_top] at e
  have hlt : (max (x i) (-(x i)) : EReal) < ⊤ := by
    by_contra hn
    rw [decide_eq_false (by exact hn)] at e
    exact absurd e (by decide)
  refine (EReal.coe_toReal (fun ht => ?_) fun hb => ?_).symm
  · rw [ht] at hlt; exact absurd hlt (by simp)
  · rw [hb] at hlt; exact absurd hlt (by simp)

/-- Over the extended reals a real's rounded part is itself and both remainders are 0, whatever they are multiplied by. -/
theorem sum_split {n : ℕ} (x o : Fin n → EReal) (hx : ∀ k, x k = ((x k).toReal : EReal)) :
    (∑ k, x k * o k) + (∑ k, (x k - x k) * o k) + (∑ k, (x k - x k - (x k - x k)) * o k) = ∑ k, x k * o k := by
  have z : ∀ k, x k - x k = 0 := fun k => by rw [hx k, ← EReal.coe_sub, sub_self, EReal.coe_zero]
  simp only [z, sub_zero, zero_mul, Finset.sum_const_zero, add_zero]

end Cert.Finite

end
-- ==== Proof.BiasBwd.lean ====
/-
The gradient of the relative-position bias table: on a finite bias gradient, over the extended reals, the kernel's product
with the one-hot rows, summed in three parts, is the derivative of `(onehot @ table).T`.
-/
module

public import proofs.«01_k».proof.Defs
public import proofs.«01_k».proof.Proof.Finite
public import proofs.«01_k».proof.Proof.Gen.BiasBwdIdeal.Value
public import proofs.«01_k».proof.Proof.Gen.BiasBwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.BiasBwdRefIdeal.Product

open Cert.BiasBwdRefIdeal Cert.BiasBwdRefIdeal.Gen Cert.BiasBwdRefIdeal.Read

/-- Entry (h, b) is the sum over the places of the gradient's row h times the one-hot's column b. -/
theorem ref_apply (x0 : (⟨Cert.BiasBwdRefIdeal.S16x256x128, .f32⟩ : BufTy).Contents (Elt Ideal)) (x1 : (⟨Cert.BiasBwdRefIdeal.S32768x32, .bf16⟩ : BufTy).Contents (Elt Ideal)) (i : S16x32.Idx) :
    val_main_v9 (F := Ideal) x0 x1 i = (∑ k : Fin 32768, x0 (ix3 (i 0) ⟨k.val / 128, by have := k.isLt; omega⟩ ⟨k.val % 128, Nat.mod_lt _ (by omega)⟩) * x1 (ix2 k (i 1)) : EReal) := by
  pointwise [val_main_v9, val_main_v8, val_main_v7, val_main_v6, val_main_v5, val_main_v1]

end Cert.BiasBwdRefIdeal.Product

/-! ## The kernel's result array -/

namespace Cert.BiasBwdIdeal.Product

open Cert.BiasBwdIdeal Cert.BiasBwdIdeal.Gen Cert.BiasBwdRefIdeal.Product

variable (m : (ℓ : Loc nD τ sig) → Buf (Elt Ideal) ℓ) (ρ : Dev nD → PrngReg)

theorem idx0 : ∀ t : Fin cfg0.N, win0_0.index t = ![0, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)

/-- The kernel's result array is the reference's function of the arguments. -/
theorem final [hPre : Cert.Pre_finite_dbias.Facts] (h : Cert.Pre_BiasBwdIdeal_finite_dbias m) (c : Dev nD) : (dats m 0 c).arrAt 2 cfg0.N
    = Cert.BiasBwdRefIdeal.Read.val_main_v9 (F := Ideal) (m ((c : Thread nD τ).loc main_arg0)) (m ((c : Thread nD τ).loc main_arg1)) := by
  have hx := Cert.Finite.real_of_finite (m ((c : Thread nD τ).loc main_arg0)) hPre.bcast_S_S16x256x128 (h c)
  refine (dats m 0 c).arrAt_eq_of_covers 2 _ (by decide +kernel) fun t hf y => ?_
  blk_simp
  rw [after0_2]
  frame_out
  rw [ref_apply]
  pointwise [k0_pay1]
  refine Eq.trans ?_ (Cert.Finite.sum_split _ _ fun k => hx (ix3 _ ⟨k.val / 128, by have := k.isLt; omega⟩ ⟨k.val % 128, Nat.mod_lt _ (by omega)⟩))
  blk_point [iblk, V, idx0 t, idx1 t, idx2 t]

end Cert.BiasBwdIdeal.Product

namespace Cert.Proof

theorem algebraic_BiasBwd [hPre : Cert.Pre_finite_dbias.Facts] : Cert.algebraic_BiasBwdIdeal_BiasBwdRefIdeal_pre_finite_dbias := fun m ρ m' ρ' h hag =>
  ⟨fun c => Cert.BiasBwdRefIdeal.Read.val_main_v9 (F := Ideal) (m ((c.tc : Thread Cert.BiasBwdIdeal.nD Cert.BiasBwdIdeal.τ).loc Cert.BiasBwdIdeal.main_arg0)) (m ((c.tc : Thread Cert.BiasBwdIdeal.nD Cert.BiasBwdIdeal.τ).loc Cert.BiasBwdIdeal.main_arg1)),
    (θ_run _ _ _).mono (fun _ k c => ⟨(k c).1.trans (Cert.BiasBwdIdeal.Product.final m h c), (k c).2.2⟩)
      (Cert.BiasBwdIdeal.Value.run_blocks m ρ),
    (θ_run _ _ _).mono (fun _ k c => ⟨(k c).1.trans (by rw [(hag c).1, (hag c).2]; rfl), (k c).2⟩)
      (Cert.BiasBwdRefIdeal.Value.run m' ρ')⟩

end Cert.Proof

end
-- ==== Proof.BiasFwd.lean ====
/-
The relative-position bias of the attention scores, in both layouts: on a finite table, over the extended reals, the
kernel's products with the one-hot rows, each summed in three parts, are `(onehot @ table).T`.
-/
module

public import proofs.«01_k».proof.Defs
public import proofs.«01_k».proof.Proof.Finite
public import proofs.«01_k».proof.Proof.Gen.BiasFwdIdeal.Value
public import proofs.«01_k».proof.Proof.Gen.BiasFwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.BiasFwdRefIdeal.Product

open Cert.BiasFwdRefIdeal Cert.BiasFwdRefIdeal.Gen Cert.BiasFwdRefIdeal.Read

variable (x0 : (⟨Cert.BiasFwdRefIdeal.S32x16, .f32⟩ : BufTy).Contents (Elt Ideal)) (x1 : (⟨Cert.BiasFwdRefIdeal.S32768x32, .bf16⟩ : BufTy).Contents (Elt Ideal))

/-- Entry (h, k) is the sum over the buckets of the table's column h times the one-hot's row k. -/
theorem ref_bias (i : S16x32768.Idx) :
    val_main_v2 (F := Ideal) x0 x1 i = (∑ b : Fin 32, x0 (ix2 b (i 0)) * x1 (ix2 (i 1) b) : EReal) := by
  refine Eq.trans ?_ (Finset.sum_congr rfl fun b _ => mul_comm (x1 (ix2 (i 1) b) : EReal) (x0 (ix2 b (i 0))))
  pointwise [val_main_v2, val_main_v1, val_main_v0]

theorem ref_bias_kq (i : S16x32768.Idx) :
    val_main_v5 (F := Ideal) x0 x1 i = (∑ b : Fin 32, x0 (ix2 b (i 0)) * x1 (ix2 (i 1) b) : EReal) :=
  ref_bias x0 x1 i

end Cert.BiasFwdRefIdeal.Product

/-! ## The kernel's result arrays -/

namespace Cert.BiasFwdIdeal.Product

open Cert.BiasFwdIdeal Cert.BiasFwdIdeal.Gen Cert.BiasFwdRefIdeal.Product

variable (m : (ℓ : Loc nD τ sig) → Buf (Elt Ideal) ℓ) (ρ : Dev nD → PrngReg)

theorem idx0 : ∀ t : Fin cfg0.N, win0_0.index t = ![0, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)

/-- The result array over the one-hot rows of argument 1 is the reference's function of the arguments. -/
theorem bias [hPre : Cert.Pre_finite_table.Facts] (h : Cert.Pre_BiasFwdIdeal_finite_table m) (c : Dev nD) : (dats m 0 c).arrAt 3 cfg0.N
    = Cert.BiasFwdRefIdeal.Read.val_main_v2 (F := Ideal) (m ((c : Thread nD τ).loc main_arg0)) (m ((c : Thread nD τ).loc main_arg1)) := by
  have hx := Cert.Finite.real_of_finite (m ((c : Thread nD τ).loc main_arg0)) hPre.bcast_S_S32x16 (h c)
  refine (dats m 0 c).arrAt_eq_of_covers 3 _ (by decide +kernel) fun t hf y => ?_
  blk_simp
  rw [after0_3]
  frame_out
  rw [ref_bias]
  pointwise [k0_pay6, k0_pay5, k0_pay4, k0_pay3, k0_pay2, k0_pay1]
  refine Eq.trans ?_ (Cert.Finite.sum_split _ _ fun k => hx (ix2 k _))
  blk_point [iblk, V, idx0 t, idx1 t, idx3 t]

/-- The result array over the one-hot rows of argument 2 is the reference's function of the arguments. -/
theorem bias_kq [hPre : Cert.Pre_finite_table.Facts] (h : Cert.Pre_BiasFwdIdeal_finite_table m) (c : Dev nD) : (dats m 0 c).arrAt 4 cfg0.N
    = Cert.BiasFwdRefIdeal.Read.val_main_v5 (F := Ideal) (m ((c : Thread nD τ).loc main_arg0)) (m ((c : Thread nD τ).loc main_arg2)) := by
  have hx := Cert.Finite.real_of_finite (m ((c : Thread nD τ).loc main_arg0)) hPre.bcast_S_S32x16 (h c)
  refine (dats m 0 c).arrAt_eq_of_covers 4 _ (by decide +kernel) fun t hf y => ?_
  blk_simp
  rw [after0_4]
  frame_out
  rw [ref_bias_kq]
  pointwise [k0_pay7, k0_pay5, k0_pay4, k0_pay3, k0_pay2, k0_pay1]
  refine Eq.trans ?_ (Cert.Finite.sum_split _ _ fun k => hx (ix2 k _))
  blk_point [iblk, V, idx0 t, idx2 t, idx4 t]

end Cert.BiasFwdIdeal.Product

namespace Cert.Proof

theorem algebraic_BiasFwd [hPre : Cert.Pre_finite_table.Facts] : Cert.algebraic_BiasFwdIdeal_BiasFwdRefIdeal_pre_finite_table := fun m ρ m' ρ' h hag =>
  ⟨fun c => Cert.BiasFwdRefIdeal.Read.val_main_v2 (F := Ideal) (m ((c.tc : Thread Cert.BiasFwdIdeal.nD Cert.BiasFwdIdeal.τ).loc Cert.BiasFwdIdeal.main_arg0)) (m ((c.tc : Thread Cert.BiasFwdIdeal.nD Cert.BiasFwdIdeal.τ).loc Cert.BiasFwdIdeal.main_arg1)),
    fun c => Cert.BiasFwdRefIdeal.Read.val_main_v5 (F := Ideal) (m ((c.tc : Thread Cert.BiasFwdIdeal.nD Cert.BiasFwdIdeal.τ).loc Cert.BiasFwdIdeal.main_arg0)) (m ((c.tc : Thread Cert.BiasFwdIdeal.nD Cert.BiasFwdIdeal.τ).loc Cert.BiasFwdIdeal.main_arg2)),
    (θ_run _ _ _).mono (fun _ k c => ⟨(k c).1.trans (Cert.BiasFwdIdeal.Product.bias m h c), (k c).2.1.trans (Cert.BiasFwdIdeal.Product.bias_kq m h c),
        (k c).2.2.2⟩)
      (Cert.BiasFwdIdeal.Value.run_blocks m ρ),
    (θ_run _ _ _).mono (fun _ k c => ⟨(k c).1.trans (by rw [(hag c).1, (hag c).2.1]; rfl), (k c).2.1.trans (by rw [(hag c).1, (hag c).2.2]; rfl), (k c).2.2⟩)
      (Cert.BiasFwdRefIdeal.Value.run m' ρ')⟩

end Cert.Proof

end
-- ==== Proof.DownBwd.lean ====
/-
The backward step through the down projection and the squared rectifier: over the extended reals the kernel's tiles are
the blocks of the derivative of `relu(pre)² @ w_down` in `pre`.
-/
module

public import proofs.«01_k».proof.Defs
public import proofs.«01_k».proof.Proof.Gen.DownBwdIdeal.Value
public import proofs.«01_k».proof.Proof.Gen.DownBwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.DownBwdRefIdeal.Product

open Cert.DownBwdRefIdeal Cert.DownBwdRefIdeal.Gen Cert.DownBwdRefIdeal.Read

/-- Both halves of the square's derivative are equal, and where `x ≤ 0` both sides vanish. -/
theorem twice (s x : EReal) :
    (if 0 < x then max x 0 * s + s * max x 0 else 0) = s * (2 * max x 0) := by
  split
  · rw [mul_left_comm, show (2 : EReal) = 1 + 1 from one_add_one_eq_two.symm,
      EReal.right_distrib_of_nonneg zero_le_one zero_le_one, one_mul, mul_comm (max x 0) s]
  · rw [max_eq_right (not_lt.mp ‹_›), mul_zero, mul_zero]

/-- Entry (p, q) is the back-projected cotangent times twice the rectified activation. -/
theorem ref_apply (x0 : (⟨Cert.DownBwdRefIdeal.S4096x8192, .f32⟩ : BufTy).Contents (Elt Ideal)) (x1 : (⟨Cert.DownBwdRefIdeal.S4096x2048, .bf16⟩ : BufTy).Contents (Elt Ideal)) (x2 : (⟨Cert.DownBwdRefIdeal.S8192x2048, .bf16⟩ : BufTy).Contents (Elt Ideal)) (i : S4096x8192.Idx) :
    val_main_v14 (F := Ideal) x0 x1 x2 i = ((∑ k : Fin 2048, x1 (ix2 (i 0) k) * x2 (ix2 (i 1) k)) * (2 * max (x0 i) 0) : EReal) := by
  pointwise [val_main_v14, val_main_v13, val_main_v12, val_main_v11, val_main_v10, val_main_v9, val_main_v8, val_main_v7, val_main_v5, val_main_v3, val_main_v2, val_main_v1, val_main_v0, val_main_call0_v0, val_main_call0_cst, val_main_cst, val_main_cst_1]
  exact twice _ _

end Cert.DownBwdRefIdeal.Product

/-! ## The kernel's result array -/

namespace Cert.DownBwdIdeal.Product

open Cert.DownBwdIdeal Cert.DownBwdIdeal.Gen

variable (m : (ℓ : Loc nD τ sig) → Buf (Elt Ideal) ℓ) (ρ : Dev nD → PrngReg)

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 1).val, 0] :=
  (by decide +kernel : ∀ t : Fin grid0.N, _)
theorem idx3 : ∀ t : Fin cfg0.N, win0_3.index t = ![(grid0.coords t 0).val, (grid0.coords t 1).val] :=
  (by decide +kernel : ∀ t : Fin grid0.N, _)

/-- The array that the kernel reads as `z` is the rectified `pre`: the host lines before the region compute it. -/
theorem V_z (c : Dev nD) (i : S4096x8192.Idx) :
    V m c main_v1 i = (max (m ((c : Thread nD τ).loc main_arg0) i) 0 : EReal) := by
  simp only [V, hostOps0, hostOps0_1, List.flatten_cons, List.flatten_nil, List.append_nil, List.cons_append, List.nil_append]
  entry_read
  show (max (m ((c : Thread nD τ).loc main_arg0) i) (Ideal.ofBits .f32 0x00000000#32) : EReal) = _
  rw [Ideal.ofBits_zero_f32]

theorem ofBits_two : Ideal.ofBits .f32 0x40000000#32 = 2 := by
  simp [Ideal.ofBits, Ideal.ieee]
  rw [← EReal.coe_mul]
  norm_num
  rfl

theorem iblk_z (c : Dev nD) (t : Fin cfg0.N) (j : S1024x1024.Idx) :
    iblk m c 1 t j = (max (m ((c : Thread nD τ).loc main_arg0) ((win0_1.blk t).view.emb j)) 0 : EReal) :=
  V_z m c _

/-- The kernel's result array is the reference's function of the arguments: every point writes back its block of it. -/
theorem final (c : Dev nD) : (dats m 0 c).arrAt 3 cfg0.N
    = Cert.DownBwdRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [Cert.DownBwdRefIdeal.Product.ref_apply]
  pointwise [k0_pay1]
  rw [iblk_z, ofBits_two]
  blk_point [iblk, V, idx0 t, idx1 t, idx2 t, idx3 t]

end Cert.DownBwdIdeal.Product

namespace Cert.Proof

theorem algebraic_DownBwd : Cert.algebraic_DownBwdIdeal_DownBwdRefIdeal := fun m ρ m' ρ' _ hag =>
  ⟨fun c => Cert.DownBwdRefIdeal.Read.val_main_v14 (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)),
    (θ_run _ _ _).mono (fun _ h c => ⟨(h c).1.trans (Cert.DownBwdIdeal.Product.final m c), (h c).2.2⟩)
      (Cert.DownBwdIdeal.Value.run_blocks m ρ),
    (θ_run _ _ _).mono (fun _ h c => ⟨(h c).1.trans (by rw [(hag c).1, (hag c).2.1, (hag c).2.2]; rfl), (h c).2⟩)
      (Cert.DownBwdRefIdeal.Value.run m' ρ')⟩

end Cert.Proof

end
-- ==== Proof.DownFwd.lean ====
/-
The down projection with the squared rectifier and the residual: over the extended reals each output tile, started from
the residual and accumulated over the two halves of the hidden axis, is a block of `h + z² @ w_down`.
-/
module

public import proofs.«01_k».proof.Defs
public import proofs.«01_k».proof.Proof.Gen.DownFwdIdeal.Value
public import proofs.«01_k».proof.Proof.Gen.DownFwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.DownFwdRefIdeal.Product

open Cert.DownFwdRefIdeal Cert.DownFwdRefIdeal.Gen Cert.DownFwdRefIdeal.Read

/-- Entry (p, q) is the residual plus the sum over the hidden axis of the squared activation's row p times the weight's column q. -/
theorem ref_apply (x0 : (⟨Cert.DownFwdRefIdeal.S4096x2048, .f32⟩ : BufTy).Contents (Elt Ideal)) (x1 : (⟨Cert.DownFwdRefIdeal.S4096x8192, .bf16⟩ : BufTy).Contents (Elt Ideal)) (x2 : (⟨Cert.DownFwdRefIdeal.S8192x2048, .bf16⟩ : BufTy).Contents (Elt Ideal)) (i : S4096x2048.Idx) :
    val_main_v4 (F := Ideal) x0 x1 x2 i = (x0 i + ∑ k : Fin 8192, (x1 (ix2 (i 0) k) * x1 (ix2 (i 0) k)) * x2 (ix2 k (i 1)) : EReal) := by
  pointwise [val_main_v4, val_main_v3, val_main_v2, val_main_v1, val_main_v0]

end Cert.DownFwdRefIdeal.Product

/-! ## The kernel's result array -/

namespace Cert.DownFwdIdeal.Product

open Cert.DownFwdIdeal Cert.DownFwdIdeal.Gen

variable (m : (ℓ : Loc nD τ sig) → Buf (Elt Ideal) ℓ) (ρ : Dev nD → PrngReg)

theorem idx0 : ∀ t : Fin cfg0.N, win0_0.index t = ![t.val / 4, t.val / 2 % 2] :=
  (by decide +kernel : ∀ t : Fin grid0.N, _)
theorem idx1 : ∀ t : Fin cfg0.N, win0_1.index t = ![t.val / 4, t.val % 2] :=
  (by decide +kernel : ∀ t : Fin grid0.N, _)
theorem idx2 : ∀ t : Fin cfg0.N, win0_2.index t = ![t.val % 2, t.val / 2 % 2] :=
  (by decide +kernel : ∀ t : Fin grid0.N, _)
theorem idx3 : ∀ t : Fin cfg0.N, win0_3.index t = ![t.val / 4, t.val / 2 % 2] :=
  (by decide +kernel : ∀ t : Fin grid0.N, _)

/-- The kernel's result array is the reference's function of the arguments: every point writes back its block of it. -/
theorem final (c : Dev nD) : (dats m 0 c).arrAt 3 cfg0.N
    = Cert.DownFwdRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  rw [Cert.DownFwdRefIdeal.Product.ref_apply]
  have h1 : t.val % 2 = 1 := (flush0_3 t).mp hf
  have hlt' : t.val - 1 < cfg0.N := Nat.lt_of_le_of_lt (Nat.sub_le _ _) t.isLt
  rw [outsAt0_B m c t (by omega)]
  frame_out
  rw [outsAt0_A m c ⟨t.val - 1, hlt'⟩ (by show (t.val - 1) % 2 = 0; omega)]
  frame_out
  pointwise [k0_pay1]
  rw [add_assoc]
  congr 1
  · blk_point [iblk, V, idx0 ⟨t.val - 1, hlt'⟩, idx3 t]
  refine Eq.trans ?_ (Fin.sum_univ_add (a := 4096) (b := 4096) (M := EReal) _).symm
  congr 1
  · blk_point [iblk, V, idx1 ⟨t.val - 1, hlt'⟩, idx2 ⟨t.val - 1, hlt'⟩, idx3 t] <;> simp only [Fin.val_castAdd] <;> omega
  · blk_point [iblk, V, idx1 t, idx2 t, idx3 t] <;> simp only [Fin.val_natAdd] <;> omega

end Cert.DownFwdIdeal.Product

namespace Cert.Proof

theorem algebraic_DownFwd : Cert.algebraic_DownFwdIdeal_DownFwdRefIdeal := fun m ρ m' ρ' _ hag =>
  ⟨fun c => Cert.DownFwdRefIdeal.Read.val_main_v4 (F := Ideal) (m ((c.tc : Thread Cert.DownFwdIdeal.nD Cert.DownFwdIdeal.τ).loc Cert.DownFwdIdeal.main_arg0)) (m ((c.tc : Thread Cert.DownFwdIdeal.nD Cert.DownFwdIdeal.τ).loc Cert.DownFwdIdeal.main_arg1)) (m ((c.tc : Thread Cert.DownFwdIdeal.nD Cert.DownFwdIdeal.τ).loc Cert.DownFwdIdeal.main_arg2)),
    (θ_run _ _ _).mono (fun _ h c => ⟨(h c).1.trans (Cert.DownFwdIdeal.Product.final m c), (h c).2.2⟩)
      (Cert.DownFwdIdeal.Value.run_blocks m ρ),
    (θ_run _ _ _).mono (fun _ h c => ⟨(h c).1.trans (by rw [(hag c).1, (hag c).2.1, (hag c).2.2]; rfl), (h c).2⟩)
      (Cert.DownFwdRefIdeal.Value.run m' ρ')⟩

end Cert.Proof

end
-- ==== Proof.Gate.lean ====
/-
The spatial gate's backward pass over the reals, for one group of 128 lanes: what the kernel and the plain
differentiation both compute where every argument is finite. A matrix is a function of a row and a lane; a chunk is 128
consecutive rows, so row `r` lies in the chunk starting at `r / 128 * 128`, at position `r % 128`.
-/
module

public import proofs.«01_k».proof.Defs
public import Idealize.ShloMosaic.Lib.Pipeline.ValueKit

@[expose] public section

set_option maxRecDepth 16384

noncomputable section

namespace Cert.Gate

open Idealize.ShloMosaic

/-! ## The literals -/

/-- The activation's scale, as the f32 word both programs hold. -/
def scale : ℝ := (Ideal.ofBits .f32 0x3F4C422A#32).toReal

/-- The normalization's ridge, as the f32 word both programs hold. -/
def ridge : ℝ := (Ideal.ofBits .f32 0x3727C5AC#32).toReal

theorem word_scale : Ideal.ofBits .f32 0x3F4C422A#32 = ((scale : ℝ) : EReal) := by
  refine (EReal.coe_toReal ?_ ?_).symm <;> simp [Ideal.ofBits, Ideal.ieee] <;> norm_cast

theorem word_ridge : Ideal.ofBits .f32 0x3727C5AC#32 = ((ridge : ℝ) : EReal) := by
  refine (EReal.coe_toReal ?_ ?_).symm <;> simp [Ideal.ofBits, Ideal.ieee] <;> norm_cast

theorem ridge_pos : 0 < ridge := by
  simp only [ridge, Ideal.ofBits, Ideal.ieee]
  simp
  rw [← EReal.coe_mul, EReal.toReal_coe]
  positivity

theorem word_half : Ideal.ofBits .f32 0x3F000000#32 = ((1 / 2 : ℝ) : EReal) := by
  simp [Ideal.ofBits, Ideal.ieee]
  exact_mod_cast (by norm_num : (8388608 : ℝ) * (2 ^ 24)⁻¹ = 2⁻¹)

theorem word_one : Ideal.ofBits .f32 0x3F800000#32 = ((1 : ℝ) : EReal) := by
  simp [Ideal.ofBits, Ideal.ieee]
  exact_mod_cast (by norm_num : (8388608 : ℝ) * (2 ^ 23)⁻¹ = 1)

theorem word_lanes : Ideal.ofBits .f32 0x43000000#32 = ((128 : ℝ) : EReal) := by
  simp [Ideal.ofBits, Ideal.ieee]
  exact_mod_cast (by norm_num : (8388608 : ℝ) * (2 ^ 16)⁻¹ = 128)

theorem word_zero : Ideal.ofBits .f32 0x00000000#32 = ((0 : ℝ) : EReal) := by
  simp [Ideal.ofBits, Ideal.ieee]

theorem word_neg_half : Ideal.ofBits .f32 0xBF000000#32 = ((-(1 / 2) : ℝ) : EReal) := by
  simp [Ideal.ofBits, Ideal.ieee]
  exact_mod_cast (by norm_num : (8388608 : ℝ) * (2 ^ 24)⁻¹ = 2⁻¹)

theorem word_num : Ideal.ofBits .f32 0x472EAB00#32 = ((44715 : ℝ) : EReal) := by
  simp [Ideal.ofBits, Ideal.ieee]
  exact_mod_cast (by norm_num : (11447040 : ℝ) * (2 ^ 8)⁻¹ = 44715)

theorem word_den : Ideal.ofBits .f32 0x49742400#32 = ((1000000 : ℝ) : EReal) := by
  simp [Ideal.ofBits, Ideal.ieee]
  exact_mod_cast (by norm_num : (16000000 : ℝ) * (2 ^ 4)⁻¹ = 1000000)

/-! ## Reals among the extended reals -/

theorem coe_sum {ι : Type} (s : Finset ι) (f : ι → ℝ) : (∑ i ∈ s, ((f i : ℝ) : EReal)) = ((∑ i ∈ s, f i : ℝ) : EReal) := by
  classical
  induction s using Finset.induction_on with
  | empty => rfl
  | insert a s ha ih => rw [Finset.sum_insert ha, Finset.sum_insert ha, ih, EReal.coe_add]

theorem coe_div (x y : ℝ) (h : y ≠ 0) : Ideal.div (x : EReal) (y : EReal) = ((x / y : ℝ) : EReal) := by
  rw [Ideal.div_coe h, ← EReal.coe_mul, mul_one_div]

theorem coe_rsqrt (x : ℝ) (h : 0 < x) : Ideal.rsqrt (x : EReal) = (((Real.sqrt x)⁻¹ : ℝ) : EReal) := by
  rw [Ideal.rsqrt_coe, if_neg h.le.not_gt, if_neg h.ne']

theorem coe_ite (p : Prop) [Decidable p] (x y : ℝ) :
    (if p then ((x : ℝ) : EReal) else ((y : ℝ) : EReal)) = (((if p then x else y) : ℝ) : EReal) := by
  split <;> rfl

/-! ## The activation and its derivative -/

def th (x : ℝ) : ℝ := Real.tanh (scale * x * (1 + 8943 / 200000 * (x * x)))

def act (x : ℝ) : ℝ := 1 / 2 * x * (1 + th x)

def actd (x : ℝ) : ℝ :=
  1 / 2 * (1 + th x) + 1 / 2 * x * (1 - th x * th x) * (scale * (1 + 26829 / 200000 * (x * x)))

/-- The activation's inner polynomial, its coefficient a quotient. -/
theorem th_quot (x : ℝ) : Real.tanh (scale * (x + x * x * x * 44715 / 1000000)) = th x := by
  rw [th]; congr 1; ring

/-- The derivative as the chain rule leaves it, term by term. -/
theorem actd_chain (x y : ℝ) :
    scale * (1 / 2 * x * y * ((1 + th x) * (1 - th x))) +
      x * x * (scale * (1 / 2 * x * y * ((1 + th x) * (1 - th x))) / 1000000 * 44715) +
      x * (scale * (1 / 2 * x * y * ((1 + th x) * (1 - th x))) / 1000000 * 44715 * x) +
      scale * (1 / 2 * x * y * ((1 + th x) * (1 - th x))) / 1000000 * 44715 * x * x +
      1 / 2 * (y * (1 + th x)) = y * actd x := by
  rw [actd]; ring

/-! ## A row of 128 lanes -/

def mean (x : ℕ → ℝ) : ℝ := (∑ e : Fin 128, x e) / 128

def cen (x : ℕ → ℝ) (d : ℕ) : ℝ := x d - mean x

def var (x : ℕ → ℝ) : ℝ := mean fun e => cen x e * cen x e

theorem var_ridge_pos (x : ℕ → ℝ) : 0 < var x + ridge :=
  add_pos_of_nonneg_of_pos (div_nonneg (Finset.sum_nonneg fun _ _ => mul_self_nonneg _) (by norm_num)) ridge_pos

def rstd (x : ℕ → ℝ) : ℝ := (Real.sqrt (var x + ridge))⁻¹

def hat (x : ℕ → ℝ) (d : ℕ) : ℝ := cen x d * rstd x

/-- The normalization's backward pass: the cotangent `y` of the normalized row `x`. -/
def lnb (x y : ℕ → ℝ) (d : ℕ) : ℝ := rstd x * (y d - mean y - hat x d * mean fun e => y e * hat x e)

theorem rstd_cube (x : ℕ → ℝ) : rstd x / (var x + ridge) = rstd x * (rstd x * rstd x) := by
  have h := var_ridge_pos x
  rw [rstd, ← mul_inv, Real.mul_self_sqrt h.le, div_eq_mul_inv]

theorem sum_cen (x : ℕ → ℝ) : ∑ e : Fin 128, cen x e = 0 := by
  simp only [cen, mean, Finset.sum_sub_distrib, Finset.sum_const, Finset.card_univ, Fintype.card_fin, nsmul_eq_mul]
  push_cast
  ring

/-- The factor the variance's cotangent contributes to each lane, half of it. -/
def slope (x y : ℕ → ℝ) : ℝ := (∑ e : Fin 128, cen x e * y e) * (-(1 / 2) * (rstd x / (var x + ridge))) / 128

/-- The centred row's cotangent, term by term. -/
def cenc (x y : ℕ → ℝ) (d : ℕ) : ℝ := y d * rstd x + cen x d * slope x y + slope x y * cen x d

/-- The cotangent as the chain rule leaves it, the centring's mean taken off last. -/
theorem lnb_chain (x y : ℕ → ℝ) (d : ℕ) : cenc x y d + (∑ e : Fin 128, -cenc x y e) / 128 = lnb x y d := by
  have h1 : ∑ e : Fin 128, -cenc x y e = -((∑ e : Fin 128, y e) * rstd x) := by
    rw [Finset.sum_neg_distrib]
    simp only [cenc, Finset.sum_add_distrib, ← Finset.sum_mul, ← Finset.mul_sum, sum_cen]
    ring
  have h2 : ∑ e : Fin 128, y e * hat x e = (∑ e : Fin 128, cen x e * y e) * rstd x := by
    rw [Finset.sum_mul]
    exact Finset.sum_congr rfl fun e _ => by rw [hat]; ring
  rw [h1, lnb, mean, mean, h2, cenc, slope, rstd_cube, hat]
  ring

/-! ## A group: `U`, `V` the two halves, `D` the cotangent, `L`, `B` the normalization's gain and bias, `W`, `b` the
spatial mixing's weight and bias -/

variable (U V D W : ℕ → ℕ → ℝ) (L B b : ℕ → ℝ)

def vact (r d : ℕ) : ℝ := act (V r d)

def vhat (r d : ℕ) : ℝ := hat (vact V r) d

def vn (r d : ℕ) : ℝ := vhat V r d * L d + B d

def tril (t s : ℕ) : ℝ := if s ≤ t then W t s else 0

def mixed (r d : ℕ) : ℝ := (∑ s : Fin 128, tril W (r % 128) s * vn V L B (r / 128 * 128 + s) d) + b (r % 128)

def dmix (r d : ℕ) : ℝ := D r d * act (U r d)

def dvn (r d : ℕ) : ℝ := ∑ t : Fin 128, tril W t (r % 128) * dmix U D (r / 128 * 128 + t) d

def du (r d : ℕ) : ℝ := D r d * mixed V W L B b r d * actd (U r d)

def dv (r d : ℕ) : ℝ := lnb (vact V r) (fun e => dvn U D W r e * L e) d * actd (V r d)

/-- The group's lanes of the first half of a row. -/
def half (P : ℕ → ℕ → ℝ) (g r d : ℕ) : ℝ := P r (g * 128 + d)

/-- The group's lanes of the second half of a row. -/
def half' (P : ℕ → ℕ → ℝ) (g r d : ℕ) : ℝ := P r (1024 + (g * 128 + d))

/-! ## A chunk starting at row `o` -/

variable {o p : ℕ} (ho : o % 128 = 0) (hp : p < 128)
include ho hp

theorem mixed_chunk (d : ℕ) :
    mixed V W L B b (o + p) d = (∑ s : Fin 128, tril W p s * vn V L B (o + s) d) + b p := by
  rw [mixed, show (o + p) % 128 = p by omega, show (o + p) / 128 * 128 = o by omega]

theorem dvn_chunk (d : ℕ) : dvn U D W (o + p) d = ∑ t : Fin 128, tril W t p * dmix U D (o + t) d := by
  rw [dvn, show (o + p) % 128 = p by omega, show (o + p) / 128 * 128 = o by omega]

end Cert.Gate

end
-- ==== Proof.GateRef.lean ====
/-
The plain differentiation of the spatial gate at an index, where every argument is finite: each value it computes is the
real the gate's mathematics gives.
-/
module

public import proofs.«01_k».proof.Defs
public import proofs.«01_k».proof.Proof.Gate
public import proofs.«01_k».proof.Proof.Gen.ReferenceIdeal.Read
public import Idealize.ShloMosaic.Lib.Pipeline.ValueKit

@[expose] public section

set_option maxRecDepth 16384

noncomputable section

namespace Cert.ReferenceIdeal.Gate

open Idealize.ShloMosaic Idealize.ShloMosaic.TcCoe Cert.ReferenceIdeal Cert.ReferenceIdeal.Gen Cert.ReferenceIdeal.Read
open Cert.Gate

/-- Every entry of the array of rows, groups and lanes is the real `X` gives, the group first. -/
abbrev Ig (x : FVec Ideal S4096x8x128 .f32) (X : ℕ → ℕ → ℕ → ℝ) : Prop :=
  ∀ i, x i = ((X (i 1) (i 0) (i 2) : ℝ) : EReal)

/-- The same of the array of chunks, positions, groups and lanes, the group first. -/
abbrev Ic (x : FVec Ideal S32x128x8x128 .f32) (X : ℕ → ℕ → ℕ → ℝ) : Prop :=
  ∀ i, x i = ((X (i 2) (i 0 * 128 + i 1) (i 3) : ℝ) : EReal)

variable {x0 : FVec Ideal S4096x3328 .f32} {x1 : FVec Ideal S4096x1024 .f32} {x2 x3 : FVec Ideal S1x8x128 .f32}
  {x4 : FVec Ideal S1x8x128x128 .f32} {x5 : FVec Ideal S1x8x128 .f32}
  {P D L B M : ℕ → ℕ → ℝ} {W : ℕ → ℕ → ℕ → ℝ}
  (h0 : ∀ i, x0 i = ((P (i 0) (i 1) : ℝ) : EReal)) (h1 : ∀ i, x1 i = ((D (i 0) (i 1) : ℝ) : EReal))
  (h2 : ∀ i, x2 i = ((L (i 1) (i 2) : ℝ) : EReal)) (h3 : ∀ i, x3 i = ((B (i 1) (i 2) : ℝ) : EReal))
  (h4 : ∀ i, x4 i = ((W (i 1) (i 2) (i 3) : ℝ) : EReal)) (h5 : ∀ i, x5 i = ((M (i 1) (i 2) : ℝ) : EReal))

/-! ## The activation -/

include h0 in
theorem at_v1 : Ig (val_main_v1 (F := Ideal) x0) (half P) := fun i => by
  pointwise [val_main_v1, val_main_v0]
  exact h0 _

include h0 in
theorem at_v3 : Ig (val_main_v3 (F := Ideal) x0) (half' P) := fun i => by
  pointwise [val_main_v3, val_main_v2]
  exact h0 _

include h0 in
theorem at_v19 : Ig (val_main_v19 (F := Ideal) x0) fun g r d => th (half P g r d) := fun i => by
  pointwise [val_main_v19, val_main_v18, val_main_v17, val_main_v16, val_main_v15, val_main_v14, val_main_v13, val_main_v12,
    val_main_v11, val_main_v10, val_main_cst_0, val_main_cst_1, val_main_cst_2]
  simp only [at_v1 h0 i, word_num, word_den, word_scale, ← EReal.coe_mul, ← EReal.coe_add, coe_div _ 1000000 (by norm_num),
    Ideal.tanh_coe, th_quot]

include h0 in
theorem at_v39 : Ig (val_main_v39 (F := Ideal) x0) fun g r d => th (half' P g r d) := fun i => by
  pointwise [val_main_v39, val_main_v38, val_main_v37, val_main_v36, val_main_v35, val_main_v34, val_main_v33, val_main_v32,
    val_main_v31, val_main_v30, val_main_cst_7, val_main_cst_8, val_main_cst_9]
  simp only [at_v3 h0 i, word_num, word_den, word_scale, ← EReal.coe_mul, ← EReal.coe_add, coe_div _ 1000000 (by norm_num),
    Ideal.tanh_coe, th_quot]

include h0 in
theorem at_v27 : Ig (val_main_v27 (F := Ideal) x0) fun g r d => act (half P g r d) := fun i => by
  pointwise [val_main_v27, val_main_v26, val_main_v25, val_main_v9, val_main_v8, val_main_cst, val_main_cst_5]
  simp only [at_v1 h0 i, at_v19 h0 i, word_half, ← EReal.coe_one, ← EReal.coe_mul, ← EReal.coe_add, act]

include h0 in
theorem at_v47 : Ig (val_main_v47 (F := Ideal) x0) fun g => vact (half' P g) := fun i => by
  pointwise [val_main_v47, val_main_v46, val_main_v45, val_main_v29, val_main_v28, val_main_cst_6, val_main_cst_12]
  simp only [at_v3 h0 i, at_v39 h0 i, word_half, ← EReal.coe_one, ← EReal.coe_mul, ← EReal.coe_add, vact, act]

/-! ## The normalization -/

include h0 in
theorem at_v53 : Ig (val_main_v53 (F := Ideal) x0) fun g r => cen (vact (half' P g) r) := fun i => by
  pointwise [val_main_v53, val_main_v52, val_main_v51, val_main_v50, val_main_v49, val_main_v48, val_main_cst_13, val_main_cst_14]
  simp only [at_v47 h0, word_lanes, coe_sum, coe_div _ 128 (by norm_num), ← EReal.coe_sub, cen, mean]
  rfl

include h0 in
theorem at_v60 (i) : val_main_v60 (F := Ideal) x0 i = ((var (vact (half' P (i 1)) (i 0)) + ridge : ℝ) : EReal) := by
  pointwise [val_main_v60, val_main_v59, val_main_v58, val_main_v57, val_main_v56, val_main_v55, val_main_v54, val_main_cst_15, val_main_cst_16, val_main_cst_17]
  simp only [at_v53 h0, word_lanes, word_ridge, ← EReal.coe_mul, coe_sum, coe_div _ 128 (by norm_num), ← EReal.coe_add]
  rfl

include h0 in
theorem at_v61 (i) : val_main_v61 (F := Ideal) x0 i = ((rstd (vact (half' P (i 1)) (i 0)) : ℝ) : EReal) := by
  pointwise [val_main_v61]
  rw [at_v60 h0]
  exact coe_rsqrt _ (var_ridge_pos _)

include h0 in
theorem at_v64 (i) : val_main_v64 (F := Ideal) x0 i = ((-(1 / 2) * (rstd (vact (half' P (i 1)) (i 0)) /
    (var (vact (half' P (i 1)) (i 0)) + ridge)) : ℝ) : EReal) := by
  pointwise [val_main_v64, val_main_v63, val_main_v62, val_main_cst_18]
  rw [at_v60 h0, at_v61 h0, coe_div _ _ (var_ridge_pos _).ne', word_neg_half, ← EReal.coe_mul]

include h0 in
theorem at_v66 : Ig (val_main_v66 (F := Ideal) x0) fun g => vhat (half' P g) := fun i => by
  pointwise [val_main_v66, val_main_v65]
  simp only [at_v53 h0, at_v61 h0, ← EReal.coe_mul]
  rfl

include h0 h2 h3 in
theorem at_v72 : Ig (val_main_v72 (F := Ideal) x0 x2 x3) fun g => vn (half' P g) (L g) (B g) := fun i => by
  pointwise [val_main_v72, val_main_v71, val_main_v70, val_main_v69, val_main_v68, val_main_v67, val_main_v5, val_main_v4]
  simp only [at_v66 h0, h2, h3, ← EReal.coe_mul, ← EReal.coe_add]
  rfl

include h0 h2 h3 in
theorem at_v73 : Ic (val_main_v73 (F := Ideal) x0 x2 x3) fun g => vn (half' P g) (L g) (B g) := fun i => by
  pointwise [val_main_v73]
  exact at_v72 h0 h2 h3 _

/-! ## The mixing -/

theorem word_ge (x y : Fin 128) :
    IntOp.cmpi .sge (IntOp.addi (BitVec.ofNat 32 x) 0#32) (BitVec.ofNat 32 y) = if y ≤ x then 1#1 else 0#1 := by
  revert x y; decide +kernel

theorem select_word (p : Prop) [Decidable p] (x : ℝ) :
    Scalar.select (if p then 1#1 else 0#1) (x : EReal) 0 = ((if p then x else 0 : ℝ) : EReal) := by
  split <;> rfl

/-- The mask keeps the entries on and below the diagonal. -/
theorem at_v78_1 (i : S8x128x128.Idx) : val_main_v78_1 (F := Ideal) i = if (i 2 : ℕ) ≤ i 1 then 1#1 else 0#1 := by
  pointwise [val_main_v78_1, val_main_v76, val_main_v75, val_main_v74, val_main_c, val_main_call0_v0, val_main_call0_c, val_main_call0_v1, val_main_call0_v2, val_main_call0_v3, val_main_call0_v4, val_main_call0_c_0, val_main_call0_v5]
  rw [show (if (i 2 : ℕ) ≤ i 1 then 1#1 else 0#1) = _ from (word_ge (i 1) (i 2)).symm]
  generalize IntOp.cmpi .sge _ _ = b
  revert b; decide

include h4 in
theorem at_v78_0 (i : S8x128x128.Idx) : val_main_v78_0 (F := Ideal) x4 i = ((tril (W (i 0)) (i 1) (i 2) : ℝ) : EReal) := by
  pointwise [val_main_v78_0, val_main_v77, val_main_cst_19, val_main_v6]
  rw [at_v78_1, h4]
  exact select_word _ _

include h0 h2 h3 h4 h5 in
theorem at_v84 : Ic (val_main_v84 (F := Ideal) x0 x2 x3 x4 x5)
    fun g => mixed (half' P g) (W g) (L g) (B g) (M g) := fun i => by
  pointwise [val_main_v84, val_main_v80, val_main_v79, val_main_v83, val_main_v82, val_main_v81, val_main_v7]
  rw [mixed_chunk _ _ _ _ _ (Nat.mul_mod_left _ _) (i 1).isLt]
  simp only [at_v73 h0 h2 h3, at_v78_0 h4, h5, mul_comm (vn _ _ _ _ _), ← EReal.coe_mul, coe_sum, ← EReal.coe_add]
  rfl

include h0 h2 h3 h4 h5 in
theorem at_v85 : Ig (val_main_v85 (F := Ideal) x0 x2 x3 x4 x5)
    fun g => mixed (half' P g) (W g) (L g) (B g) (M g) := fun i => by
  pointwise [val_main_v85]
  rw [at_v84 h0 h2 h3 h4 h5]
  exact congrArg (fun r => ((mixed _ _ _ _ _ r _ : ℝ) : EReal)) (Nat.div_add_mod' _ _)

include h1 in
theorem at_v87 : Ig (val_main_v87 (F := Ideal) x1) (half D) := fun i => by
  pointwise [val_main_v87]
  exact h1 _

include h0 h1 in
theorem at_v88 : Ig (val_main_v88 (F := Ideal) x0 x1) fun g => dmix (half P g) (half D g) := fun i => by
  pointwise [val_main_v88]
  rw [at_v27 h0, at_v87 h1, ← EReal.coe_mul, mul_comm, dmix]

include h0 h1 in
theorem at_v90 : Ic (val_main_v90 (F := Ideal) x0 x1) fun g => dmix (half P g) (half D g) := fun i => by
  pointwise [val_main_v90]
  exact at_v88 h0 h1 _

include h0 h1 h4 in
theorem at_v98 : Ic (val_main_v98 (F := Ideal) x0 x1 x4) fun g => dvn (half P g) (half D g) (W g) := fun i => by
  pointwise [val_main_v98, val_main_v97, val_main_v95]
  rw [dvn_chunk _ _ _ (Nat.mul_mod_left _ _) (i 1).isLt]
  simp only [at_v90 h0 h1, at_v78_0 h4, mul_comm (dmix _ _ _ _), ← EReal.coe_mul, coe_sum]
  rfl

include h0 h1 h4 in
theorem at_v100 : Ig (val_main_v100 (F := Ideal) x0 x1 x4) fun g => dvn (half P g) (half D g) (W g) := fun i => by
  pointwise [val_main_v100]
  rw [at_v98 h0 h1 h4]
  exact congrArg (fun r => ((dvn _ _ _ r _ : ℝ) : EReal)) (Nat.div_add_mod' _ _)

/-! ## The normalization's and the activation's derivatives -/

include h0 h1 h2 h4 in
theorem at_v108 : Ig (val_main_v108 (F := Ideal) x0 x1 x2 x4)
    fun g r d => dvn (half P g) (half D g) (W g) r d * L g d := fun i => by
  pointwise [val_main_v108, val_main_v107, val_main_v67, val_main_v4]
  simp only [at_v100 h0 h1 h4, h2, ← EReal.coe_mul]
  rfl

include h0 h1 h2 h4 in
theorem at_v118 (i) : val_main_v118 (F := Ideal) x0 x1 x2 x4 i =
    ((slope (vact (half' P (i 1)) (i 0)) (fun e => dvn (half P (i 1)) (half D (i 1)) (W (i 1)) (i 0) e * L (i 1) e) : ℝ) :
      EReal) := by
  pointwise [val_main_v118, val_main_cst_28, val_main_v117, val_main_v116, val_main_cst_27, val_main_v115, val_main_v112,
    val_main_v111, val_main_v110, val_main_cst_26]
  simp only [at_v108 h0 h1 h2 h4, at_v53 h0, at_v64 h0, word_lanes, ← EReal.coe_mul, coe_sum, coe_div _ 128 (by norm_num),
    Fintype.sum_unique]
  rfl

include h0 h1 h2 h4 in
theorem at_v123 : Ig (val_main_v123 (F := Ideal) x0 x1 x2 x4)
    fun g r => cenc (vact (half' P g) r) fun e => dvn (half P g) (half D g) (W g) r e * L g e := fun i => by
  pointwise [val_main_v123, val_main_v122, val_main_v121, val_main_v120, val_main_v119, val_main_v114, val_main_v113]
  simp only [at_v108 h0 h1 h2 h4, at_v53 h0, at_v61 h0, at_v118 h0 h1 h2 h4, ← EReal.coe_mul, ← EReal.coe_add]
  rfl

include h0 h1 h2 h4 in
theorem at_v131 : Ig (val_main_v131 (F := Ideal) x0 x1 x2 x4)
    fun g r => lnb (vact (half' P g) r) fun e => dvn (half P g) (half D g) (W g) r e * L g e := fun i => by
  pointwise [val_main_v131, val_main_v130, val_main_v129, val_main_v128, val_main_v127, val_main_v126, val_main_v125,
    val_main_v124, val_main_cst_29, val_main_cst_30, val_main_cst_31]
  simp only [at_v123 h0 h1 h2 h4, word_lanes, ← EReal.coe_neg, coe_sum, coe_div _ 128 (by norm_num), Fintype.sum_unique,
    ← EReal.coe_add]
  exact congrArg _ (lnb_chain _ _ _)

include h0 h1 h2 h4 in
theorem at_v150 : Ig (val_main_v150 (F := Ideal) x0 x1 x2 x4)
    fun g => dv (half P g) (half' P g) (half D g) (W g) (L g) := fun i => by
  pointwise [val_main_v150, val_main_v149, val_main_v148, val_main_v147, val_main_v146, val_main_v145, val_main_v144,
    val_main_v143, val_main_v142, val_main_v141, val_main_v140, val_main_v139, val_main_v138, val_main_v137, val_main_v136,
    val_main_v135, val_main_v134, val_main_v133, val_main_v132, val_main_v46, val_main_v45, val_main_v44, val_main_v43,
    val_main_v42, val_main_v41, val_main_v40, val_main_v30, val_main_v29, val_main_v28, val_main_cst_6, val_main_cst_10,
    val_main_cst_11, val_main_cst_12, val_main_cst_32, val_main_cst_33, val_main_cst_34, val_main_cst_35]
  simp only [at_v131 h0 h1 h2 h4, at_v3 h0 i, at_v39 h0 i, word_half, word_num, word_den, word_scale, ← EReal.coe_one,
    ← EReal.coe_mul, ← EReal.coe_add, ← EReal.coe_sub, coe_div _ 1000000 (by norm_num)]
  exact congrArg _ (actd_chain _ _)

include h0 h1 h2 h3 h4 h5 in
theorem at_v169 : Ig (val_main_v169 (F := Ideal) x0 x1 x2 x3 x4 x5)
    fun g => du (half P g) (half' P g) (half D g) (W g) (L g) (B g) (M g) := fun i => by
  pointwise [val_main_v169, val_main_v168, val_main_v167, val_main_v166, val_main_v165, val_main_v164, val_main_v163,
    val_main_v162, val_main_v161, val_main_v160, val_main_v159, val_main_v158, val_main_v157, val_main_v156, val_main_v155,
    val_main_v154, val_main_v153, val_main_v152, val_main_v151, val_main_v89, val_main_v26, val_main_v25, val_main_v24,
    val_main_v23, val_main_v22, val_main_v21, val_main_v20, val_main_v10, val_main_v9, val_main_v8, val_main_cst,
    val_main_cst_3, val_main_cst_4, val_main_cst_5, val_main_cst_36, val_main_cst_37, val_main_cst_38, val_main_cst_39]
  simp only [at_v85 h0 h2 h3 h4 h5, at_v87 h1 i, at_v1 h0 i, at_v19 h0 i, word_half, word_num, word_den, word_scale,
    ← EReal.coe_one, ← EReal.coe_mul, ← EReal.coe_add, ← EReal.coe_sub, coe_div _ 1000000 (by norm_num)]
  exact congrArg _ (actd_chain _ _)

/-! ## The results -/

include h0 h1 h2 h3 h4 h5 in
theorem at_v173 (i) : val_main_v173 (F := Ideal) x0 x1 x2 x3 x4 x5 i =
    ((if (i 1 : ℕ) < 1024 then
        du (half P (i 1 / 128)) (half' P (i 1 / 128)) (half D (i 1 / 128)) (W (i 1 / 128)) (L (i 1 / 128)) (B (i 1 / 128))
          (M (i 1 / 128)) (i 0) (i 1 % 128)
      else dv (half P ((i 1 - 1024) / 128)) (half' P ((i 1 - 1024) / 128)) (half D ((i 1 - 1024) / 128))
        (W ((i 1 - 1024) / 128)) (L ((i 1 - 1024) / 128)) (i 0) ((i 1 - 1024) % 128) : ℝ) : EReal) := by
  pointwise [val_main_v173, val_main_v172, val_main_v170, val_main_v171]
  split
  · exact at_v169 h0 h1 h2 h3 h4 h5 _
  · exact at_v150 h0 h1 h2 h4 _

include h0 h1 h4 in
theorem at_v174 (i) : val_main_v174 (F := Ideal) x0 x1 x4 i =
    ((∑ r : Fin 4096, dvn (half P (i 1 / 128)) (half D (i 1 / 128)) (W (i 1 / 128)) r (i 1 % 128) *
      vhat (half' P (i 1 / 128)) r (i 1 % 128) : ℝ) : EReal) := by
  pointwise [val_main_v174, val_main_v109, val_main_v106, val_main_v105, val_main_v104, val_main_cst_24, val_main_cst_25]
  simp only [at_v66 h0, at_v100 h0 h1 h4, mul_comm (vhat _ _ _), ← EReal.coe_mul, coe_sum, Fintype.sum_unique]
  rfl

include h0 h1 h4 in
theorem at_v175 (i) : val_main_v175 (F := Ideal) x0 x1 x4 i =
    ((∑ r : Fin 4096, dvn (half P (i 1 / 128)) (half D (i 1 / 128)) (W (i 1 / 128)) r (i 1 % 128) : ℝ) : EReal) := by
  pointwise [val_main_v175, val_main_v103, val_main_v102, val_main_v101, val_main_cst_22, val_main_cst_23]
  simp only [at_v100 h0 h1 h4, coe_sum, Fintype.sum_unique]
  rfl

include h0 h1 h2 h3 in
theorem at_v99 (i) : val_main_v99 (F := Ideal) x0 x1 x2 x3 i =
    ((tril (fun t s => ∑ c : Fin 32, ∑ d : Fin 128, dmix (half P (i 0)) (half D (i 0)) (c * 128 + t) d *
      vn (half' P (i 0)) (L (i 0)) (B (i 0)) (c * 128 + s) d) (i 1) (i 2) : ℝ) : EReal) := by
  pointwise [val_main_v99, val_main_v96, val_main_v95, val_main_call2_v0, val_main_call2_cst]
  simp only [at_v78_1, at_v90 h0 h1, at_v73 h0 h2 h3, ← EReal.coe_mul, coe_sum]
  exact select_word _ _

/-- The indices of a rank-4 array a sum over its first and last axes adds up. -/
theorem drop_iff {n0 n1 n2 n3 : ℕ} (h : (⟨4, ![n0, n1, n2, n3]⟩ : Shape).ReducesTo [0, 3] ⟨2, ![n1, n2]⟩)
    (j : (⟨2, ![n1, n2]⟩ : Shape).Idx) (i : (⟨4, ![n0, n1, n2, n3]⟩ : Shape).Idx) :
    h.drop i = j ↔ ∃ k : Fin n0 × Fin n3, ix4 k.1 (j 0) (j 1) k.2 = i := by
  constructor
  · rintro rfl
    refine ⟨(i 0, i 3), funext fun a => Fin.ext ?_⟩
    fin_cases a <;> rfl
  · rintro ⟨k, rfl⟩
    funext a
    fin_cases a <;> rfl

/-- The host's sum at an index, over what names the indices it adds up. -/
theorem sum_fiber {s t : Shape} {axes : List (Fin s.rank)} (h : s.ReducesTo axes t) (v : s.Idx → EReal) (init : EReal)
    (j : t.Idx) {K : Type} [Fintype K] (g : K → s.Idx) (hg : Function.Injective g) (hp : ∀ i, h.drop i = j ↔ ∃ k, g k = i) :
    Ideal.hostReduceAdd h v init j = init + ∑ k, v (g k) :=
  congrArg (init + ·) (Finset.sum_filter_eq_sum_of_fiber _ g hg hp v)

/-- The host's sum over the first and last axes, as a sum over the first of sums over the last. -/
theorem sum_first_last {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ k₁ : Fin n0, ∑ k₂ : Fin n3, v (ix4 k₁ (j 0) (j 1) k₂) := by
  rw [sum_fiber h v init j (fun k : Fin n0 × Fin n3 => ix4 k.1 (j 0) (j 1) k.2)
    (fun _ _ e => Prod.ext (congrFun e 0) (congrFun e 3)) (drop_iff h j), Fintype.sum_prod_type]

include h0 h1 in
theorem at_v91 (i) : val_main_v91 (F := Ideal) x0 x1 i = ((∑ c : Fin 32, ∑ d : Fin 128,
    dmix (half P (i 1)) (half D (i 1)) (c * 128 + i 0) d : ℝ) : EReal) := by
  pointwise [val_main_v91, val_main_cst_20]
  rw [sum_first_last]
  simp only [at_v90 h0 h1, coe_sum, zero_add]
  rfl

include h0 h1 in
theorem at_v176 (i) : val_main_v176 (F := Ideal) x0 x1 i = ((∑ c : Fin 32, ∑ d : Fin 128,
    dmix (half P (i 1)) (half D (i 1)) (c * 128 + i 0) d : ℝ) : EReal) := by
  pointwise [val_main_v176, val_main_v94, val_main_v93, val_main_cst_21]
  rw [sum_first_last, zero_add, Fintype.sum_unique, Fintype.sum_unique, val_main_v92_apply, at_v91 h0 h1]
  have e0 : (idx_main_v92 (ix4 default (i 0) (i 1) default) 0 : ℕ) = i 0 := by
    show (((((default : Fin 1) : ℕ) * 128 + (i 0 : ℕ)) * 8 + (i 1 : ℕ)) * 1 + ((default : Fin 1) : ℕ)) / 8 = _
    have : (i 1 : ℕ) < 8 := (i 1).isLt
    have : (default : Fin 1).val = 0 := rfl
    omega
  have e1 : (idx_main_v92 (ix4 default (i 0) (i 1) default) 1 : ℕ) = i 1 := by
    show (((((default : Fin 1) : ℕ) * 128 + (i 0 : ℕ)) * 8 + (i 1 : ℕ)) * 1 + ((default : Fin 1) : ℕ)) % 8 = _
    have : (i 1 : ℕ) < 8 := (i 1).isLt
    have : (default : Fin 1).val = 0 := rfl
    omega
  rw [e0, e1]

end Cert.ReferenceIdeal.Gate

end
-- ==== Proof.GateTile.lean ====
/-
The gate's backward pass on one tile of 512 rows and 128 lanes: each of the kernel's values at an index, where every entry
it reads is a real.
-/
module

public import proofs.«01_k».proof.Defs
public import proofs.«01_k».proof.Proof.Gate
public import proofs.«01_k».proof.Proof.Gen.KernelIdeal.Value
public import Idealize.ShloMosaic.Lib.Pipeline.ValueKit

@[expose] public section

set_option maxRecDepth 16384

noncomputable section

namespace Cert.KernelIdeal.Tile

open Idealize.ShloMosaic Idealize.ShloMosaic.TcCoe Cert.KernelIdeal Cert.KernelIdeal.Gen Cert.Gate

theorem named_c1 : Named.named (F := Ideal) κ "c1" (φ := .f32) 0x3D372713#32 = ((8943 / 200000 : ℝ) : EReal) :=
  IdealRules.named_const.ideal_named_scalar _ _ _ _ rfl

theorem named_c3 : Named.named (F := Ideal) κ "c3" (φ := .f32) 0x3E095D4F#32 = ((26829 / 200000 : ℝ) : EReal) :=
  IdealRules.named_const.ideal_named_scalar _ _ _ _ rfl

/-- Every entry of the tile is the real `X` gives. -/
abbrev Is {φ : FTy} (x : FVec Ideal S512x128 φ) (X : ℕ → ℕ → ℝ) : Prop := ∀ i, x i = ((X (i 0) (i 1) : ℝ) : EReal)

/-- Every entry of the 128 by 128 tile is the real `X` gives. -/
abbrev Iq {φ : FTy} (x : FVec Ideal S128x128 φ) (X : ℕ → ℕ → ℝ) : Prop := ∀ i, x i = ((X (i 0) (i 1) : ℝ) : EReal)

/-! ## The activation -/

theorem pay12 {v : FVec Ideal S512x128 .f32} {V} (h : Is v V) : Is (k0_pay12 v) fun r d => th (V r d) := fun i => by
  pointwise [k0_pay12, k0_pay11]
  simp only [h, word_scale, ← EReal.coe_one, named_c1, ← EReal.coe_mul, ← EReal.coe_add, Ideal.tanh_coe, th]

theorem pay13 {v : FVec Ideal S512x128 .f32} {V} (h : Is v V) : Is (k0_pay13 v) (vact V) := fun i => by
  pointwise [k0_pay13]
  simp only [h, pay12 h, word_half, ← EReal.coe_one, ← EReal.coe_mul, ← EReal.coe_add, vact, act]

theorem pay17 {v : FVec Ideal S512x128 .f32} {V} (h : Is v V) :
    Is (k0_pay17 (k0_pay14 v) (k0_pay15 v) (k0_pay16 v)) fun r d => actd (V r d) := fun i => by
  pointwise [k0_pay17, k0_pay14, k0_pay15, k0_pay16, k0_pay11]
  simp only [h, pay12 h, word_scale, word_half, ← EReal.coe_one, named_c3, ← EReal.coe_mul, ← EReal.coe_add,
    ← EReal.coe_sub, actd]

/-! ## The normalization -/

theorem pay18 {v : FVec Ideal S512x128 .f32} {V} (h : Is v V) : Is (k0_pay18 v) fun r => cen (V r) := fun i => by
  pointwise [k0_pay18]
  simp only [h, word_lanes, coe_sum, coe_div _ 128 (by norm_num), ← EReal.coe_sub, cen, mean]
  rfl

theorem pay19 {v : FVec Ideal S512x128 .f32} {V} (h : Is v V) (i) : k0_pay19 v i = ((rstd (V (i 0)) : ℝ) : EReal) := by
  pointwise [k0_pay19]
  simp only [pay18 h, word_lanes, word_ridge, ← EReal.coe_mul, coe_sum, coe_div _ 128 (by norm_num), ← EReal.coe_add]
  exact coe_rsqrt _ (var_ridge_pos (V (i 0)))

theorem pay20 {v : FVec Ideal S512x128 .f32} {V} (h : Is v V) : Is (k0_pay20 v) fun r => hat (V r) := fun i => by
  pointwise [k0_pay20]
  simp only [pay18 h, pay19 h, ← EReal.coe_mul, hat]
  rfl

theorem pay21 {v : FVec Ideal S512x128 .f32} {lg lb : FVec Ideal S1x128 .f32} {V L B} (h : Is v V)
    (hl : ∀ i, lg i = ((L (i 1) : ℝ) : EReal)) (hb : ∀ i, lb i = ((B (i 1) : ℝ) : EReal)) :
    Is (k0_pay21 (k0_pay10 lg) (k0_pay13 v) lb) (vn V L B) := fun i => by
  pointwise [k0_pay21, k0_pay10]
  simp only [pay20 (pay13 h), hl, hb, ← EReal.coe_mul, ← EReal.coe_add, vn, vhat]
  rfl

/-- The normalization's backward pass of the cotangent `y`, times the activation's derivative. -/
theorem pay59 {v y : FVec Ideal S512x128 .f32} {lg : FVec Ideal S1x128 .f32} {V Y : ℕ → ℕ → ℝ} {L : ℕ → ℝ} (h : Is v V)
    (hl : ∀ i, lg i = ((L (i 1) : ℝ) : EReal)) (hy : Is y Y) :
    Is (k0_pay59 (k0_pay10 lg) (k0_pay17 (k0_pay14 v) (k0_pay15 v) (k0_pay16 v)) (k0_pay19 (k0_pay13 v))
      (k0_pay20 (k0_pay13 v)) y)
      fun r d => lnb (vact V r) (fun e => Y r e * L e) d * actd (V r d) := fun i => by
  pointwise [k0_pay59, k0_pay10]
  simp only [hy, pay17 h, pay20 (pay13 h), pay19 (pay13 h),
    hl, word_lanes, ← EReal.coe_mul, coe_sum, coe_div _ 128 (by norm_num), ← EReal.coe_sub, lnb, mean]
  rfl

/-! ## The spatial mixing -/

theorem pay24 {u : FVec Ideal S512x128 .f32} {U} (h : Is u U) : Is (k0_pay24 u) fun r d => act (U r d) := pay13 h

theorem pay26 {u : FVec Ideal S512x128 .f32} {U} (h : Is u U) :
    Is (k0_pay26 u (k0_pay22 u) (k0_pay23 u) (k0_pay25 u)) fun r d => actd (U r d) := pay17 h

theorem word_le (x y : Fin 128) : IntOp.cmpi .sle (BitVec.ofNat 32 x) (BitVec.ofNat 32 y) = if x ≤ y then 1#1 else 0#1 := by
  revert x y; decide +kernel

theorem word_ge (x y : Fin 128) : IntOp.cmpi .sge (BitVec.ofNat 32 x) (BitVec.ofNat 32 y) = if y ≤ x then 1#1 else 0#1 := by
  revert x y; decide +kernel

theorem select_word (p : Prop) [Decidable p] (x : ℝ) :
    Scalar.select (if p then 1#1 else 0#1) (x : EReal) 0 = ((if p then x else 0 : ℝ) : EReal) := by
  split <;> rfl

theorem pay27 {w : FVec Ideal S1x128x128 .f32} {W : ℕ → ℕ → ℝ} (h : ∀ i, w i = ((W (i 1) (i 2) : ℝ) : EReal)) :
    Iq (k0_pay27 k0_pay8 w) (tril W) := fun i => by
  pointwise [k0_pay27, k0_pay8]
  rw [h]
  exact (congrArg (fun b => Scalar.select b _ _) (word_ge (i 0) (i 1))).trans (select_word _ _)

theorem pay28 {w : FVec Ideal S1x128x128 .f32} {W : ℕ → ℕ → ℝ} (h : ∀ i, w i = ((W (i 2) (i 1) : ℝ) : EReal)) :
    Iq (k0_pay28 k0_pay9 w) fun s t => tril W t s := fun i => by
  pointwise [k0_pay28, k0_pay9]
  rw [h]
  exact (congrArg (fun b => Scalar.select b _ _) (word_le (i 0) (i 1))).trans (select_word _ _)

/-- The 128 rows of a tile starting at row `o`. -/
def rows {φ : FTy} (o : ℕ) (ho : S512x128.Slices ![o, 0] S128x128) (x : FVec Ideal S512x128 φ) : FVec Ideal S128x128 φ :=
  extractStridedSlice S128x128 ![o, 0] x ho

theorem rows_at {φ : FTy} {o : ℕ} (ho : S512x128.Slices ![o, 0] S128x128) {x : FVec Ideal S512x128 φ} {X} (h : Is x X) :
    Iq (rows o ho x) fun p => X (o + p) := fun i => by
  pointwise [rows]
  exact h _

/-- The four chunks of a tile, each read off its 128 rows. -/
theorem stack {φ : FTy} {x0 x1 x2 x3 : FVec Ideal S128x128 φ} {X : ℕ → ℕ → ℝ} (h0 : Iq x0 X) (h1 : Iq x1 fun p => X (128 + p))
    (h2 : Iq x2 fun p => X (256 + p)) (h3 : Iq x3 fun p => X (384 + p)) :
    Is (concatenate S512x128 0 [⟨S128x128, x0⟩, ⟨S128x128, x1⟩, ⟨S128x128, x2⟩, ⟨S128x128, x3⟩]
      concatenates_S128x128_S128x128_S128x128_S128x128_S512x128_d0) X := fun i => by
  have hi : (i 0 : ℕ) < 512 := (i 0).isLt
  pointwise []
  split
  · exact h0 _
  split
  · refine (h1 _).trans ?_
    exact congrArg (fun n => ((X n (i 1) : ℝ) : EReal)) (by show 128 + ((i 0 : ℕ) - 128) = _; omega)
  split
  · refine (h2 _).trans ?_
    exact congrArg (fun n => ((X n (i 1) : ℝ) : EReal)) (by show 256 + ((i 0 : ℕ) - 128 - 128) = _; omega)
  · refine (h3 _).trans ?_
    exact congrArg (fun n => ((X n (i 1) : ℝ) : EReal)) (by show 384 + ((i 0 : ℕ) - 128 - 128 - 128) = _; omega)

/-- A chunk of the mixing, times the cotangent. -/
def mix (o : ℕ) (ho : S512x128.Slices ![o, 0] S128x128) (y : FVec Ideal S512x128 .bf16) (a : FVec Ideal S512x128 .f32)
    (w : FVec Ideal S128x128 .bf16) (b : FVec Ideal S128x1 .f32) : FVec Ideal S128x128 .f32 :=
  mulf (rows o ho a) (addf (matmul dot_S128x128_S128x128_S128x128_1_0_0_1_n_n none w (rows o ho y)
    (constant S128x128 .f32 0x00000000#32)) (broadcastTo S128x128 b broadcasts_S128x1_S128x128))

theorem mix_at {o : ℕ} (ho : S512x128.Slices ![o, 0] S128x128) {y : FVec Ideal S512x128 .bf16}
    {a : FVec Ideal S512x128 .f32} {w : FVec Ideal S128x128 .bf16} {b : FVec Ideal S128x1 .f32}
    {Y A W : ℕ → ℕ → ℝ} {B : ℕ → ℝ} (hy : Is y Y) (ha : Is a A) (hw : Iq w W) (hb : ∀ i, b i = ((B (i 0) : ℝ) : EReal)) :
    Iq (mix o ho y a w b) fun p d => A (o + p) d * ((∑ s : Fin 128, W p s * Y (o + s) d) + B p) := fun i => by
  pointwise [mix]
  simp only [rows_at ho hy, rows_at ho ha, hw, hb, ← EReal.coe_mul, coe_sum, ← EReal.coe_add]
  rfl

/-- A chunk of the mixing's cotangent. -/
def cot (o : ℕ) (ho : S512x128.Slices ![o, 0] S128x128) (g a : FVec Ideal S512x128 .f32) : FVec Ideal S128x128 .f32 :=
  mulf (rows o ho a) (rows o ho g)

theorem cot_at {o : ℕ} (ho : S512x128.Slices ![o, 0] S128x128) {u a : FVec Ideal S512x128 .f32} {U A : ℕ → ℕ → ℝ}
    (hu : Is u U) (ha : Is a A) : Iq (cot o ho (k0_pay24 u) a) fun p => dmix U A (o + p) := fun i => by
  pointwise [cot]
  simp only [rows_at ho (pay24 hu), rows_at ho ha, ← EReal.coe_mul]
  rfl

/-- A chunk of the cotangent carried back through the mixing. -/
def back (o : ℕ) (ho : S512x128.Slices ![o, 0] S128x128) (g a : FVec Ideal S512x128 .f32)
    (w : FVec Ideal S128x128 .bf16) : FVec Ideal S128x128 .f32 :=
  matmul dot_S128x128_S128x128_S128x128_1_0_0_1_n_n none w (truncf .bf16 (cot o ho g a) bitsLt_bf16_f32)
    (constant S128x128 .f32 0x00000000#32)

theorem back_at {o : ℕ} (ho : S512x128.Slices ![o, 0] S128x128) {u a : FVec Ideal S512x128 .f32}
    {w : FVec Ideal S128x128 .bf16} {U A W : ℕ → ℕ → ℝ} (hu : Is u U) (ha : Is a A) (hw : Iq w W) :
    Iq (back o ho (k0_pay24 u) a w) fun p d => ∑ t : Fin 128, W p t * dmix U A (o + t) d := fun i => by
  pointwise [back]
  simp only [cot_at ho hu ha, hw, ← EReal.coe_mul, coe_sum]
  rfl

/-- A chunk's contribution to the mixing weight's gradient. -/
def outer (o : ℕ) (ho : S512x128.Slices ![o, 0] S128x128) (y : FVec Ideal S512x128 .bf16)
    (g a : FVec Ideal S512x128 .f32) : FVec Ideal S128x128 .f32 :=
  matmul dot_S128x128_S128x128_S128x128_1_1_0_0_n_n none (truncf .bf16 (cot o ho g a) bitsLt_bf16_f32) (rows o ho y)
    (constant S128x128 .f32 0x00000000#32)

theorem outer_at {o : ℕ} (ho : S512x128.Slices ![o, 0] S128x128) {y : FVec Ideal S512x128 .bf16}
    {u a : FVec Ideal S512x128 .f32} {U A Y : ℕ → ℕ → ℝ} (hu : Is u U) (ha : Is a A) (hy : Is y Y) :
    Iq (outer o ho y (k0_pay24 u) a) fun t s => ∑ d : Fin 128, dmix U A (o + t) d * Y (o + s) d := fun i => by
  pointwise [outer]
  simp only [cot_at ho hu ha, rows_at ho hy, ← EReal.coe_mul, coe_sum]
  rfl

/-- A chunk's contribution to the mixing bias's gradient. -/
def total (o : ℕ) (ho : S512x128.Slices ![o, 0] S128x128) (g a : FVec Ideal S512x128 .f32) : FVec Ideal S128x1 .f32 :=
  shapeCast S128x1 (multiReduction .add [1] S128 (cot o ho g a) 0x00000000#32 reduces_S128x128_S128 (.inl rfl) rfl)
    shapeCasts_S128_S128x1

theorem total_at {o : ℕ} (ho : S512x128.Slices ![o, 0] S128x128) {u a : FVec Ideal S512x128 .f32} {U A : ℕ → ℕ → ℝ}
    (hu : Is u U) (ha : Is a A) (i) :
    total o ho (k0_pay24 u) a i = ((∑ d : Fin 128, dmix U A (o + i 0) d : ℝ) : EReal) := by
  pointwise [total]
  simp only [cot_at ho hu ha, coe_sum]
  rfl

/-! ## What a tile stores -/

section Stores

variable (v u a : FVec Ideal S512x128 .f32) (w wt : FVec Ideal S1x128x128 .f32) (lg lb : FVec Ideal S1x128 .f32)
  (b : FVec Ideal S128x1 .f32)

/-- The normalized half. -/
def normed : FVec Ideal S512x128 .bf16 := k0_pay21 (k0_pay10 lg) (k0_pay13 v) lb

/-- The mixing, times the cotangent. -/
def mixes : FVec Ideal S512x128 .f32 :=
  k0_pay53 (k0_pay32 k0_pay8 (normed v lg lb) a w b)
    (k0_pay37 (normed v lg lb) a (k0_pay27 k0_pay8 w) (k0_pay29 b))
    (k0_pay41 (normed v lg lb) a (k0_pay27 k0_pay8 w) (k0_pay29 b))
    (k0_pay47 (normed v lg lb) a (k0_pay27 k0_pay8 w) (k0_pay29 b))

/-- The normalized half's cotangent. -/
def carried : FVec Ideal S512x128 .f32 :=
  k0_pay52 (k0_pay28 k0_pay9 wt) (k0_pay36 (k0_pay28 k0_pay9 wt) (k0_pay33 (k0_pay24 u) a))
    (k0_pay40 (k0_pay24 u) a (k0_pay28 k0_pay9 wt)) (k0_pay46 (k0_pay24 u) a (k0_pay28 k0_pay9 wt)) (k0_pay48 a)
    (k0_pay49 (k0_pay24 u))

def storeU : FVec Ideal S512x128 .bf16 :=
  k0_pay58 (k0_pay26 u (k0_pay22 u) (k0_pay23 u) (k0_pay25 u)) (mixes v a w lg lb b)

def storeV : FVec Ideal S512x128 .bf16 :=
  k0_pay59 (k0_pay10 lg) (k0_pay17 (k0_pay14 v) (k0_pay15 v) (k0_pay16 v)) (k0_pay19 (k0_pay13 v))
    (k0_pay20 (k0_pay13 v)) (carried u a wt)

def storeGain (acc : FVec Ideal S1x128 .f32) : FVec Ideal S1x128 .f32 :=
  k0_pay56 (k0_pay20 (k0_pay13 v)) (k0_pay28 k0_pay9 wt) (k0_pay36 (k0_pay28 k0_pay9 wt) (k0_pay33 (k0_pay24 u) a))
    (k0_pay40 (k0_pay24 u) a (k0_pay28 k0_pay9 wt)) (k0_pay46 (k0_pay24 u) a (k0_pay28 k0_pay9 wt)) (k0_pay48 a)
    (k0_pay49 (k0_pay24 u)) acc

def storeBias (acc : FVec Ideal S1x128 .f32) : FVec Ideal S1x128 .f32 :=
  k0_pay57 (k0_pay28 k0_pay9 wt) (k0_pay36 (k0_pay28 k0_pay9 wt) (k0_pay33 (k0_pay24 u) a))
    (k0_pay40 (k0_pay24 u) a (k0_pay28 k0_pay9 wt)) (k0_pay46 (k0_pay24 u) a (k0_pay28 k0_pay9 wt)) (k0_pay48 a)
    (k0_pay49 (k0_pay24 u)) acc

def storeWeight (acc : FVec Ideal S1x128x128 .f32) : FVec Ideal S1x128x128 .f32 :=
  k0_pay54 k0_pay8 (normed v lg lb)
    (k0_pay45 (normed v lg lb) (k0_pay24 u) a k0_pay30 (k0_pay33 (k0_pay24 u) a)) (k0_pay48 a) (k0_pay49 (k0_pay24 u)) acc

def storeTotal (acc : FVec Ideal S128x1 .f32) : FVec Ideal S128x1 .f32 :=
  k0_pay55 (k0_pay43 (k0_pay24 u) a k0_pay31 (k0_pay34 (k0_pay24 u) a)) (k0_pay48 a) (k0_pay49 (k0_pay24 u)) acc

end Stores

section StoresAt

variable {v u a : FVec Ideal S512x128 .f32} {w wt : FVec Ideal S1x128x128 .f32} {lg lb : FVec Ideal S1x128 .f32}
  {b : FVec Ideal S128x1 .f32} {V U A W : ℕ → ℕ → ℝ} {L B M : ℕ → ℝ}
  (hv : Is v V) (hu : Is u U) (ha : Is a A) (hw : ∀ i, w i = ((W (i 1) (i 2) : ℝ) : EReal))
  (hwt : ∀ i, wt i = ((W (i 2) (i 1) : ℝ) : EReal)) (hl : ∀ i, lg i = ((L (i 1) : ℝ) : EReal))
  (hlb : ∀ i, lb i = ((B (i 1) : ℝ) : EReal)) (hb : ∀ i, b i = ((M (i 0) : ℝ) : EReal))

include hv ha hw hl hlb hb in
theorem mixes_at : Is (mixes v a w lg lb b) fun r d => A r d * mixed V W L B M r d := by
  have hb' : ∀ i, (k0_pay29 b : FVec Ideal S128x1 .f32) i = ((M (i 0) : ℝ) : EReal) := fun i =>
    (show k0_pay29 b i = b i by pointwise [k0_pay29]).trans (hb i)
  have key : ∀ (o : ℕ) (ho : S512x128.Slices ![o, 0] S128x128), o % 128 = 0 →
      Iq (mix o ho (normed v lg lb) a (k0_pay27 k0_pay8 w) (k0_pay29 b)) fun p d => A (o + p) d * mixed V W L B M (o + p) d :=
    fun o ho h i => by
      refine (mix_at ho (pay21 hv hl hlb) ha (pay27 hw) hb' i).trans ?_
      exact congrArg (fun x : ℝ => ((A (o + i 0) (i 1) * x : ℝ) : EReal)) (mixed_chunk V W L B M h (i 0).isLt (i 1)).symm
  refine stack (fun i => ?_) (key 128 _ rfl) (key 256 _ rfl) (key 384 _ rfl)
  have := key 0 slices_S512x128_o0_0_S128x128 rfl i
  simp only [Nat.zero_add] at this
  exact this

include hu ha hwt in
theorem carried_at : Is (carried u a wt) (dvn U A W) := by
  have key : ∀ (o : ℕ) (ho : S512x128.Slices ![o, 0] S128x128), o % 128 = 0 →
      Iq (back o ho (k0_pay24 u) a (k0_pay28 k0_pay9 wt)) fun p => dvn U A W (o + p) :=
    fun o ho h i => by
      refine (back_at ho hu ha (pay28 hwt) i).trans ?_
      exact congrArg _ (dvn_chunk U A W h (i 0).isLt (i 1)).symm
  refine stack (fun i => ?_) (key 128 _ rfl) (key 256 _ rfl) (key 384 _ rfl)
  have := key 0 slices_S512x128_o0_0_S128x128 rfl i
  simp only [Nat.zero_add] at this
  exact this

include hv hu ha hw hl hlb hb in
theorem storeU_at : Is (storeU v u a w lg lb b) (du U V A W L B M) := fun i => by
  pointwise [storeU, k0_pay58]
  simp only [mixes_at hv ha hw hl hlb hb, pay26 hu, ← EReal.coe_mul]
  rfl

include hv hu ha hwt hl in
theorem storeV_at : Is (storeV v u a wt lg) (dv U V A W L) := pay59 hv hl (carried_at hu ha hwt)

include hv hu ha hwt in
theorem storeGain_at (acc : FVec Ideal S1x128 .f32) (i) :
    storeGain v u a wt acc i = acc i + ((∑ r : Fin 512, dvn U A W r (i 1) * vhat V r (i 1) : ℝ) : EReal) := by
  show (addf (shapeCast S1x128 acc shapeCasts_S1x128_S1x128) (shapeCast S1x128 (multiReduction .add [0] S128
    (mulf (carried u a wt) (k0_pay20 (k0_pay13 v))) 0x00000000#32 reduces_S512x128_S128 (.inl rfl) rfl)
    shapeCasts_S128_S1x128)) i = _
  pointwise []
  simp only [carried_at hu ha hwt, pay20 (pay13 hv), ← EReal.coe_mul, coe_sum]
  rfl

include hu ha hwt in
theorem storeBias_at (acc : FVec Ideal S1x128 .f32) (i) :
    storeBias u a wt acc i = acc i + ((∑ r : Fin 512, dvn U A W r (i 1) : ℝ) : EReal) := by
  show (addf (shapeCast S1x128 acc shapeCasts_S1x128_S1x128) (shapeCast S1x128 (multiReduction .add [0] S128
    (carried u a wt) 0x00000000#32 reduces_S512x128_S128 (.inl rfl) rfl) shapeCasts_S128_S1x128)) i = _
  pointwise []
  simp only [carried_at hu ha hwt, coe_sum]
  rfl

include hv hu ha hl hlb in
theorem storeWeight_at (acc : FVec Ideal S1x128x128 .f32) (i) :
    storeWeight v u a lg lb acc i = acc i + ((tril (fun t s => ∑ c : Fin 4, ∑ d : Fin 128,
      dmix U A (128 * c + t) d * vn V L B (128 * c + s) d) (i 1) (i 2) : ℝ) : EReal) := by
  show (shapeCast S1x128x128 (addf (shapeCast S128x128 acc shapeCasts_S1x128x128_S128x128) (select k0_pay8
    (addf (addf (addf (addf k0_pay30 (outer 0 slices_S512x128_o0_0_S128x128 (normed v lg lb) (k0_pay24 u) a))
      (outer 128 slices_S512x128_o128_0_S128x128 (normed v lg lb) (k0_pay24 u) a))
      (outer 256 slices_S512x128_o256_0_S128x128 (normed v lg lb) (k0_pay24 u) a))
      (outer 384 slices_S512x128_o384_0_S128x128 (normed v lg lb) (k0_pay24 u) a))
    (broadcast S128x128 (Scalar.ofBits .f32 0x00000000#32)))) shapeCasts_S128x128_S1x128x128) i = _
  pointwise [k0_pay30, k0_pay8]
  have key := fun o ho => outer_at (o := o) ho hu ha (pay21 hv hl hlb) (ix2 (i 1) (i 2))
  refine congrArg (acc i + ·) (((congrArg₂ (fun p x => Scalar.select p x 0) (word_ge (i 1) (i 2)) ?_).trans
    (select_word _ (∑ c : Fin 4, ∑ d : Fin 128, dmix U A (128 * c + i 1) d * vn V L B (128 * c + i 2) d))))
  rw [Fin.sum_univ_four, EReal.coe_add, EReal.coe_add, EReal.coe_add]
  exact congrArg₂ _ (congrArg₂ _ (congrArg₂ _ (key 0 _) (key 128 _)) (key 256 _)) (key 384 _)

include hu ha in
theorem storeTotal_at (acc : FVec Ideal S128x1 .f32) (i) :
    storeTotal u a acc i = acc i + ((∑ c : Fin 4, ∑ d : Fin 128, dmix U A (128 * c + i 0) d : ℝ) : EReal) := by
  show (addf (shapeCast S128x1 acc shapeCasts_S128x1_S128x1)
    (addf (addf (addf (addf k0_pay31 (total 0 slices_S512x128_o0_0_S128x128 (k0_pay24 u) a))
      (total 128 slices_S512x128_o128_0_S128x128 (k0_pay24 u) a))
      (total 256 slices_S512x128_o256_0_S128x128 (k0_pay24 u) a))
      (total 384 slices_S512x128_o384_0_S128x128 (k0_pay24 u) a))) i = _
  pointwise [k0_pay31]
  have key := fun o ho => total_at (o := o) ho hu ha i
  refine congrArg (acc i + ·) ?_
  rw [Fin.sum_univ_four, EReal.coe_add, EReal.coe_add, EReal.coe_add]
  exact congrArg₂ _ (congrArg₂ _ (congrArg₂ _ (key 0 _) (key 128 _)) (key 256 _)) (key 384 _)

end StoresAt

end Cert.KernelIdeal.Tile

end
-- ==== Proof.GateGroup.lean ====
/-
The spatial gate's kernel, a tile of all eight groups: what each store of a grid point leaves where it lands in its
output's block, where the point's blocks are real.
-/
module

public import proofs.«01_k».proof.Proof.GateTile
public import Idealize.ShloMosaic.Lib.Pipeline.ValueKit

@[expose] public section

set_option maxRecDepth 16384

noncomputable section

namespace Cert.KernelIdeal.Group

open Idealize.ShloMosaic Idealize.ShloMosaic.TcCoe Cert.KernelIdeal Cert.KernelIdeal.Gen Cert.KernelIdeal.Tile Cert.Gate

/-! ## One group's part of a block -/

/-- A group's lanes of a tile, the lanes starting at `o`. -/
def lanes (X : FVec Ideal S512x1024 .f32) (o : ℕ) (inb : ∀ a, (![0, o] : Fin 2 → ℕ) a + S512x128.size a ≤ S512x1024.size a) :
    FVec Ideal S512x128 .f32 :=
  View.ld (Val := Elt Ideal) (e' := .f32) X (Rect.unit (s := S512x1024) ![0, o] S512x128.size inb)

/-- The same of a row of parameters. -/
def lane (X : FVec Ideal S1x1024 .f32) (o : ℕ) (inb : ∀ a, (![0, o] : Fin 2 → ℕ) a + S1x128.size a ≤ S1x1024.size a) :
    FVec Ideal S1x128 .f32 :=
  View.ld (Val := Elt Ideal) (e' := .f32) X (Rect.unit (s := S1x1024) ![0, o] S1x128.size inb)

/-- A group's matrix. -/
def plane (X : FVec Ideal S8x128x128 .f32) (g : ℕ)
    (inb : ∀ a, (![g, 0, 0] : Fin 3 → ℕ) a + S1x128x128.size a ≤ S8x128x128.size a) : FVec Ideal S1x128x128 .f32 :=
  View.ld (Val := Elt Ideal) (e' := .f32) X (Rect.unit (s := S8x128x128) ![g, 0, 0] S1x128x128.size inb)

/-- A group's column. -/
def column (X : FVec Ideal S128x8 .f32) (g : ℕ) (inb : ∀ a, (![0, g] : Fin 2 → ℕ) a + S128x1.size a ≤ S128x8.size a) :
    FVec Ideal S128x1 .f32 :=
  View.ld (Val := Elt Ideal) (e' := .f32) X (Rect.unit (s := S128x8) ![0, g] S128x1.size inb)

theorem lanes_at {X : FVec Ideal S512x1024 .f32} {U : ℕ → ℕ → ℝ} (h : ∀ i, X i = ((U (i 0) (i 1) : ℝ) : EReal)) (g : ℕ)
    (inb) : Is (lanes X (128 * g) inb) (half U g) := fun i => by
  refine (h _).trans ?_
  simp only [half, Rect.idx_unit_val]
  exact congrArg _ (congrArg₂ U (Nat.zero_add _) (congrArg (· + (i 1 : ℕ)) (Nat.mul_comm _ _)))

theorem lane_at {X : FVec Ideal S1x1024 .f32} {L : ℕ → ℕ → ℝ}
    (h : ∀ i, X i = ((L (i 1 / 128) (i 1 % 128) : ℝ) : EReal)) (g : ℕ) (inb) (i) :
    lane X (128 * g) inb i = ((L g (i 1) : ℝ) : EReal) := by
  refine (h _).trans ?_
  simp only [Rect.idx_unit_val]
  have hi : (i 1 : ℕ) < 128 := (i 1).isLt
  have e : (![0, 128 * g] : Fin 2 → ℕ) 1 = 128 * g := rfl
  exact congrArg _ (congrArg₂ L (by rw [e]; omega) (by rw [e]; omega))

theorem plane_at {X : FVec Ideal S8x128x128 .f32} {W : ℕ → ℕ → ℕ → ℝ}
    (h : ∀ i, X i = ((W (i 0) (i 1) (i 2) : ℝ) : EReal)) (g : ℕ) (inb) (i) :
    plane X g inb i = ((W g (i 1) (i 2) : ℝ) : EReal) := by
  refine (h _).trans ?_
  simp only [Rect.idx_unit_val]
  have hi : (i 0 : ℕ) < 1 := (i 0).isLt
  have e0 : (![g, 0, 0] : Fin 3 → ℕ) 0 + (i 0 : ℕ) = g := by show g + (i 0 : ℕ) = g; omega
  have e1 : (![g, 0, 0] : Fin 3 → ℕ) 1 + (i 1 : ℕ) = i 1 := Nat.zero_add _
  have e2 : (![g, 0, 0] : Fin 3 → ℕ) 2 + (i 2 : ℕ) = i 2 := Nat.zero_add _
  rw [e0, e1, e2]

theorem column_at {X : FVec Ideal S128x8 .f32} {M : ℕ → ℕ → ℝ} (h : ∀ i, X i = ((M (i 1) (i 0) : ℝ) : EReal)) (g : ℕ)
    (inb) (i) : column X g inb i = ((M g (i 0) : ℝ) : EReal) := by
  refine (h _).trans ?_
  simp only [Rect.idx_unit_val]
  have hi : (i 1 : ℕ) < 1 := (i 1).isLt
  have e0 : (![0, g] : Fin 2 → ℕ) 0 + (i 0 : ℕ) = i 0 := Nat.zero_add _
  have e1 : (![0, g] : Fin 2 → ℕ) 1 + (i 1 : ℕ) = g := by show g + (i 1 : ℕ) = g; omega
  rw [e0, e1]

/-! ## A group's stores -/

variable {X0 X1 X2 : FVec Ideal S512x1024 .f32} {X3 X4 : FVec Ideal S1x1024 .f32} {X5 X6 : FVec Ideal S8x128x128 .f32}
  {X7 : FVec Ideal S128x8 .f32} {U V A L B M : ℕ → ℕ → ℝ} {W : ℕ → ℕ → ℕ → ℝ}
  (h0 : ∀ i, X0 i = ((U (i 0) (i 1) : ℝ) : EReal)) (h1 : ∀ i, X1 i = ((V (i 0) (i 1) : ℝ) : EReal))
  (h2 : ∀ i, X2 i = ((A (i 0) (i 1) : ℝ) : EReal))
  (h3 : ∀ i, X3 i = ((L (i 1 / 128) (i 1 % 128) : ℝ) : EReal))
  (h4 : ∀ i, X4 i = ((B (i 1 / 128) (i 1 % 128) : ℝ) : EReal))
  (h5 : ∀ i, X5 i = ((W (i 0) (i 1) (i 2) : ℝ) : EReal)) (h6 : ∀ i, X6 i = ((W (i 0) (i 2) (i 1) : ℝ) : EReal))
  (h7 : ∀ i, X7 i = ((M (i 1) (i 0) : ℝ) : EReal))

variable (U V A W L B M) in
/-- The gradients of the two halves, side by side. -/
def halves (r k : ℕ) : ℝ :=
  if k < 1024 then
    du (half U (k / 128)) (half V (k / 128)) (half A (k / 128)) (W (k / 128)) (L (k / 128)) (B (k / 128)) (M (k / 128)) r (k % 128)
  else
    dv (half U ((k - 1024) / 128)) (half V ((k - 1024) / 128)) (half A ((k - 1024) / 128)) (W ((k - 1024) / 128))
      (L ((k - 1024) / 128)) r ((k - 1024) % 128)

variable (U V A W) in
/-- A tile's share of the gain's gradient. -/
def gain (k : ℕ) : ℝ :=
  ∑ r : Fin 512, dvn (half U (k / 128)) (half A (k / 128)) (W (k / 128)) r (k % 128) * vhat (half V (k / 128)) r (k % 128)

variable (U A W) in
/-- A tile's share of the bias's gradient. -/
def bias (k : ℕ) : ℝ := ∑ r : Fin 512, dvn (half U (k / 128)) (half A (k / 128)) (W (k / 128)) r (k % 128)

variable (U V A L B) in
/-- A tile's share of the mixing matrix's gradient. -/
def weight (g : ℕ) : ℕ → ℕ → ℝ := tril fun t s =>
  ∑ c : Fin 4, ∑ d : Fin 128, dmix (half U g) (half A g) (128 * c + t) d * vn (half V g) (L g) (B g) (128 * c + s) d

variable (U A) in
/-- A tile's share of the mixing's bias's gradient. -/
def shift (t g : ℕ) : ℝ := ∑ c : Fin 4, ∑ d : Fin 128, dmix (half U g) (half A g) (128 * c + t) d

/-- Where a store of the lanes starting at `o` lands. -/
theorem emb_lanes {n k d w o : ℕ} (inb) (x : (Rect.unit (s := ⟨2, ![n, k]⟩) ![0, o] ![d, w] inb).shape.Idx) :
    ((Rect.unit (s := ⟨2, ![n, k]⟩) ![0, o] ![d, w] inb).emb x 0 : ℕ) = x 0 ∧
      ((Rect.unit (s := ⟨2, ![n, k]⟩) ![0, o] ![d, w] inb).emb x 1 : ℕ) = o + x 1 :=
  ⟨(by show 0 + 1 * (x 0 : ℕ) = _; omega), by show o + 1 * (x 1 : ℕ) = _; omega⟩

section

variable (g : ℕ) (hg : g < 8)

include h0 h1 h2 h3 h4 h5 h7 hg in
theorem pieceU (a b c d e) (x : (Rect.unit (s := S512x2048) ![0, 128 * g] S512x128.size a).shape.Idx) :
    storeU (lanes X1 (128 * g) b) (lanes X0 (128 * g) b) (lanes X2 (128 * g) b) (plane X5 g c) (lane X3 (128 * g) d)
        (lane X4 (128 * g) d) (column X7 g e) x =
      (fun y : S512x2048.Idx => ((halves U V A L B M W (y 0) (y 1) : ℝ) : EReal))
        ((Rect.unit (s := S512x2048) ![0, 128 * g] S512x128.size a).emb x) := by
  refine (storeU_at (lanes_at h1 g b) (lanes_at h0 g b) (lanes_at h2 g b) (plane_at h5 g c) (lane_at h3 g d) (lane_at h4 g d)
    (column_at h7 g e) x).trans (congrArg _ ?_)
  have hx : (x 1 : ℕ) < 128 := (x 1).isLt
  refine Eq.trans ?_ (congrArg₂ (halves U V A L B M W) (emb_lanes a x).1 (emb_lanes a x).2).symm
  rw [halves, if_pos (by omega), show (128 * g + (x 1 : ℕ)) / 128 = g by omega, show (128 * g + (x 1 : ℕ)) % 128 = x 1 by omega]

include h0 h1 h2 h3 h6 in
theorem pieceV (a b c d) (x : (Rect.unit (s := S512x2048) ![0, 1024 + 128 * g] S512x128.size a).shape.Idx) :
    storeV (lanes X1 (128 * g) b) (lanes X0 (128 * g) b) (lanes X2 (128 * g) b) (plane X6 g c) (lane X3 (128 * g) d) x =
      (fun y : S512x2048.Idx => ((halves U V A L B M W (y 0) (y 1) : ℝ) : EReal))
        ((Rect.unit (s := S512x2048) ![0, 1024 + 128 * g] S512x128.size a).emb x) := by
  refine (storeV_at (W := W g) (lanes_at h1 g b) (lanes_at h0 g b) (lanes_at h2 g b)
    (plane_at (W := fun g r k => W g k r) h6 g c) (lane_at h3 g d) x).trans (congrArg _ ?_)
  have hx : (x 1 : ℕ) < 128 := (x 1).isLt
  refine Eq.trans ?_ (congrArg₂ (halves U V A L B M W) (emb_lanes a x).1 (emb_lanes a x).2).symm
  rw [halves, if_neg (by omega), show (1024 + 128 * g + (x 1 : ℕ) - 1024) / 128 = g by omega,
    show (1024 + 128 * g + (x 1 : ℕ) - 1024) % 128 = x 1 by omega]

include h0 h1 h2 h6 in
theorem pieceGain (acc : FVec Ideal S1x1024 .f32) (a b c) {z : FVec Ideal S1x128 .f32} (hz : ∀ x, z x = lane acc (128 * g) a x)
    (x : (Rect.unit (s := S1x1024) ![0, 128 * g] S1x128.size a).shape.Idx) :
    storeGain (lanes X1 (128 * g) b) (lanes X0 (128 * g) b) (lanes X2 (128 * g) b) (plane X6 g c) z x =
      (fun y : S1x1024.Idx => acc y + ((gain U V A W (y 1) : ℝ) : EReal))
        ((Rect.unit (s := S1x1024) ![0, 128 * g] S1x128.size a).emb x) := by
  refine (storeGain_at (W := W g) (lanes_at h1 g b) (lanes_at h0 g b) (lanes_at h2 g b)
    (plane_at (W := fun g r k => W g k r) h6 g c) _ x).trans (congrArg₂ _ (hz x) (congrArg _ ?_))
  have hx : (x 1 : ℕ) < 128 := (x 1).isLt
  refine Eq.trans ?_ (congrArg (gain U V A W) (emb_lanes a x).2).symm
  rw [gain, show (128 * g + (x 1 : ℕ)) / 128 = g by omega, show (128 * g + (x 1 : ℕ)) % 128 = x 1 by omega]

include h0 h2 h6 in
theorem pieceBias (acc : FVec Ideal S1x1024 .f32) (a b c) {z : FVec Ideal S1x128 .f32} (hz : ∀ x, z x = lane acc (128 * g) a x)
    (x : (Rect.unit (s := S1x1024) ![0, 128 * g] S1x128.size a).shape.Idx) :
    storeBias (lanes X0 (128 * g) b) (lanes X2 (128 * g) b) (plane X6 g c) z x =
      (fun y : S1x1024.Idx => acc y + ((bias U A W (y 1) : ℝ) : EReal))
        ((Rect.unit (s := S1x1024) ![0, 128 * g] S1x128.size a).emb x) := by
  refine (storeBias_at (W := W g) (lanes_at h0 g b) (lanes_at h2 g b)
    (plane_at (W := fun g r k => W g k r) h6 g c) _ x).trans (congrArg₂ _ (hz x) (congrArg _ ?_))
  have hx : (x 1 : ℕ) < 128 := (x 1).isLt
  refine Eq.trans ?_ (congrArg (bias U A W) (emb_lanes a x).2).symm
  rw [bias, show (128 * g + (x 1 : ℕ)) / 128 = g by omega, show (128 * g + (x 1 : ℕ)) % 128 = x 1 by omega]

include h0 h1 h2 h3 h4 in
theorem pieceWeight (acc : FVec Ideal S8x128x128 .f32) (a b d)
    {z : FVec Ideal S1x128x128 .f32} (hz : ∀ x, z x = plane acc g a x)
    (x : (Rect.unit (s := S8x128x128) ![g, 0, 0] S1x128x128.size a).shape.Idx) :
    storeWeight (lanes X1 (128 * g) b) (lanes X0 (128 * g) b) (lanes X2 (128 * g) b) (lane X3 (128 * g) d)
        (lane X4 (128 * g) d) z x =
      (fun y : S8x128x128.Idx => acc y + ((weight U V A L B (y 0) (y 1) (y 2) : ℝ) : EReal))
        ((Rect.unit (s := S8x128x128) ![g, 0, 0] S1x128x128.size a).emb x) := by
  refine (storeWeight_at (lanes_at h1 g b) (lanes_at h0 g b) (lanes_at h2 g b) (lane_at h3 g d) (lane_at h4 g d) _ x).trans
    (congrArg₂ _ (hz x) (congrArg _ ?_))
  have hx : (x 0 : ℕ) < 1 := (x 0).isLt
  have e0 : ((Rect.unit (s := S8x128x128) ![g, 0, 0] S1x128x128.size a).emb x 0 : ℕ) = g := by
    show g + 1 * (x 0 : ℕ) = g; omega
  have e1 : ((Rect.unit (s := S8x128x128) ![g, 0, 0] S1x128x128.size a).emb x 1 : ℕ) = x 1 := by
    show 0 + 1 * (x 1 : ℕ) = _; omega
  have e2 : ((Rect.unit (s := S8x128x128) ![g, 0, 0] S1x128x128.size a).emb x 2 : ℕ) = x 2 := by
    show 0 + 1 * (x 2 : ℕ) = _; omega
  exact (congr (congrArg₂ (weight U V A L B) e0 e1) e2).symm

include h0 h2 in
theorem pieceTotal (acc : FVec Ideal S128x8 .f32) (a b) {z : FVec Ideal S128x1 .f32} (hz : ∀ x, z x = column acc g a x)
    (x : (Rect.unit (s := S128x8) ![0, g] S128x1.size a).shape.Idx) :
    storeTotal (lanes X0 (128 * g) b) (lanes X2 (128 * g) b) z x =
      (fun y : S128x8.Idx => acc y + ((shift U A (y 0) (y 1) : ℝ) : EReal))
        ((Rect.unit (s := S128x8) ![0, g] S128x1.size a).emb x) := by
  refine (storeTotal_at (lanes_at h0 g b) (lanes_at h2 g b) _ x).trans (congrArg₂ _ (hz x) (congrArg _ ?_))
  have hx : (x 1 : ℕ) < 1 := (x 1).isLt
  exact (congrArg₂ (shift U A) (emb_lanes a x).1 ((emb_lanes a x).2.trans (by omega))).symm

end

end Cert.KernelIdeal.Group

end
-- ==== Proof.GateKernel.lean ====
/-
The spatial gate's kernel: what its outputs hold after each grid point, and its result arrays.
-/
module

public import proofs.«01_k».proof.Proof.GateGroup
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Gate

open Idealize.ShloMosaic Idealize.ShloMosaic.TcCoe Idealize.SL.Sem Cert.KernelIdeal Cert.KernelIdeal.Gen
  Cert.KernelIdeal.Tile Cert.KernelIdeal.Group Cert.Gate

variable (m : (ℓ : Loc nD τ sig) → Buf (Elt Ideal) ℓ) (c : Dev nD)

/-! ## A grid point's outputs, over its blocks -/

section Point

variable {m c} {t : Fin cfg0.N} {U V A L B M : ℕ → ℕ → ℝ} {W : ℕ → ℕ → ℕ → ℝ}
  (h0 : ∀ i, (X0_0 m c t : FVec Ideal S512x1024 .f32) i = ((U (i 0) (i 1) : ℝ) : EReal))
  (h1 : ∀ i, (X0_1 m c t : FVec Ideal S512x1024 .f32) i = ((V (i 0) (i 1) : ℝ) : EReal))
  (h2 : ∀ i, (iblk m c 2 t : FVec Ideal S512x1024 .f32) i = ((A (i 0) (i 1) : ℝ) : EReal))
  (h3 : ∀ i, (iblk m c 3 t : FVec Ideal S1x1024 .f32) i = ((L (i 1 / 128) (i 1 % 128) : ℝ) : EReal))
  (h4 : ∀ i, (iblk m c 4 t : FVec Ideal S1x1024 .f32) i = ((B (i 1 / 128) (i 1 % 128) : ℝ) : EReal))
  (h5 : ∀ i, (iblk m c 5 t : FVec Ideal S8x128x128 .f32) i = ((W (i 0) (i 1) (i 2) : ℝ) : EReal))
  (h6 : ∀ i, (iblk m c 6 t : FVec Ideal S8x128x128 .f32) i = ((W (i 0) (i 2) (i 1) : ℝ) : EReal))
  (h7 : ∀ i, (iblk m c 7 t : FVec Ideal S128x8 .f32) i = ((M (i 1) (i 0) : ℝ) : EReal))

include h0 in
theorem in0 (i) : (View.read (Elt Ideal) (ms0_0 t).view ((hs0_0 t).unread (X0_0 m c t)) : FVec Ideal S512x1024 .f32) i =
    ((U (i 0) (i 1) : ℝ) : EReal) := by
  rw [Memref.IsWhole.read_unread]; exact h0 i

include h1 in
theorem in1 (i) : (View.read (Elt Ideal) (ms0_1 t).view ((hs0_1 t).unread (X0_1 m c t)) : FVec Ideal S512x1024 .f32) i =
    ((V (i 0) (i 1) : ℝ) : EReal) := by
  rw [Memref.IsWhole.read_unread]; exact h1 i

include h2 in
theorem in2 (i) : (View.read (Elt Ideal) (ms0_2 t).view ((hs0_2 t).unread (iblk m c 2 t)) : FVec Ideal S512x1024 .f32) i =
    ((A (i 0) (i 1) : ℝ) : EReal) := by
  rw [Memref.IsWhole.read_unread]; exact h2 i

include h3 in
theorem in3 (i) : (View.read (Elt Ideal) (ms0_3 t).view ((hs0_3 t).unread (iblk m c 3 t)) : FVec Ideal S1x1024 .f32) i =
    ((L (i 1 / 128) (i 1 % 128) : ℝ) : EReal) := by
  rw [Memref.IsWhole.read_unread]; exact h3 i

include h4 in
theorem in4 (i) : (View.read (Elt Ideal) (ms0_4 t).view ((hs0_4 t).unread (iblk m c 4 t)) : FVec Ideal S1x1024 .f32) i =
    ((B (i 1 / 128) (i 1 % 128) : ℝ) : EReal) := by
  rw [Memref.IsWhole.read_unread]; exact h4 i

include h5 in
theorem in5 (i) : (View.read (Elt Ideal) (ms0_5 t).view ((hs0_5 t).unread (iblk m c 5 t)) : FVec Ideal S8x128x128 .f32) i =
    ((W (i 0) (i 1) (i 2) : ℝ) : EReal) := by
  rw [Memref.IsWhole.read_unread]; exact h5 i

include h6 in
theorem in6 (i) : (View.read (Elt Ideal) (ms0_6 t).view ((hs0_6 t).unread (iblk m c 6 t)) : FVec Ideal S8x128x128 .f32) i =
    ((W (i 0) (i 2) (i 1) : ℝ) : EReal) := by
  rw [Memref.IsWhole.read_unread]; exact h6 i

include h7 in
theorem in7 (i) : (View.read (Elt Ideal) (ms0_7 t).view ((hs0_7 t).unread (iblk m c 7 t)) : FVec Ideal S128x8 .f32) i =
    ((M (i 1) (i 0) : ℝ) : EReal) := by
  rw [Memref.IsWhole.read_unread]; exact h7 i

/-- A load over stores that leave it alone, after a fill of the whole buffer, reads the fill. -/
theorem readCov_over {sp : Space} {s : Shape} {e : EltTy} (v : View sig .tc sp s e) {off : Fin s.rank → ℕ}
    (inb : ∀ a, off a + s.size a ≤ s.size a) (Z : s.Idx → Elt Ideal e) (r : Rect s) (h : ∀ a, off a = 0) :
    ∀ L : List (View.Piece (Elt Ideal) s e), (L.all fun p => LoadRect.disj p.1 r.toLoadRect) = true →
      v.readCov (L ++ [⟨Rect.unit off s.size inb, Z⟩]) r.toLoadRect = View.ld Z r
  | [], _ => View.readCov_fill v inb Z [] r h
  | p :: L, hL => by
    rw [List.all_cons, Bool.and_eq_true] at hL
    exact (View.readCov_skip v p.1 p.2 _ _ hL.1).trans (readCov_over v inb Z r h L hL.2)

variable (m c t) in
/-- What the outputs held before the grid point. -/
abbrev before := outsAt0 m c (t.val - 1) (Nat.lt_of_le_of_lt (Nat.sub_le _ _) t.isLt)

include h0 h1 h2 h6 in
/-- The gain's gradient, after a grid point that adds to it. -/
theorem gainB (h : ¬ t.val % 8 = 0) (y) : (outsAt0 m c t.val t.isLt).2.1 y =
    ((before m c t).2.1 y + ((gain U V A W (y 1) : ℝ) : EReal) : EReal) := by
  rw [outsAt0_B m c t h]
  dsimp only
  unfold out0_B_9
  rw [View.read_writes_junk_eq_canon]
  unfold kernelRun0_B
  dsimp only
  have e : View.read (Elt Ideal) (ms0_9 t).view ((hs0_9 t).unread (before m c t).2.1) = _ := Memref.IsWhole.read_unread _ _
  refine Eq.trans ?_ (congrArg (· + ((gain U V A W (y 1) : ℝ) : EReal)) (congrFun e y))
  have key := fun g => pieceGain (in0 h0) (in1 h1) (in2 h2) (in6 h6) g
    (View.read (Elt Ideal) (ms0_9 t).view ((hs0_9 t).unread (before m c t).2.1))
  exact View.canon_append_of_piecesOf (fun y : S1x1024.Idx => ((View.read (Elt Ideal) (ms0_9 t).view ((hs0_9 t).unread
      (before m c t).2.1) : FVec Ideal S1x1024 .f32) y + ((gain U V A W (y 1) : ℝ) : EReal) : EReal)) [] [_, _, _, _, _, _, _, _]
    ⟨key 7 _ _ _ fun _ => rfl, key 6 _ _ _ fun _ => rfl, key 5 _ _ _ fun _ => rfl, key 4 _ _ _ fun _ => rfl,
      key 3 _ _ _ fun _ => rfl, key 2 _ _ _ fun _ => rfl, key 1 _ _ _ fun _ => rfl, key 0 _ _ _ fun _ => rfl, trivial⟩ y
    (View.cover_of_tiledL (s := S1x1024) _ S1x128.size (by sl_kernel_rfl) y)

include h0 h1 h2 h6 in
/-- The gain's gradient, after a grid point that starts it at zero. -/
theorem gainA (h : t.val % 8 = 0) (y) : (outsAt0 m c t.val t.isLt).2.1 y =
    ((k0_pay4 : FVec Ideal S1x1024 .f32) y + ((gain U V A W (y 1) : ℝ) : EReal) : EReal) := by
  rw [outsAt0_A m c t h]
  dsimp only
  unfold out0_A_9
  rw [View.read_writes_junk_eq_canon]
  unfold kernelRun0_A
  dsimp only
  have key := fun g => pieceGain (in0 h0) (in1 h1) (in2 h2) (in6 h6) g k0_pay4
  refine View.canon_append_of_piecesOf (Val := Elt Ideal) (s := S1x1024) (e := .f32)
    (fun y => ((k0_pay4 : FVec Ideal S1x1024 .f32) y + ((gain U V A W (y 1) : ℝ) : EReal) : EReal)) [_] [_, _, _, _, _, _, _, _]
    ⟨?_, ?_, ?_, ?_, ?_, ?_, ?_, ?_, trivial⟩ y (View.cover_of_tiledL (s := S1x1024) _ S1x128.size (by sl_kernel_rfl) y)
  · exact key 7 (by decide) (by decide) (by decide) (congrFun (readCov_over _ _ _ _ (by decide) [_, _, _, _, _, _, _] (by sl_kernel_rfl)))
  · exact key 6 (by decide) (by decide) (by decide) (congrFun (readCov_over _ _ _ _ (by decide) [_, _, _, _, _, _] (by sl_kernel_rfl)))
  · exact key 5 (by decide) (by decide) (by decide) (congrFun (readCov_over _ _ _ _ (by decide) [_, _, _, _, _] (by sl_kernel_rfl)))
  · exact key 4 (by decide) (by decide) (by decide) (congrFun (readCov_over _ _ _ _ (by decide) [_, _, _, _] (by sl_kernel_rfl)))
  · exact key 3 (by decide) (by decide) (by decide) (congrFun (readCov_over _ _ _ _ (by decide) [_, _, _] (by sl_kernel_rfl)))
  · exact key 2 (by decide) (by decide) (by decide) (congrFun (readCov_over _ _ _ _ (by decide) [_, _] (by sl_kernel_rfl)))
  · exact key 1 (by decide) (by decide) (by decide) (congrFun (readCov_over _ _ _ _ (by decide) [_] (by sl_kernel_rfl)))
  · exact key 0 (by decide) (by decide) (by decide) (congrFun (readCov_over _ _ _ _ (by decide) [] (by sl_kernel_rfl)))

include h0 h2 h6 in
/-- The bias's gradient, after a grid point that adds to it. -/
theorem biasB (h : ¬ t.val % 8 = 0) (y) : (outsAt0 m c t.val t.isLt).2.2.1 y =
    ((before m c t).2.2.1 y + ((bias U A W (y 1) : ℝ) : EReal) : EReal) := by
  rw [outsAt0_B m c t h]
  dsimp only
  unfold out0_B_10
  rw [View.read_writes_junk_eq_canon]
  unfold kernelRun0_B
  dsimp only
  have e : View.read (Elt Ideal) (ms0_10 t).view ((hs0_10 t).unread (before m c t).2.2.1) = _ := Memref.IsWhole.read_unread _ _
  refine Eq.trans ?_ (congrArg (· + ((bias U A W (y 1) : ℝ) : EReal)) (congrFun e y))
  have key := fun g => pieceBias (in0 h0) (in2 h2) (in6 h6) g
    (View.read (Elt Ideal) (ms0_10 t).view ((hs0_10 t).unread (before m c t).2.2.1))
  exact View.canon_append_of_piecesOf (fun y : S1x1024.Idx => ((View.read (Elt Ideal) (ms0_10 t).view ((hs0_10 t).unread
      (before m c t).2.2.1) : FVec Ideal S1x1024 .f32) y + ((bias U A W (y 1) : ℝ) : EReal) : EReal)) [] [_, _, _, _, _, _, _, _]
    ⟨key 7 _ _ _ fun _ => rfl, key 6 _ _ _ fun _ => rfl, key 5 _ _ _ fun _ => rfl, key 4 _ _ _ fun _ => rfl,
      key 3 _ _ _ fun _ => rfl, key 2 _ _ _ fun _ => rfl, key 1 _ _ _ fun _ => rfl, key 0 _ _ _ fun _ => rfl, trivial⟩ y
    (View.cover_of_tiledL (s := S1x1024) _ S1x128.size (by sl_kernel_rfl) y)

include h0 h2 h6 in
/-- The bias's gradient, after a grid point that starts it at zero. -/
theorem biasA (h : t.val % 8 = 0) (y) : (outsAt0 m c t.val t.isLt).2.2.1 y =
    ((k0_pay5 : FVec Ideal S1x1024 .f32) y + ((bias U A W (y 1) : ℝ) : EReal) : EReal) := by
  rw [outsAt0_A m c t h]
  dsimp only
  unfold out0_A_10
  rw [View.read_writes_junk_eq_canon]
  unfold kernelRun0_A
  dsimp only
  have key := fun g => pieceBias (in0 h0) (in2 h2) (in6 h6) g k0_pay5
  refine View.canon_append_of_piecesOf (Val := Elt Ideal) (s := S1x1024) (e := .f32)
    (fun y => ((k0_pay5 : FVec Ideal S1x1024 .f32) y + ((bias U A W (y 1) : ℝ) : EReal) : EReal)) [_] [_, _, _, _, _, _, _, _]
    ⟨?_, ?_, ?_, ?_, ?_, ?_, ?_, ?_, trivial⟩ y (View.cover_of_tiledL (s := S1x1024) _ S1x128.size (by sl_kernel_rfl) y)
  · exact key 7 (by decide) (by decide) (by decide) (congrFun (readCov_over _ _ _ _ (by decide) [_, _, _, _, _, _, _] (by sl_kernel_rfl)))
  · exact key 6 (by decide) (by decide) (by decide) (congrFun (readCov_over _ _ _ _ (by decide) [_, _, _, _, _, _] (by sl_kernel_rfl)))
  · exact key 5 (by decide) (by decide) (by decide) (congrFun (readCov_over _ _ _ _ (by decide) [_, _, _, _, _] (by sl_kernel_rfl)))
  · exact key 4 (by decide) (by decide) (by decide) (congrFun (readCov_over _ _ _ _ (by decide) [_, _, _, _] (by sl_kernel_rfl)))
  · exact key 3 (by decide) (by decide) (by decide) (congrFun (readCov_over _ _ _ _ (by decide) [_, _, _] (by sl_kernel_rfl)))
  · exact key 2 (by decide) (by decide) (by decide) (congrFun (readCov_over _ _ _ _ (by decide) [_, _] (by sl_kernel_rfl)))
  · exact key 1 (by decide) (by decide) (by decide) (congrFun (readCov_over _ _ _ _ (by decide) [_] (by sl_kernel_rfl)))
  · exact key 0 (by decide) (by decide) (by decide) (congrFun (readCov_over _ _ _ _ (by decide) [] (by sl_kernel_rfl)))

include h0 h1 h2 h3 h4 in
/-- The mixing matrices' gradient, after a grid point that adds to it. -/
theorem weightB (h : ¬ t.val % 8 = 0) (y) : (outsAt0 m c t.val t.isLt).2.2.2.1 y =
    ((before m c t).2.2.2.1 y + ((weight U V A L B (y 0) (y 1) (y 2) : ℝ) : EReal) : EReal) := by
  rw [outsAt0_B m c t h]
  dsimp only
  unfold out0_B_11
  rw [View.read_writes_junk_eq_canon]
  unfold kernelRun0_B
  dsimp only
  have e : View.read (Elt Ideal) (ms0_11 t).view ((hs0_11 t).unread (before m c t).2.2.2.1) = _ := Memref.IsWhole.read_unread _ _
  refine Eq.trans ?_ (congrArg (· + ((weight U V A L B (y 0) (y 1) (y 2) : ℝ) : EReal)) (congrFun e y))
  have key := fun g => pieceWeight (in0 h0) (in1 h1) (in2 h2) (in3 h3) (in4 h4) g
    (View.read (Elt Ideal) (ms0_11 t).view ((hs0_11 t).unread (before m c t).2.2.2.1))
  exact View.canon_append_of_piecesOf (fun y : S8x128x128.Idx => ((View.read (Elt Ideal) (ms0_11 t).view ((hs0_11 t).unread
      (before m c t).2.2.2.1) : FVec Ideal S8x128x128 .f32) y + ((weight U V A L B (y 0) (y 1) (y 2) : ℝ) : EReal) : EReal)) [] [_, _, _, _, _, _, _, _]
    ⟨key 7 _ _ _ fun _ => rfl, key 6 _ _ _ fun _ => rfl, key 5 _ _ _ fun _ => rfl, key 4 _ _ _ fun _ => rfl,
      key 3 _ _ _ fun _ => rfl, key 2 _ _ _ fun _ => rfl, key 1 _ _ _ fun _ => rfl, key 0 _ _ _ fun _ => rfl, trivial⟩ y
    (View.cover_of_tiledL (s := S8x128x128) _ S1x128x128.size (by sl_kernel_rfl) y)

include h0 h1 h2 h3 h4 in
/-- The mixing matrices' gradient, after a grid point that starts it at zero. -/
theorem weightA (h : t.val % 8 = 0) (y) : (outsAt0 m c t.val t.isLt).2.2.2.1 y =
    ((k0_pay6 : FVec Ideal S8x128x128 .f32) y + ((weight U V A L B (y 0) (y 1) (y 2) : ℝ) : EReal) : EReal) := by
  rw [outsAt0_A m c t h]
  dsimp only
  unfold out0_A_11
  rw [View.read_writes_junk_eq_canon]
  unfold kernelRun0_A
  dsimp only
  have key := fun g => pieceWeight (in0 h0) (in1 h1) (in2 h2) (in3 h3) (in4 h4) g k0_pay6
  refine View.canon_append_of_piecesOf (Val := Elt Ideal) (s := S8x128x128) (e := .f32)
    (fun y => ((k0_pay6 : FVec Ideal S8x128x128 .f32) y + ((weight U V A L B (y 0) (y 1) (y 2) : ℝ) : EReal) : EReal)) [_] [_, _, _, _, _, _, _, _]
    ⟨?_, ?_, ?_, ?_, ?_, ?_, ?_, ?_, trivial⟩ y (View.cover_of_tiledL (s := S8x128x128) _ S1x128x128.size (by sl_kernel_rfl) y)
  · exact key 7 (by decide) (by decide) (by decide) (congrFun (readCov_over _ _ _ _ (by decide) [_, _, _, _, _, _, _] (by sl_kernel_rfl)))
  · exact key 6 (by decide) (by decide) (by decide) (congrFun (readCov_over _ _ _ _ (by decide) [_, _, _, _, _, _] (by sl_kernel_rfl)))
  · exact key 5 (by decide) (by decide) (by decide) (congrFun (readCov_over _ _ _ _ (by decide) [_, _, _, _, _] (by sl_kernel_rfl)))
  · exact key 4 (by decide) (by decide) (by decide) (congrFun (readCov_over _ _ _ _ (by decide) [_, _, _, _] (by sl_kernel_rfl)))
  · exact key 3 (by decide) (by decide) (by decide) (congrFun (readCov_over _ _ _ _ (by decide) [_, _, _] (by sl_kernel_rfl)))
  · exact key 2 (by decide) (by decide) (by decide) (congrFun (readCov_over _ _ _ _ (by decide) [_, _] (by sl_kernel_rfl)))
  · exact key 1 (by decide) (by decide) (by decide) (congrFun (readCov_over _ _ _ _ (by decide) [_] (by sl_kernel_rfl)))
  · exact key 0 (by decide) (by decide) (by decide) (congrFun (readCov_over _ _ _ _ (by decide) [] (by sl_kernel_rfl)))

include h0 h2 in
/-- The mixing's bias's gradient, after a grid point that adds to it. -/
theorem totalB (h : ¬ t.val % 8 = 0) (y) : (outsAt0 m c t.val t.isLt).2.2.2.2.1 y =
    ((before m c t).2.2.2.2.1 y + ((shift U A (y 0) (y 1) : ℝ) : EReal) : EReal) := by
  rw [outsAt0_B m c t h]
  dsimp only
  unfold out0_B_12
  rw [View.read_writes_junk_eq_canon]
  unfold kernelRun0_B
  dsimp only
  have e : View.read (Elt Ideal) (ms0_12 t).view ((hs0_12 t).unread (before m c t).2.2.2.2.1) = _ := Memref.IsWhole.read_unread _ _
  refine Eq.trans ?_ (congrArg (· + ((shift U A (y 0) (y 1) : ℝ) : EReal)) (congrFun e y))
  have key := fun g => pieceTotal (in0 h0) (in2 h2) g
    (View.read (Elt Ideal) (ms0_12 t).view ((hs0_12 t).unread (before m c t).2.2.2.2.1))
  exact View.canon_append_of_piecesOf (fun y : S128x8.Idx => ((View.read (Elt Ideal) (ms0_12 t).view ((hs0_12 t).unread
      (before m c t).2.2.2.2.1) : FVec Ideal S128x8 .f32) y + ((shift U A (y 0) (y 1) : ℝ) : EReal) : EReal)) [] [_, _, _, _, _, _, _, _]
    ⟨key 7 _ _ fun _ => rfl, key 6 _ _ fun _ => rfl, key 5 _ _ fun _ => rfl, key 4 _ _ fun _ => rfl,
      key 3 _ _ fun _ => rfl, key 2 _ _ fun _ => rfl, key 1 _ _ fun _ => rfl, key 0 _ _ fun _ => rfl, trivial⟩ y
    (View.cover_of_tiledL (s := S128x8) _ S128x1.size (by sl_kernel_rfl) y)

include h0 h2 in
/-- The mixing's bias's gradient, after a grid point that starts it at zero. -/
theorem totalA (h : t.val % 8 = 0) (y) : (outsAt0 m c t.val t.isLt).2.2.2.2.1 y =
    ((k0_pay7 : FVec Ideal S128x8 .f32) y + ((shift U A (y 0) (y 1) : ℝ) : EReal) : EReal) := by
  rw [outsAt0_A m c t h]
  dsimp only
  unfold out0_A_12
  rw [View.read_writes_junk_eq_canon]
  unfold kernelRun0_A
  dsimp only
  have key := fun g => pieceTotal (in0 h0) (in2 h2) g k0_pay7
  refine View.canon_append_of_piecesOf (Val := Elt Ideal) (s := S128x8) (e := .f32)
    (fun y => ((k0_pay7 : FVec Ideal S128x8 .f32) y + ((shift U A (y 0) (y 1) : ℝ) : EReal) : EReal)) [_] [_, _, _, _, _, _, _, _]
    ⟨?_, ?_, ?_, ?_, ?_, ?_, ?_, ?_, trivial⟩ y (View.cover_of_tiledL (s := S128x8) _ S128x1.size (by sl_kernel_rfl) y)
  · exact key 7 (by decide) (by decide) (congrFun (readCov_over _ _ _ _ (by decide) [_, _, _, _, _, _, _] (by sl_kernel_rfl)))
  · exact key 6 (by decide) (by decide) (congrFun (readCov_over _ _ _ _ (by decide) [_, _, _, _, _, _] (by sl_kernel_rfl)))
  · exact key 5 (by decide) (by decide) (congrFun (readCov_over _ _ _ _ (by decide) [_, _, _, _, _] (by sl_kernel_rfl)))
  · exact key 4 (by decide) (by decide) (congrFun (readCov_over _ _ _ _ (by decide) [_, _, _, _] (by sl_kernel_rfl)))
  · exact key 3 (by decide) (by decide) (congrFun (readCov_over _ _ _ _ (by decide) [_, _, _] (by sl_kernel_rfl)))
  · exact key 2 (by decide) (by decide) (congrFun (readCov_over _ _ _ _ (by decide) [_, _] (by sl_kernel_rfl)))
  · exact key 1 (by decide) (by decide) (congrFun (readCov_over _ _ _ _ (by decide) [_] (by sl_kernel_rfl)))
  · exact key 0 (by decide) (by decide) (congrFun (readCov_over _ _ _ _ (by decide) [] (by sl_kernel_rfl)))

set_option maxHeartbeats 2000000 in
include h0 h1 h2 h3 h4 h5 h6 h7 in
/-- The gate's own gradient. -/
theorem halvesA (h : t.val % 8 = 0) (y) : (outsAt0 m c t.val t.isLt).1 y =
    ((halves U V A L B M W (y 0) (y 1) : ℝ) : EReal) := by
  rw [outsAt0_A m c t h]
  dsimp only
  unfold out0_A_8
  rw [View.read_writes_junk_eq_canon]
  unfold kernelRun0_A
  dsimp only
  have left := pieceU (in0 h0) (in1 h1) (in2 h2) (in3 h3) (in4 h4) (in5 h5) (in7 h7)
  have right := pieceV (M := M) (B := B) (in0 h0) (in1 h1) (in2 h2) (in3 h3) (in6 h6)
  refine View.canon_append_of_piecesOf (Val := Elt Ideal) (s := S512x2048) (e := .bf16)
    (fun y => ((halves U V A L B M W (y 0) (y 1) : ℝ) : EReal)) [] [_, _, _, _, _, _, _, _, _, _, _, _, _, _, _, _]
    ⟨?_, ?_, ?_, ?_, ?_, ?_, ?_, ?_, ?_, ?_, ?_, ?_, ?_, ?_, ?_, ?_, trivial⟩ y
    (View.cover_of_tiledL (s := S512x2048) _ S512x128.size (by sl_kernel_rfl) y)
  · exact fun x => Eq.trans (by as_aux_lemma => sl_kernel_rfl) (right 7 (by decide) (by decide) (by decide) (by decide) x)
  · exact fun x => Eq.trans (by as_aux_lemma => sl_kernel_rfl) (left 7 (by decide) (by decide) (by decide) (by decide) (by decide) (by decide) x)
  · exact fun x => Eq.trans (by as_aux_lemma => sl_kernel_rfl) (right 6 (by decide) (by decide) (by decide) (by decide) x)
  · exact fun x => Eq.trans (by as_aux_lemma => sl_kernel_rfl) (left 6 (by decide) (by decide) (by decide) (by decide) (by decide) (by decide) x)
  · exact fun x => Eq.trans (by as_aux_lemma => sl_kernel_rfl) (right 5 (by decide) (by decide) (by decide) (by decide) x)
  · exact fun x => Eq.trans (by as_aux_lemma => sl_kernel_rfl) (left 5 (by decide) (by decide) (by decide) (by decide) (by decide) (by decide) x)
  · exact fun x => Eq.trans (by as_aux_lemma => sl_kernel_rfl) (right 4 (by decide) (by decide) (by decide) (by decide) x)
  · exact fun x => Eq.trans (by as_aux_lemma => sl_kernel_rfl) (left 4 (by decide) (by decide) (by decide) (by decide) (by decide) (by decide) x)
  · exact fun x => Eq.trans (by as_aux_lemma => sl_kernel_rfl) (right 3 (by decide) (by decide) (by decide) (by decide) x)
  · exact fun x => Eq.trans (by as_aux_lemma => sl_kernel_rfl) (left 3 (by decide) (by decide) (by decide) (by decide) (by decide) (by decide) x)
  · exact fun x => Eq.trans (by as_aux_lemma => sl_kernel_rfl) (right 2 (by decide) (by decide) (by decide) (by decide) x)
  · exact fun x => Eq.trans (by as_aux_lemma => sl_kernel_rfl) (left 2 (by decide) (by decide) (by decide) (by decide) (by decide) (by decide) x)
  · exact fun x => Eq.trans (by as_aux_lemma => sl_kernel_rfl) (right 1 (by decide) (by decide) (by decide) (by decide) x)
  · exact fun x => Eq.trans (by as_aux_lemma => sl_kernel_rfl) (left 1 (by decide) (by decide) (by decide) (by decide) (by decide) (by decide) x)
  · exact fun x => Eq.trans (by as_aux_lemma => sl_kernel_rfl) (right 0 (by decide) (by decide) (by decide) (by decide) x)
  · exact fun x => Eq.trans (by as_aux_lemma => sl_kernel_rfl) (left 0 (by decide) (by decide) (by decide) (by decide) (by decide) (by decide) x)

set_option maxHeartbeats 2000000 in
include h0 h1 h2 h3 h4 h5 h6 h7 in
/-- The gate's own gradient. -/
theorem halvesB (h : ¬ t.val % 8 = 0) (y) : (outsAt0 m c t.val t.isLt).1 y =
    ((halves U V A L B M W (y 0) (y 1) : ℝ) : EReal) := by
  rw [outsAt0_B m c t h]
  dsimp only
  unfold out0_B_8
  rw [View.read_writes_junk_eq_canon]
  unfold kernelRun0_B
  dsimp only
  have left := pieceU (in0 h0) (in1 h1) (in2 h2) (in3 h3) (in4 h4) (in5 h5) (in7 h7)
  have right := pieceV (M := M) (B := B) (in0 h0) (in1 h1) (in2 h2) (in3 h3) (in6 h6)
  refine View.canon_append_of_piecesOf (Val := Elt Ideal) (s := S512x2048) (e := .bf16)
    (fun y => ((halves U V A L B M W (y 0) (y 1) : ℝ) : EReal)) [] [_, _, _, _, _, _, _, _, _, _, _, _, _, _, _, _]
    ⟨?_, ?_, ?_, ?_, ?_, ?_, ?_, ?_, ?_, ?_, ?_, ?_, ?_, ?_, ?_, ?_, trivial⟩ y
    (View.cover_of_tiledL (s := S512x2048) _ S512x128.size (by sl_kernel_rfl) y)
  · exact fun x => Eq.trans (by as_aux_lemma => sl_kernel_rfl) (right 7 (by decide) (by decide) (by decide) (by decide) x)
  · exact fun x => Eq.trans (by as_aux_lemma => sl_kernel_rfl) (left 7 (by decide) (by decide) (by decide) (by decide) (by decide) (by decide) x)
  · exact fun x => Eq.trans (by as_aux_lemma => sl_kernel_rfl) (right 6 (by decide) (by decide) (by decide) (by decide) x)
  · exact fun x => Eq.trans (by as_aux_lemma => sl_kernel_rfl) (left 6 (by decide) (by decide) (by decide) (by decide) (by decide) (by decide) x)
  · exact fun x => Eq.trans (by as_aux_lemma => sl_kernel_rfl) (right 5 (by decide) (by decide) (by decide) (by decide) x)
  · exact fun x => Eq.trans (by as_aux_lemma => sl_kernel_rfl) (left 5 (by decide) (by decide) (by decide) (by decide) (by decide) (by decide) x)
  · exact fun x => Eq.trans (by as_aux_lemma => sl_kernel_rfl) (right 4 (by decide) (by decide) (by decide) (by decide) x)
  · exact fun x => Eq.trans (by as_aux_lemma => sl_kernel_rfl) (left 4 (by decide) (by decide) (by decide) (by decide) (by decide) (by decide) x)
  · exact fun x => Eq.trans (by as_aux_lemma => sl_kernel_rfl) (right 3 (by decide) (by decide) (by decide) (by decide) x)
  · exact fun x => Eq.trans (by as_aux_lemma => sl_kernel_rfl) (left 3 (by decide) (by decide) (by decide) (by decide) (by decide) (by decide) x)
  · exact fun x => Eq.trans (by as_aux_lemma => sl_kernel_rfl) (right 2 (by decide) (by decide) (by decide) (by decide) x)
  · exact fun x => Eq.trans (by as_aux_lemma => sl_kernel_rfl) (left 2 (by decide) (by decide) (by decide) (by decide) (by decide) (by decide) x)
  · exact fun x => Eq.trans (by as_aux_lemma => sl_kernel_rfl) (right 1 (by decide) (by decide) (by decide) (by decide) x)
  · exact fun x => Eq.trans (by as_aux_lemma => sl_kernel_rfl) (left 1 (by decide) (by decide) (by decide) (by decide) (by decide) (by decide) x)
  · exact fun x => Eq.trans (by as_aux_lemma => sl_kernel_rfl) (right 0 (by decide) (by decide) (by decide) (by decide) x)
  · exact fun x => Eq.trans (by as_aux_lemma => sl_kernel_rfl) (left 0 (by decide) (by decide) (by decide) (by decide) (by decide) (by decide) x)

end Point

end Cert.KernelIdeal.Gate

end
-- ==== Proof.GateTotal.lean ====
/-
The spatial gate's kernel: a tile's values and totals are the whole step's.
-/
module

public import proofs.«01_k».proof.Proof.GateGroup

@[expose] public section

noncomputable section

namespace Cert.Gate

open Cert.KernelIdeal.Group

/-! ## Rows from a chunk's first row on -/

section Rows

variable (U V D : ℕ → ℕ → ℝ) (W : ℕ → ℕ → ℝ) (L B b : ℕ → ℝ) {n : ℕ}

/-- The rows from `n` on. -/
def below (n : ℕ) (V : ℕ → ℕ → ℝ) (r d : ℕ) : ℝ := V (n + r) d

theorem mixed_below (hn : n % 128 = 0) (r d : ℕ) : mixed (below n V) W L B b r d = mixed V W L B b (n + r) d := by
  rw [mixed, mixed, show (n + r) % 128 = r % 128 by omega, show (n + r) / 128 * 128 = n + r / 128 * 128 by omega]
  refine congrArg (· + _) (Finset.sum_congr rfl fun s _ => congrArg _ ?_)
  rw [Nat.add_assoc]; rfl

theorem dvn_below (hn : n % 128 = 0) (r d : ℕ) : dvn (below n U) (below n D) W r d = dvn U D W (n + r) d := by
  rw [dvn, dvn, show (n + r) % 128 = r % 128 by omega, show (n + r) / 128 * 128 = n + r / 128 * 128 by omega]
  refine Finset.sum_congr rfl fun s _ => congrArg _ ?_
  rw [Nat.add_assoc]; rfl

theorem du_below (hn : n % 128 = 0) (r d : ℕ) :
    du (below n U) (below n V) (below n D) W L B b r d = du U V D W L B b (n + r) d := by
  rw [du, du, mixed_below V W L B b hn]; rfl

theorem dv_below (hn : n % 128 = 0) (r d : ℕ) :
    dv (below n U) (below n V) (below n D) W L r d = dv U V D W L (n + r) d := by
  rw [dv, dv, show (fun e => dvn (below n U) (below n D) W r e * L e) = fun e => dvn U D W (n + r) e * L e from
    funext fun e => by rw [dvn_below U D W hn]]; rfl

end Rows

/-- A sum over blocks of `b` is the sum over them all. -/
theorem sum_blocks (a b : ℕ) (f : ℕ → ℝ) : ∑ t : Fin a, ∑ r : Fin b, f (b * t + r) = ∑ i : Fin (a * b), f i := by
  rw [← Fintype.sum_prod_type', ← finProdFinEquiv.sum_comp]
  exact Finset.sum_congr rfl fun x _ => congrArg f (Nat.add_comm _ _)

/-! ## The kernel's tiles -/

section Tiles

variable (P D L B M : ℕ → ℕ → ℝ) (W : ℕ → ℕ → ℕ → ℝ)

/-- The first half of the tile `t`'s rows. -/
def rowsU (t r k : ℕ) : ℝ := P (512 * t + r) k

/-- The second half of them. -/
def rowsV (t r k : ℕ) : ℝ := P (512 * t + r) (1024 + k)

/-- The gradient of the gate's input. -/
def gradIn (r k : ℕ) : ℝ :=
  if k < 1024 then
    du (half P (k / 128)) (half' P (k / 128)) (half D (k / 128)) (W (k / 128)) (L (k / 128)) (B (k / 128)) (M (k / 128)) r (k % 128)
  else
    dv (half P ((k - 1024) / 128)) (half' P ((k - 1024) / 128)) (half D ((k - 1024) / 128)) (W ((k - 1024) / 128))
      (L ((k - 1024) / 128)) r ((k - 1024) % 128)

/-- The gradient of the normalization's gain. -/
def gradGain (g d : ℕ) : ℝ := ∑ r : Fin 4096, dvn (half P g) (half D g) (W g) r d * vhat (half' P g) r d

/-- The gradient of its bias. -/
def gradBias (g d : ℕ) : ℝ := ∑ r : Fin 4096, dvn (half P g) (half D g) (W g) r d

/-- The gradient of the spatial mixing's matrices. -/
def gradMix (g : ℕ) : ℕ → ℕ → ℝ := tril fun p q =>
  ∑ c : Fin 32, ∑ d : Fin 128, dmix (half P g) (half D g) (c * 128 + p) d * vn (half' P g) (L g) (B g) (c * 128 + q) d

/-- The gradient of its bias. -/
def gradShift (p g : ℕ) : ℝ := ∑ c : Fin 32, ∑ d : Fin 128, dmix (half P g) (half D g) (c * 128 + p) d

theorem halves_tile (t r k : ℕ) :
    halves (rowsU P t) (rowsV P t) (rowsU D t) L B M W r k = gradIn P D L B M W (512 * t + r) k := by
  have hn : 512 * t % 128 = 0 := by omega
  rw [halves, gradIn]
  split
  · exact du_below (half P (k / 128)) (half' P (k / 128)) (half D (k / 128)) (W (k / 128)) (L (k / 128)) (B (k / 128))
      (M (k / 128)) hn r (k % 128)
  · exact dv_below (half P ((k - 1024) / 128)) (half' P ((k - 1024) / 128)) (half D ((k - 1024) / 128))
      (W ((k - 1024) / 128)) (L ((k - 1024) / 128)) hn r ((k - 1024) % 128)

theorem gain_tile (k : ℕ) : ∑ t : Fin 8, gain (rowsU P t) (rowsV P t) (rowsU D t) W k =
    gradGain P D W (k / 128) (k % 128) := by
  refine Eq.trans (Finset.sum_congr rfl fun t _ => Finset.sum_congr rfl fun r _ => ?_)
    (sum_blocks 8 512 fun r => dvn (half P (k / 128)) (half D (k / 128)) (W (k / 128)) r (k % 128) * vhat (half' P (k / 128)) r (k % 128))
  exact congrArg₂ _ (dvn_below (half P (k / 128)) (half D (k / 128)) _ (by omega) _ _) rfl

theorem bias_tile (k : ℕ) : ∑ t : Fin 8, bias (rowsU P t) (rowsU D t) W k =
    gradBias P D W (k / 128) (k % 128) := by
  refine Eq.trans (Finset.sum_congr rfl fun t _ => Finset.sum_congr rfl fun r _ => ?_)
    (sum_blocks 8 512 fun r => dvn (half P (k / 128)) (half D (k / 128)) (W (k / 128)) r (k % 128))
  exact dvn_below (half P (k / 128)) (half D (k / 128)) _ (by omega) _ _

theorem weight_tile (g p q : ℕ) : ∑ t : Fin 8, weight (rowsU P t) (rowsV P t) (rowsU D t) L B g p q =
    gradMix P D L B g p q := by
  simp only [weight, gradMix, tril]
  split
  · refine Eq.trans (Finset.sum_congr rfl fun t _ => Finset.sum_congr rfl fun c _ => Finset.sum_congr rfl fun d _ => ?_)
      (sum_blocks 8 4 fun c => ∑ d : Fin 128,
        dmix (half P g) (half D g) (c * 128 + p) d * vn (half' P g) (L g) (B g) (c * 128 + q) d)
    rw [show (4 * (t : ℕ) + c) * 128 + p = 512 * t + (128 * c + p) by omega,
      show (4 * (t : ℕ) + c) * 128 + q = 512 * t + (128 * c + q) by omega]
    rfl
  · exact Finset.sum_const_zero

theorem shift_tile (p g : ℕ) : ∑ t : Fin 8, shift (rowsU P t) (rowsU D t) p g = gradShift P D p g := by
  refine Eq.trans (Finset.sum_congr rfl fun t _ => Finset.sum_congr rfl fun c _ => Finset.sum_congr rfl fun d _ => ?_)
    (sum_blocks 8 4 fun c => ∑ d : Fin 128, dmix (half P g) (half D g) (c * 128 + p) d)
  rw [show (4 * (t : ℕ) + c) * 128 + p = 512 * t + (128 * c + p) by omega]
  rfl

end Tiles

end Cert.Gate

end
-- ==== Proof.GateValue.lean ====
/-
The spatial gate's kernel: the blocks a grid point finds, and the result arrays over the arguments.
-/
module

public import proofs.«01_k».proof.Proof.GateKernel
public import proofs.«01_k».proof.Proof.GateTotal
public import Idealize.ShloMosaic.Lib.Pipeline.ValueKit

@[expose] public section

set_option maxRecDepth 16384

noncomputable section

namespace Cert.KernelIdeal.Gate

open Idealize.ShloMosaic Idealize.ShloMosaic.TcCoe Idealize.SL.Sem Cert.KernelIdeal Cert.KernelIdeal.Gen
  Cert.KernelIdeal.Tile Cert.KernelIdeal.Group Cert.Gate

variable {m : (ℓ : Loc nD τ sig) → Buf (Elt Ideal) ℓ} {c : Dev nD}

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

theorem whole3 (t : Fin cfg0.N) (i : S1x1024.Idx) : (win0_3.blk t).view.emb i = i :=
  funext fun a => Fin.ext (win0_3.rect_emb_val_of_index_zero t a (by rw [idx3 t]; fin_cases a <;> rfl) i)
theorem whole4 (t : Fin cfg0.N) (i : S1x1024.Idx) : (win0_4.blk t).view.emb i = i :=
  funext fun a => Fin.ext (win0_4.rect_emb_val_of_index_zero t a (by rw [idx4 t]; fin_cases a <;> rfl) i)
theorem whole5 (t : Fin cfg0.N) (i : S8x128x128.Idx) : (win0_5.blk t).view.emb i = i :=
  funext fun a => Fin.ext (win0_5.rect_emb_val_of_index_zero t a (by rw [idx5 t]; fin_cases a <;> rfl) i)
theorem whole6 (t : Fin cfg0.N) (i : S8x128x128.Idx) : (win0_6.blk t).view.emb i = i :=
  funext fun a => Fin.ext (win0_6.rect_emb_val_of_index_zero t a (by rw [idx6 t]; fin_cases a <;> rfl) i)
theorem whole7 (t : Fin cfg0.N) (i : S128x8.Idx) : (win0_7.blk t).view.emb i = i :=
  funext fun a => Fin.ext (win0_7.rect_emb_val_of_index_zero t a (by rw [idx7 t]; fin_cases a <;> rfl) i)

section Entries

variable {P D L B M : ℕ → ℕ → ℝ} {W : ℕ → ℕ → ℕ → ℝ}
  (a0 : ∀ i, (m ((c : Thread nD τ).loc main_arg0) : FVec Ideal S4096x3328 .f32) i = ((P (i 0) (i 1) : ℝ) : EReal))
  (a1 : ∀ i, (m ((c : Thread nD τ).loc main_arg1) : FVec Ideal S4096x1024 .f32) i = ((D (i 0) (i 1) : ℝ) : EReal))
  (a2 : ∀ i, (m ((c : Thread nD τ).loc main_arg2) : FVec Ideal S1x8x128 .f32) i = ((L (i 1) (i 2) : ℝ) : EReal))
  (a3 : ∀ i, (m ((c : Thread nD τ).loc main_arg3) : FVec Ideal S1x8x128 .f32) i = ((B (i 1) (i 2) : ℝ) : EReal))
  (a4 : ∀ i, (m ((c : Thread nD τ).loc main_arg4) : FVec Ideal S1x8x128x128 .f32) i = ((W (i 1) (i 2) (i 3) : ℝ) : EReal))
  (a5 : ∀ i, (m ((c : Thread nD τ).loc main_arg5) : FVec Ideal S1x8x128 .f32) i = ((M (i 1) (i 2) : ℝ) : EReal))

/-! ### What the host lines hand over -/

include a2 in
theorem host_gain (i : S1x1024.Idx) : V m c main_v0 i = ((L (i 1 / 128) (i 1 % 128) : ℝ) : EReal) := by
  simp only [V, hostOps0, List.flatten_cons, List.flatten_nil, List.append_nil, List.cons_append, List.nil_append]
  entry_read
  show shapeCast S1x1024 (m ((c : Thread nD τ).loc main_arg2) : FVec Ideal S1x8x128 .f32) shapeCasts_S1x8x128_S1x1024 i = _
  pointwise []
  exact (a2 _).trans rfl

include a3 in
theorem host_bias (i : S1x1024.Idx) : V m c main_v1 i = ((B (i 1 / 128) (i 1 % 128) : ℝ) : EReal) := by
  simp only [V, hostOps0, List.flatten_cons, List.flatten_nil, List.append_nil, List.cons_append, List.nil_append]
  entry_read
  show shapeCast S1x1024 (m ((c : Thread nD τ).loc main_arg3) : FVec Ideal S1x8x128 .f32) shapeCasts_S1x8x128_S1x1024 i = _
  pointwise []
  exact (a3 _).trans rfl

include a4 in
theorem host_mix (i : S8x128x128.Idx) : V m c main_v2 i = ((W (i 0) (i 1) (i 2) : ℝ) : EReal) := by
  simp only [V, hostOps0, List.flatten_cons, List.flatten_nil, List.append_nil, List.cons_append, List.nil_append]
  entry_read
  exact (shapeCast_dropUnit_apply ![8, 128, 128] (m ((c : Thread nD τ).loc main_arg4) : FVec Ideal S1x8x128x128 .f32)
    shapeCasts_S1x8x128x128_S8x128x128 i).trans (a4 _)

include a4 in
theorem host_flip (i : S8x128x128.Idx) : V m c main_v3 i = ((W (i 0) (i 2) (i 1) : ℝ) : EReal) := by
  simp only [V, hostOps0, List.flatten_cons, List.flatten_nil, List.append_nil, List.cons_append, List.nil_append]
  entry_read
  show transpose S8x128x128 [0, 2, 1] (shapeCast S8x128x128 (m ((c : Thread nD τ).loc main_arg4) : FVec Ideal S1x8x128x128 .f32)
    shapeCasts_S1x8x128x128_S8x128x128) transposes_S8x128x128_S8x128x128_0_2_1 i = _
  generalize hz : shapeCast S8x128x128 (m ((c : Thread nD τ).loc main_arg4) : FVec Ideal S1x8x128x128 .f32)
    shapeCasts_S1x8x128x128_S8x128x128 = z
  pointwise []
  subst hz
  exact (shapeCast_dropUnit_apply ![8, 128, 128] (m ((c : Thread nD τ).loc main_arg4) : FVec Ideal S1x8x128x128 .f32)
    shapeCasts_S1x8x128x128_S8x128x128 _).trans (a4 _)

include a5 in
theorem host_shift (i : S128x8.Idx) : V m c main_v5 i = ((M (i 1) (i 0) : ℝ) : EReal) := by
  simp only [V, hostOps0, List.flatten_cons, List.flatten_nil, List.append_nil, List.cons_append, List.nil_append]
  entry_read
  show transpose S128x8 [1, 0] (shapeCast S8x128 (m ((c : Thread nD τ).loc main_arg5) : FVec Ideal S1x8x128 .f32)
    shapeCasts_S1x8x128_S8x128) transposes_S8x128_S128x8_1_0 i = _
  refine (transpose_apply [1, 0] _ _ i (ix2 (i 1) (i 0)) fun b => by fin_cases b <;> rfl).trans ?_
  exact (shapeCast_dropUnit_apply ![8, 128] (m ((c : Thread nD τ).loc main_arg5) : FVec Ideal S1x8x128 .f32)
    shapeCasts_S1x8x128_S8x128 _).trans (a5 _)

/-! ### The blocks at point `t` -/

include a0 in
theorem block_u (t : Fin cfg0.N) (i) : (X0_0 m c t : FVec Ideal S512x1024 .f32) i = ((P (512 * t + i 0) (i 1) : ℝ) : EReal) := by
  unfold X0_0 Pipeline.Window.fill
  rw [dif_pos (moved0_0 t i)]
  have e0 := win0_0.rect_emb_val t (fun a => ⟨i a, lt_of_lt_of_eq (i a).isLt (xsize0_0 t a).symm⟩) 0 rfl
  have e1 := win0_0.rect_emb_val t (fun a => ⟨i a, lt_of_lt_of_eq (i a).isLt (xsize0_0 t a).symm⟩) 1 rfl
  rw [idx0 t] at e0 e1
  exact (a0 _).trans (congrArg _ (congrArg₂ P (e0.trans (by show t.val * 512 + (i 0 : ℕ) = _; omega))
    (e1.trans (by show 0 * 1024 + (i 1 : ℕ) = _; omega))))

include a0 in
theorem block_v (t : Fin cfg0.N) (i) : (X0_1 m c t : FVec Ideal S512x1024 .f32) i = ((P (512 * t + i 0) (1024 + i 1) : ℝ) : EReal) := by
  unfold X0_1 Pipeline.Window.fill
  rw [dif_pos (moved0_1 t i)]
  have e0 := win0_1.rect_emb_val t (fun a => ⟨i a, lt_of_lt_of_eq (i a).isLt (xsize0_1 t a).symm⟩) 0 rfl
  have e1 := win0_1.rect_emb_val t (fun a => ⟨i a, lt_of_lt_of_eq (i a).isLt (xsize0_1 t a).symm⟩) 1 rfl
  rw [idx1 t] at e0 e1
  exact (a0 _).trans (congrArg _ (congrArg₂ P (e0.trans (by show t.val * 512 + (i 0 : ℕ) = _; omega))
    (e1.trans (by show 1 * 1024 + (i 1 : ℕ) = _; omega))))

include a1 in
theorem block_a (t : Fin cfg0.N) (i) : (iblk m c 2 t : FVec Ideal S512x1024 .f32) i = ((D (512 * t + i 0) (i 1) : ℝ) : EReal) := by
  have e0 := win0_2.rect_emb_val t i 0 rfl
  have e1 := win0_2.rect_emb_val t i 1 rfl
  rw [idx2 t] at e0 e1
  exact (a1 _).trans (congrArg _ (congrArg₂ D (e0.trans (by show t.val * 512 + (i 0 : ℕ) = _; omega))
    (e1.trans (by show 0 * 1024 + (i 1 : ℕ) = _; omega))))

include a2 in
theorem block_gain (t : Fin cfg0.N) (i) : (iblk m c 3 t : FVec Ideal S1x1024 .f32) i = ((L (i 1 / 128) (i 1 % 128) : ℝ) : EReal) :=
  (congrArg (V m c main_v0) (whole3 t i)).trans (host_gain a2 i)

include a3 in
theorem block_bias (t : Fin cfg0.N) (i) : (iblk m c 4 t : FVec Ideal S1x1024 .f32) i = ((B (i 1 / 128) (i 1 % 128) : ℝ) : EReal) :=
  (congrArg (V m c main_v1) (whole4 t i)).trans (host_bias a3 i)

include a4 in
theorem block_mix (t : Fin cfg0.N) (i) : (iblk m c 5 t : FVec Ideal S8x128x128 .f32) i = ((W (i 0) (i 1) (i 2) : ℝ) : EReal) :=
  (congrArg (V m c main_v2) (whole5 t i)).trans (host_mix a4 i)

include a4 in
theorem block_flip (t : Fin cfg0.N) (i) : (iblk m c 6 t : FVec Ideal S8x128x128 .f32) i = ((W (i 0) (i 2) (i 1) : ℝ) : EReal) :=
  (congrArg (V m c main_v3) (whole6 t i)).trans (host_flip a4 i)

include a5 in
theorem block_shift (t : Fin cfg0.N) (i) : (iblk m c 7 t : FVec Ideal S128x8 .f32) i = ((M (i 1) (i 0) : ℝ) : EReal) :=
  (congrArg (V m c main_v5) (whole7 t i)).trans (host_shift a5 i)

/-! ## The result arrays -/

include a0 a1 a2 a3 a4 a5 in
theorem final_in : (dats m 0 c).arrAt 8 cfg0.N = (fun i : S4096x2048.Idx => ((gradIn P D L B M W (i 0) (i 1) : ℝ) : EReal)) := by
  refine (dats m 0 c).arrAt_eq_of_covers 8 _ (by decide +kernel) fun t hf y => ?_
  rw [after0_8]
  have e : (outsAt0 m c t.val t.isLt).1 (fun a => ⟨y a, (y a).isLt⟩) =
      ((halves (rowsU P t) (rowsV P t) (rowsU D t) L B M W (y 0) (y 1) : ℝ) : EReal) := by
    by_cases h : t.val % 8 = 0
    · exact halvesA (block_u a0 t) (block_v a0 t) (block_a a1 t) (block_gain a2 t) (block_bias a3 t) (block_mix a4 t)
        (block_flip a4 t) (block_shift a5 t) h _
    · exact halvesB (block_u a0 t) (block_v a0 t) (block_a a1 t) (block_gain a2 t) (block_bias a3 t) (block_mix a4 t)
        (block_flip a4 t) (block_shift a5 t) h _
  rw [halves_tile] at e
  have e0 := win0_8.rect_emb_val t y 0 rfl
  have e1 := win0_8.rect_emb_val t y 1 rfl
  rw [idx8 t] at e0 e1
  exact e.trans (congrArg _ (congrArg₂ (gradIn P D L B M W) (e0.trans (by show t.val * 512 + (y 0 : ℕ) = _; omega))
    (e1.trans (by show 0 * 2048 + (y 1 : ℕ) = _; omega))).symm)

theorem zero9 (i) : (k0_pay4 : FVec Ideal S1x1024 .f32) i = (0 : EReal) := Ideal.ofBits_zero_f32

include a0 a1 a4 in
theorem final_gain : (dats m 0 c).arrAt 9 cfg0.N = (fun i : S1x1024.Idx => ((gradGain P D W (i 1 / 128) (i 1 % 128) : ℝ) : EReal)) := by
  refine (dats m 0 c).arrAt_eq_of_after_last 9 ⟨7, by decide⟩ (by decide +kernel) _ fun j => ?_
  rw [after0_9]
  have e := Pipeline.eq_sum_fin_of_reset_step_apply_last (N := 8) (M := EReal)
    (fun n h => (outsAt0 m c n h).2.1) 8 _ (fun t i => ((gain (rowsU P t) (rowsV P t) (rowsU D t) W (i 1) : ℝ) : EReal))
    (fun t h => gainA (t := t) (block_u a0 t) (block_v a0 t) (block_a a1 t) (block_flip a4 t) h)
    (fun t h => gainB (t := t) (block_u a0 t) (block_v a0 t) (block_a a1 t) (block_flip a4 t) h) le_rfl 7 rfl j
  rw [zero9, zero_add, coe_sum, gain_tile] at e
  exact e

theorem zero10 (i) : (k0_pay5 : FVec Ideal S1x1024 .f32) i = (0 : EReal) := Ideal.ofBits_zero_f32

include a0 a1 a4 in
theorem final_bias : (dats m 0 c).arrAt 10 cfg0.N = (fun i : S1x1024.Idx => ((gradBias P D W (i 1 / 128) (i 1 % 128) : ℝ) : EReal)) := by
  refine (dats m 0 c).arrAt_eq_of_after_last 10 ⟨7, by decide⟩ (by decide +kernel) _ fun j => ?_
  rw [after0_10]
  have e := Pipeline.eq_sum_fin_of_reset_step_apply_last (N := 8) (M := EReal)
    (fun n h => (outsAt0 m c n h).2.2.1) 8 _ (fun t i => ((bias (rowsU P t) (rowsU D t) W (i 1) : ℝ) : EReal))
    (fun t h => biasA (t := t) (block_u a0 t) (block_a a1 t) (block_flip a4 t) h)
    (fun t h => biasB (t := t) (block_u a0 t) (block_a a1 t) (block_flip a4 t) h) le_rfl 7 rfl j
  rw [zero10, zero_add, coe_sum, bias_tile] at e
  exact e

theorem zero11 (i) : (k0_pay6 : FVec Ideal S8x128x128 .f32) i = (0 : EReal) := Ideal.ofBits_zero_f32

include a0 a1 a2 a3 in
theorem final_weight : (dats m 0 c).arrAt 11 cfg0.N = (fun i : S8x128x128.Idx => ((gradMix P D L B (i 0) (i 1) (i 2) : ℝ) : EReal)) := by
  refine (dats m 0 c).arrAt_eq_of_after_last 11 ⟨7, by decide⟩ (by decide +kernel) _ fun j => ?_
  rw [after0_11]
  have e := Pipeline.eq_sum_fin_of_reset_step_apply_last (N := 8) (M := EReal)
    (fun n h => (outsAt0 m c n h).2.2.2.1) 8 _ (fun t i => ((weight (rowsU P t) (rowsV P t) (rowsU D t) L B (i 0) (i 1) (i 2) : ℝ) : EReal))
    (fun t h => weightA (t := t) (block_u a0 t) (block_v a0 t) (block_a a1 t) (block_gain a2 t) (block_bias a3 t) h)
    (fun t h => weightB (t := t) (block_u a0 t) (block_v a0 t) (block_a a1 t) (block_gain a2 t) (block_bias a3 t) h) le_rfl 7 rfl j
  rw [zero11, zero_add, coe_sum, weight_tile] at e
  exact e

theorem zero12 (i) : (k0_pay7 : FVec Ideal S128x8 .f32) i = (0 : EReal) := Ideal.ofBits_zero_f32

include a0 a1 in
theorem final_total : (dats m 0 c).arrAt 12 cfg0.N = (fun i : S128x8.Idx => ((gradShift P D (i 0) (i 1) : ℝ) : EReal)) := by
  refine (dats m 0 c).arrAt_eq_of_after_last 12 ⟨7, by decide⟩ (by decide +kernel) _ fun j => ?_
  rw [after0_12]
  have e := Pipeline.eq_sum_fin_of_reset_step_apply_last (N := 8) (M := EReal)
    (fun n h => (outsAt0 m c n h).2.2.2.2.1) 8 _ (fun t i => ((shift (rowsU P t) (rowsU D t) (i 0) (i 1) : ℝ) : EReal))
    (fun t h => totalA (t := t) (block_u a0 t) (block_a a1 t) h)
    (fun t h => totalB (t := t) (block_u a0 t) (block_a a1 t) h) le_rfl 7 rfl j
  rw [zero12, zero_add, coe_sum, shift_tile] at e
  exact e

end Entries

end Cert.KernelIdeal.Gate

end
-- ==== Proof.GateClaim.lean ====
/-
The spatial gate's backward step: on finite inputs, over the extended reals, the kernel's five result arrays are the
reference's.
-/
module

public import proofs.«01_k».proof.Defs
public import proofs.«01_k».proof.Proof.Finite
public import proofs.«01_k».proof.Proof.GateRef
public import proofs.«01_k».proof.Proof.GateValue
public import Idealize.ShloMosaic.Lib.Quiescent
public import Idealize.ShloMosaic.Lib.Claim

@[expose] public section

set_option maxRecDepth 16384

noncomputable section

open Idealize.ShloMosaic Idealize.ShloMosaic.TcCoe Idealize.SL.Sem Cert.Gate Cert.Finite

namespace Cert.KernelIdeal.Gate

open Cert.KernelIdeal Cert.KernelIdeal.Gen Cert.ReferenceIdeal.Read Cert.ReferenceIdeal.Gate

/-! ## Finite arrays hold reals -/

/-- Reals at an array's indices, as a function of what tells the indices apart. -/
theorem exists_real {ι α : Type} (f : ι → α) (hf : Function.Injective f) (x : ι → EReal) (hx : ∀ i, x i = ((x i).toReal : EReal)) :
    ∃ P : α → ℝ, ∀ i, x i = ((P (f i) : ℝ) : EReal) :=
  ⟨Function.extend f (fun i => (x i).toReal) fun _ => 0, fun i => by rw [hf.extend_apply]; exact hx i⟩

theorem exists_rows {n k : ℕ} (x : (⟨2, ![n, k]⟩ : Shape).Idx → EReal) (hx : ∀ i, x i = ((x i).toReal : EReal)) :
    ∃ P : ℕ → ℕ → ℝ, ∀ i, x i = ((P (i 0) (i 1) : ℝ) : EReal) := by
  obtain ⟨P, hP⟩ := exists_real (fun i : (⟨2, ![n, k]⟩ : Shape).Idx => ((i 0 : ℕ), (i 1 : ℕ))) (fun i j h => by
    rw [Prod.mk.injEq] at h
    funext a; fin_cases a <;> exact Fin.ext (by first | exact h.1 | exact h.2)) x hx
  exact ⟨fun r d => P (r, d), hP⟩

theorem exists_groups {n k : ℕ} (x : (⟨3, ![1, n, k]⟩ : Shape).Idx → EReal) (hx : ∀ i, x i = ((x i).toReal : EReal)) :
    ∃ P : ℕ → ℕ → ℝ, ∀ i, x i = ((P (i 1) (i 2) : ℝ) : EReal) := by
  obtain ⟨P, hP⟩ := exists_real (fun i : (⟨3, ![1, n, k]⟩ : Shape).Idx => ((i 1 : ℕ), (i 2 : ℕ))) (fun i j h => by
    rw [Prod.mk.injEq] at h
    have h0 : (i 0 : ℕ) < 1 := (i 0).isLt
    have h0' : (j 0 : ℕ) < 1 := (j 0).isLt
    funext a; fin_cases a <;> exact Fin.ext (by first | exact h.1 | exact h.2 | (show (i 0 : ℕ) = j 0; omega))) x hx
  exact ⟨fun r d => P (r, d), hP⟩

theorem exists_squares {n k l : ℕ} (x : (⟨4, ![1, n, k, l]⟩ : Shape).Idx → EReal) (hx : ∀ i, x i = ((x i).toReal : EReal)) :
    ∃ P : ℕ → ℕ → ℕ → ℝ, ∀ i, x i = ((P (i 1) (i 2) (i 3) : ℝ) : EReal) := by
  obtain ⟨P, hP⟩ := exists_real (fun i : (⟨4, ![1, n, k, l]⟩ : Shape).Idx => ((i 1 : ℕ), (i 2 : ℕ), (i 3 : ℕ))) (fun i j h => by
    rw [Prod.mk.injEq, Prod.mk.injEq] at h
    have h0 : (i 0 : ℕ) < 1 := (i 0).isLt
    have h0' : (j 0 : ℕ) < 1 := (j 0).isLt
    funext a
    fin_cases a <;> exact Fin.ext (by first | exact h.1 | exact h.2.1 | exact h.2.2 | (show (i 0 : ℕ) = j 0; omega))) x hx
  exact ⟨fun r d e => P (r, d, e), hP⟩

/-! ## The kernel's arrays are the reference's -/

variable (m : (ℓ : Loc nD τ sig) → Buf (Elt Ideal) ℓ) (c : Dev nD)

/-- Argument 0 of the step on a device. -/
abbrev arg0 := m ((c.tc : Thread nD τ).loc main_arg0)

/-- Argument 1 of the step on a device. -/
abbrev arg1 := m ((c.tc : Thread nD τ).loc main_arg1)

/-- Argument 2 of the step on a device. -/
abbrev arg2 := m ((c.tc : Thread nD τ).loc main_arg2)

/-- Argument 3 of the step on a device. -/
abbrev arg3 := m ((c.tc : Thread nD τ).loc main_arg3)

/-- Argument 4 of the step on a device. -/
abbrev arg4 := m ((c.tc : Thread nD τ).loc main_arg4)

/-- Argument 5 of the step on a device. -/
abbrev arg5 := m ((c.tc : Thread nD τ).loc main_arg5)

theorem final [hPre : Cert.Pre_finite.Facts] (h : Cert.Pre_KernelIdeal_finite m) :
    (dats m 0 c).arrAt 8 cfg0.N = val_main_v173 (F := Ideal) (arg0 m c) (arg1 m c) (arg2 m c) (arg3 m c) (arg4 m c) (arg5 m c) ∧
    (dats m 0 c).arrAt 9 cfg0.N = val_main_v174 (F := Ideal) (arg0 m c) (arg1 m c) (arg4 m c) ∧
    (dats m 0 c).arrAt 10 cfg0.N = val_main_v175 (F := Ideal) (arg0 m c) (arg1 m c) (arg4 m c) ∧
    (dats m 0 c).arrAt 11 cfg0.N = val_main_v99 (F := Ideal) (arg0 m c) (arg1 m c) (arg2 m c) (arg3 m c) ∧
    (dats m 0 c).arrAt 12 cfg0.N = val_main_v176 (F := Ideal) (arg0 m c) (arg1 m c) := by
  obtain ⟨g0, g1, g2, g3, g4, g5⟩ := h c
  obtain ⟨P, a0⟩ := exists_rows (arg0 m c) (real_of_finite (arg0 m c) hPre.bcast_S_S4096x3328 g0)
  obtain ⟨D, a1⟩ := exists_rows (arg1 m c) (real_of_finite (arg1 m c) hPre.bcast_S_S4096x1024 g1)
  obtain ⟨L, a2⟩ := exists_groups (arg2 m c) (real_of_finite (arg2 m c) hPre.bcast_S_S1x8x128 g2)
  obtain ⟨B, a3⟩ := exists_groups (arg3 m c) (real_of_finite (arg3 m c) hPre.bcast_S_S1x8x128 g3)
  obtain ⟨W, a4⟩ := exists_squares (arg4 m c) (real_of_finite (arg4 m c) hPre.bcast_S_S1x8x128x128 g4)
  obtain ⟨M, a5⟩ := exists_groups (arg5 m c) (real_of_finite (arg5 m c) hPre.bcast_S_S1x8x128 g5)
  exact ⟨(final_in a0 a1 a2 a3 a4 a5).trans (funext fun i => (at_v173 a0 a1 a2 a3 a4 a5 i).symm),
    (final_gain a0 a1 a4).trans (funext fun i => (at_v174 a0 a1 a4 i).symm),
    (final_bias a0 a1 a4).trans (funext fun i => (at_v175 a0 a1 a4 i).symm),
    (final_weight a0 a1 a2 a3).trans (funext fun i => (at_v99 a0 a1 a2 a3 i).symm),
    (final_total a0 a1).trans (funext fun i => (at_v176 a0 a1 i).symm)⟩

end Cert.KernelIdeal.Gate

namespace Cert.Proof

open Cert.KernelIdeal.Gate Cert.ReferenceIdeal.Read

theorem algebraic_Kernel [hPre : Cert.Pre_finite.Facts] :
    Cert.algebraic_KernelIdeal_ReferenceIdeal_pre_finite := fun m ρ m' ρ' h hag =>
  ⟨fun c => val_main_v173 (F := Ideal) (arg0 m c) (arg1 m c) (arg2 m c) (arg3 m c) (arg4 m c) (arg5 m c),
    fun c => val_main_v174 (F := Ideal) (arg0 m c) (arg1 m c) (arg4 m c),
    fun c => val_main_v175 (F := Ideal) (arg0 m c) (arg1 m c) (arg4 m c),
    fun c => val_main_v99 (F := Ideal) (arg0 m c) (arg1 m c) (arg2 m c) (arg3 m c),
    fun c => val_main_v176 (F := Ideal) (arg0 m c) (arg1 m c),
    (θ_run _ _ _).mono (fun _ k c =>
      have f := final m c h
      ⟨(k c).1.trans f.1, (k c).2.1.trans f.2.1, (k c).2.2.1.trans f.2.2.1, (k c).2.2.2.1.trans f.2.2.2.1,
        (k c).2.2.2.2.1.trans f.2.2.2.2, (k c).2.2.2.2.2.2⟩)
      (Cert.KernelIdeal.Value.run_blocks m ρ),
    (θ_run _ _ _).mono (fun _ k c => by
      obtain ⟨e0, e1, e2, e3, e4, e5⟩ := hag c
      refine ⟨(k c).1.trans ?_, (k c).2.1.trans ?_, (k c).2.2.1.trans ?_, (k c).2.2.2.1.trans ?_, (k c).2.2.2.2.1.trans ?_,
        (k c).2.2.2.2.2⟩
      · refine (val_main_v173_eq _).trans ?_; simp only [StableHlo.launchContents_devRef, e0, e1, e2, e3, e4, e5]
      · refine (val_main_v174_eq _).trans ?_; simp only [StableHlo.launchContents_devRef, e0, e1, e4]
      · refine (val_main_v175_eq _).trans ?_; simp only [StableHlo.launchContents_devRef, e0, e1, e4]
      · refine (val_main_v99_eq _).trans ?_; simp only [StableHlo.launchContents_devRef, e0, e1, e2, e3]
      · refine (val_main_v176_eq _).trans ?_; simp only [StableHlo.launchContents_devRef, e0, e1])
      (Cert.ReferenceIdeal.Value.run m' ρ')⟩

end Cert.Proof

end
-- ==== Proof.GateForward.lean ====
/-
The spatial gate's forward pass over the extended reals: its mathematics, and what each store of the kernel leaves where it
lands in its output's block.
-/
module

public import proofs.«01_k».proof.Defs
public import proofs.«01_k».proof.Proof.Gate
public import proofs.«01_k».proof.Proof.Gen.GateFwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Mixer

/-! ## The mathematics -/

/-- The activation. -/
def act (x : EReal) : EReal :=
  Ideal.ofBits .f32 0x3F000000#32 * x *
    (1 + Ideal.tanh (Ideal.ofBits .f32 0x3F4C422A#32 * (x + ((8943 / 200000 : ℝ) : EReal) * x * x * x)))

/-- The activation, its constant as a quotient. -/
theorem act_quot (x : EReal) :
    Ideal.ofBits .f32 0x3F000000#32 * x * (1 + Ideal.tanh (Ideal.ofBits .f32 0x3F4C422A#32 *
      (x + Ideal.div (x * x * x * Ideal.ofBits .f32 0x472EAB00#32) (Ideal.ofBits .f32 0x49742400#32)))) = act x := by
  rw [act, Cert.Gate.word_num, Cert.Gate.word_den, Ideal.div_coe (by norm_num), mul_assoc (x * x * x),
    ← EReal.coe_mul, show (44715 * (1 / 1000000) : ℝ) = 8943 / 200000 by norm_num]
  congr 5
  ac_rfl

/-- A row less its mean. -/
def cen (a : ℕ → EReal) (d : ℕ) : EReal := a d - Ideal.div (∑ e : Fin 128, a e) (Ideal.ofBits .f32 0x43000000#32)

/-- The reciprocal of a row's standard deviation. -/
def rstd (a : ℕ → EReal) : EReal :=
  Ideal.rsqrt (Ideal.div (∑ e : Fin 128, cen a e * cen a e) (Ideal.ofBits .f32 0x43000000#32) + Ideal.ofBits .f32 0x3727C5AC#32)

/-- The activated and normalized second half, of one group. -/
def vn (V : ℕ → ℕ → EReal) (L B : ℕ → EReal) (r d : ℕ) : EReal :=
  cen (fun e => act (V r e)) d * rstd (fun e => act (V r e)) * L d + B d

/-- The entries on and below the diagonal. -/
def tril (W : ℕ → ℕ → EReal) (p s : ℕ) : EReal := if s ≤ p then W p s else 0

/-- The second half mixed over the rows of a chunk, of one group. -/
def mixed (V W : ℕ → ℕ → EReal) (L B b : ℕ → EReal) (r d : ℕ) : EReal :=
  (∑ s : Fin 128, tril W (r % 128) s * vn V L B (r / 128 * 128 + s) d) + b (r % 128)

/-- A group's lanes of an array's rows. -/
def part (V : ℕ → ℕ → EReal) (g r d : ℕ) : EReal := V r (g * 128 + d)

/-- The gate: the activated first half times the mixed second half. -/
def gate (U V L B M : ℕ → ℕ → EReal) (W : ℕ → ℕ → ℕ → EReal) (r k : ℕ) : EReal :=
  act (U r k) * mixed (part V (k / 128)) (W (k / 128)) (L (k / 128)) (B (k / 128)) (M (k / 128)) r (k % 128)

theorem mixed_chunk (V W : ℕ → ℕ → EReal) (L B b : ℕ → EReal) {o p : ℕ} (ho : o % 128 = 0) (hp : p < 128) (d : ℕ) :
    mixed V W L B b (o + p) d = (∑ s : Fin 128, tril W p s * vn V L B (o + s) d) + b p := by
  rw [mixed, show (o + p) % 128 = p by omega, show (o + p) / 128 * 128 = o by omega]

/-- The gate of a block of rows is the block of the gate. -/
theorem gate_tile (U V L B M : ℕ → ℕ → EReal) (W : ℕ → ℕ → ℕ → EReal) (t r k : ℕ) :
    gate (fun r => U (512 * t + r)) (fun r => V (512 * t + r)) L B M W r k = gate U V L B M W (512 * t + r) k := by
  rw [gate, gate, mixed, mixed, show (512 * t + r) % 128 = r % 128 by omega]
  refine congrArg (_ * ·) (congrArg (· + _) (Finset.sum_congr rfl fun s _ => congrArg (tril _ _ _ * ·) ?_))
  rw [show (512 * t + r) / 128 * 128 = 512 * t + r / 128 * 128 by omega, Nat.add_assoc]
  rfl

end Cert.Mixer

namespace Cert.GateFwdIdeal.Mixer

open Cert.GateFwdIdeal Cert.GateFwdIdeal.Gen Cert.Mixer

theorem named_c1 : Named.named (F := Ideal) κ "c1" (φ := .f32) 0x3D372713#32 = ((8943 / 200000 : ℝ) : EReal) :=
  IdealRules.named_const.ideal_named_scalar _ _ _ _ rfl

/-! ## One group's values -/

section Values

variable {v u : FVec Ideal S512x128 .f32} {l b : FVec Ideal S1x128 .f32} {w : FVec Ideal S1x128x128 .f32}
  {e : FVec Ideal S128x1 .f32} {V U W : ℕ → ℕ → EReal} {L B M : ℕ → EReal}
  (hu : ∀ i, u i = U (i 0) (i 1)) (hv : ∀ i, v i = V (i 0) (i 1)) (hl : ∀ i, l i = L (i 1)) (hb : ∀ i, b i = B (i 1))
  (hw : ∀ i, w i = W (i 1) (i 2)) (he : ∀ i, e i = M (i 0))

include hu in
theorem act_at (i) : (k0_pay8 u : FVec Ideal S512x128 .f32) i = act (U (i 0) (i 1)) := by
  pointwise [k0_pay8]
  simp only [hu, named_c1]
  rfl

include hv hl hb in
theorem vn_at (i) : (k0_pay6 v l b : FVec Ideal S512x128 .bf16) i = vn V L B (i 0) (i 1) := by
  pointwise [k0_pay6]
  simp only [hv, hl, hb, named_c1]
  rfl

theorem word_ge (x y : Fin 128) : IntOp.cmpi .sge (BitVec.ofNat 32 x) (BitVec.ofNat 32 y) = if y ≤ x then 1#1 else 0#1 := by
  revert x y; decide +kernel

theorem select_word (p : Prop) [Decidable p] (x : EReal) :
    Scalar.select (if p then 1#1 else 0#1) x 0 = if p then x else 0 := by
  split <;> rfl

include hw in
theorem tril_at (i) : (k0_pay7 k0_pay5 w : FVec Ideal S128x128 .bf16) i = tril W (i 0) (i 1) := by
  pointwise [k0_pay7, k0_pay5]
  rw [hw]
  exact (congrArg (fun b => Scalar.select b _ _) (word_ge (i 0) (i 1))).trans (select_word _ _)

/-- The 128 rows of a tile starting at row `o`. -/
def rows {φ : FTy} (o : ℕ) (ho : S512x128.Slices ![o, 0] S128x128) (x : FVec Ideal S512x128 φ) : FVec Ideal S128x128 φ :=
  extractStridedSlice S128x128 ![o, 0] x ho

theorem rows_at {φ : FTy} {o : ℕ} (ho : S512x128.Slices ![o, 0] S128x128) {x : FVec Ideal S512x128 φ} {X : ℕ → ℕ → EReal}
    (h : ∀ i, x i = X (i 0) (i 1)) (i) : rows o ho x i = X (o + i 0) (i 1) := by
  pointwise [rows]
  exact h _

/-- What the kernel stores of a chunk of one group. -/
def chunk (o : ℕ) (ho : S512x128.Slices ![o, 0] S128x128) (v u : FVec Ideal S512x128 .f32) (l b : FVec Ideal S1x128 .f32)
    (w : FVec Ideal S1x128x128 .f32) (e : FVec Ideal S128x1 .f32) : FVec Ideal S128x128 .f32 :=
  mulf (rows o ho (k0_pay8 u)) (addf (matmul dot_S128x128_S128x128_S128x128_1_0_0_1_n_n none (k0_pay7 k0_pay5 w)
    (rows o ho (k0_pay6 v l b)) (constant S128x128 .f32 0x00000000#32))
    (broadcastTo S128x128 (k0_pay9 e) broadcasts_S128x1_S128x128))

include hu hv hl hb hw he in
theorem chunk_at (o : ℕ) (ho : S512x128.Slices ![o, 0] S128x128) (h0 : o % 128 = 0) (i) :
    chunk o ho v u l b w e i = act (U (o + i 0) (i 1)) * mixed V W L B M (o + i 0) (i 1) := by
  pointwise [chunk, k0_pay9]
  rw [rows_at ho (X := fun r d => act (U r d)) (act_at hu), he, mixed_chunk V W L B M h0 (i 0).isLt]
  simp only [rows_at ho (vn_at hv hl hb), tril_at hw]
  rfl

end Values

/-! ## One group's part of a block -/

/-- A group's lanes of a tile, the lanes starting at `o`. -/
def lanes (X : FVec Ideal S512x1024 .f32) (o : ℕ) (inb : ∀ a, (![0, o] : Fin 2 → ℕ) a + S512x128.size a ≤ S512x1024.size a) :
    FVec Ideal S512x128 .f32 :=
  View.ld (Val := Elt Ideal) (e' := .f32) X (Rect.unit (s := S512x1024) ![0, o] S512x128.size inb)

/-- The same of a row of parameters. -/
def lane (X : FVec Ideal S1x1024 .f32) (o : ℕ) (inb : ∀ a, (![0, o] : Fin 2 → ℕ) a + S1x128.size a ≤ S1x1024.size a) :
    FVec Ideal S1x128 .f32 :=
  View.ld (Val := Elt Ideal) (e' := .f32) X (Rect.unit (s := S1x1024) ![0, o] S1x128.size inb)

/-- A group's matrix. -/
def plane (X : FVec Ideal S8x128x128 .f32) (g : ℕ)
    (inb : ∀ a, (![g, 0, 0] : Fin 3 → ℕ) a + S1x128x128.size a ≤ S8x128x128.size a) : FVec Ideal S1x128x128 .f32 :=
  View.ld (Val := Elt Ideal) (e' := .f32) X (Rect.unit (s := S8x128x128) ![g, 0, 0] S1x128x128.size inb)

/-- A group's column. -/
def column (X : FVec Ideal S128x8 .f32) (g : ℕ) (inb : ∀ a, (![0, g] : Fin 2 → ℕ) a + S128x1.size a ≤ S128x8.size a) :
    FVec Ideal S128x1 .f32 :=
  View.ld (Val := Elt Ideal) (e' := .f32) X (Rect.unit (s := S128x8) ![0, g] S128x1.size inb)

theorem lanes_at {X : FVec Ideal S512x1024 .f32} {U : ℕ → ℕ → EReal} (h : ∀ i, X i = U (i 0) (i 1)) (g : ℕ) (inb) (i) :
    lanes X (128 * g) inb i = part U g (i 0) (i 1) := by
  refine (h _).trans ?_
  simp only [part, Rect.idx_unit_val]
  exact congrArg₂ U (Nat.zero_add _) (congrArg (· + (i 1 : ℕ)) (Nat.mul_comm _ _))

theorem lane_at {X : FVec Ideal S1x1024 .f32} {L : ℕ → ℕ → EReal} (h : ∀ i, X i = L (i 1 / 128) (i 1 % 128)) (g : ℕ) (inb)
    (i) : lane X (128 * g) inb i = L g (i 1) := by
  refine (h _).trans ?_
  simp only [Rect.idx_unit_val]
  have hi : (i 1 : ℕ) < 128 := (i 1).isLt
  have e : (![0, 128 * g] : Fin 2 → ℕ) 1 = 128 * g := rfl
  exact congrArg₂ L (by rw [e]; omega) (by rw [e]; omega)

theorem plane_at {X : FVec Ideal S8x128x128 .f32} {W : ℕ → ℕ → ℕ → EReal} (h : ∀ i, X i = W (i 0) (i 1) (i 2)) (g : ℕ) (inb)
    (i) : plane X g inb i = W g (i 1) (i 2) := by
  refine (h _).trans ?_
  simp only [Rect.idx_unit_val]
  have hi : (i 0 : ℕ) < 1 := (i 0).isLt
  have e0 : (![g, 0, 0] : Fin 3 → ℕ) 0 + (i 0 : ℕ) = g := by show g + (i 0 : ℕ) = g; omega
  have e1 : (![g, 0, 0] : Fin 3 → ℕ) 1 + (i 1 : ℕ) = i 1 := Nat.zero_add _
  have e2 : (![g, 0, 0] : Fin 3 → ℕ) 2 + (i 2 : ℕ) = i 2 := Nat.zero_add _
  rw [e0, e1, e2]

theorem column_at {X : FVec Ideal S128x8 .f32} {M : ℕ → ℕ → EReal} (h : ∀ i, X i = M (i 1) (i 0)) (g : ℕ) (inb) (i) :
    column X g inb i = M g (i 0) := by
  refine (h _).trans ?_
  simp only [Rect.idx_unit_val]
  have hi : (i 1 : ℕ) < 1 := (i 1).isLt
  have e0 : (![0, g] : Fin 2 → ℕ) 0 + (i 0 : ℕ) = i 0 := Nat.zero_add _
  have e1 : (![0, g] : Fin 2 → ℕ) 1 + (i 1 : ℕ) = g := by show g + (i 1 : ℕ) = g; omega
  rw [e0, e1]

/-! ## Where the stores land -/

section

variable {X0 X1 : FVec Ideal S512x1024 .f32} {X2 X3 : FVec Ideal S1x1024 .f32} {X4 : FVec Ideal S8x128x128 .f32}
  {X5 : FVec Ideal S128x8 .f32} {U V L B M : ℕ → ℕ → EReal} {W : ℕ → ℕ → ℕ → EReal}
  (h0 : ∀ i, X0 i = U (i 0) (i 1)) (h1 : ∀ i, X1 i = V (i 0) (i 1)) (h2 : ∀ i, X2 i = L (i 1 / 128) (i 1 % 128))
  (h3 : ∀ i, X3 i = B (i 1 / 128) (i 1 % 128)) (h4 : ∀ i, X4 i = W (i 0) (i 1) (i 2)) (h5 : ∀ i, X5 i = M (i 1) (i 0))

include h0 h1 h2 h3 h4 h5 in
theorem piece (g q : ℕ) (z c d f e k) (s : FVec Ideal S128x128 .f32)
    (h : ∀ x, s x = chunk (128 * q) k (lanes X1 (128 * g) c) (lanes X0 (128 * g) c) (lane X2 (128 * g) d) (lane X3 (128 * g) d)
        (plane X4 g f) (column X5 g e) x)
    (x : (Rect.unit (s := S512x1024) ![128 * q, 128 * g] S128x128.size z).shape.Idx) :
    s x =
      (fun y : S512x1024.Idx => gate U V L B M W (y 0) (y 1))
        ((Rect.unit (s := S512x1024) ![128 * q, 128 * g] S128x128.size z).emb x) := by
  refine ((h x).trans (chunk_at (lanes_at h0 g c) (lanes_at h1 g c) (lane_at h2 g d) (lane_at h3 g d) (plane_at h4 g f)
    (column_at h5 g _) (128 * q) k (Nat.mul_mod_right _ _) x)).trans ?_
  have hx : (x 1 : ℕ) < 128 := (x 1).isLt
  have e0 : ((Rect.unit (s := S512x1024) ![128 * q, 128 * g] S128x128.size z).emb x 0 : ℕ) = 128 * q + x 0 := by
    show 128 * q + 1 * (x 0 : ℕ) = _; omega
  have e1 : ((Rect.unit (s := S512x1024) ![128 * q, 128 * g] S128x128.size z).emb x 1 : ℕ) = 128 * g + x 1 := by
    show 128 * g + 1 * (x 1 : ℕ) = _; omega
  refine Eq.trans ?_ (congrArg₂ (gate U V L B M W) e0 e1).symm
  rw [gate, show (128 * g + (x 1 : ℕ)) / 128 = g by omega, show (128 * g + (x 1 : ℕ)) % 128 = x 1 by omega, part,
    Nat.mul_comm g 128]

end

/-! The tiles and the groups' parts lie within the blocks. -/

theorem tiles : ∀ (g : Fin 8) (q : Fin 4) (a : Fin S512x1024.rank),
    (![128 * q, 128 * g] : Fin 2 → ℕ) a + S128x128.size a ≤ S512x1024.size a := by decide
theorem parts : ∀ (g : Fin 8) (a : Fin 2), (![0, 128 * g] : Fin 2 → ℕ) a + S512x128.size a ≤ S512x1024.size a := by decide
theorem params : ∀ (g : Fin 8) (a : Fin 2), (![0, 128 * g] : Fin 2 → ℕ) a + S1x128.size a ≤ S1x1024.size a := by decide
theorem planes : ∀ (g : Fin 8) (a : Fin 3), (![g, 0, 0] : Fin 3 → ℕ) a + S1x128x128.size a ≤ S8x128x128.size a := by decide
theorem columns : ∀ (g : Fin 8) (a : Fin 2), (![0, g] : Fin 2 → ℕ) a + S128x1.size a ≤ S128x8.size a := by decide
theorem chunks : ∀ q : Fin 4, S512x128.Slices ![128 * q, 0] S128x128 := by decide

/-! ## A grid point's output, over its blocks -/

variable (m : (ℓ : Loc nD τ sig) → Buf (Elt Ideal) ℓ) (c : Dev nD)

section Point

variable {m c} {t : Fin cfg0.N} {U V L B M : ℕ → ℕ → EReal} {W : ℕ → ℕ → ℕ → EReal}
  (h0 : ∀ i, (X0_0 m c t : FVec Ideal S512x1024 .f32) i = U (i 0) (i 1))
  (h1 : ∀ i, (X0_1 m c t : FVec Ideal S512x1024 .f32) i = V (i 0) (i 1))
  (h2 : ∀ i, (iblk m c 2 t : FVec Ideal S1x1024 .f32) i = L (i 1 / 128) (i 1 % 128))
  (h3 : ∀ i, (iblk m c 3 t : FVec Ideal S1x1024 .f32) i = B (i 1 / 128) (i 1 % 128))
  (h4 : ∀ i, (iblk m c 4 t : FVec Ideal S8x128x128 .f32) i = W (i 0) (i 1) (i 2))
  (h5 : ∀ i, (iblk m c 5 t : FVec Ideal S128x8 .f32) i = M (i 1) (i 0))

include h0 in
theorem in0 (i) : (View.read (Elt Ideal) (ms0_0 t).view ((hs0_0 t).unread (X0_0 m c t)) : FVec Ideal S512x1024 .f32) i =
    U (i 0) (i 1) := by
  rw [Memref.IsWhole.read_unread]; exact h0 i

include h1 in
theorem in1 (i) : (View.read (Elt Ideal) (ms0_1 t).view ((hs0_1 t).unread (X0_1 m c t)) : FVec Ideal S512x1024 .f32) i =
    V (i 0) (i 1) := by
  rw [Memref.IsWhole.read_unread]; exact h1 i

include h2 in
theorem in2 (i) : (View.read (Elt Ideal) (ms0_2 t).view ((hs0_2 t).unread (iblk m c 2 t)) : FVec Ideal S1x1024 .f32) i =
    L (i 1 / 128) (i 1 % 128) := by
  rw [Memref.IsWhole.read_unread]; exact h2 i

include h3 in
theorem in3 (i) : (View.read (Elt Ideal) (ms0_3 t).view ((hs0_3 t).unread (iblk m c 3 t)) : FVec Ideal S1x1024 .f32) i =
    B (i 1 / 128) (i 1 % 128) := by
  rw [Memref.IsWhole.read_unread]; exact h3 i

include h4 in
theorem in4 (i) : (View.read (Elt Ideal) (ms0_4 t).view ((hs0_4 t).unread (iblk m c 4 t)) : FVec Ideal S8x128x128 .f32) i =
    W (i 0) (i 1) (i 2) := by
  rw [Memref.IsWhole.read_unread]; exact h4 i

include h5 in
theorem in5 (i) : (View.read (Elt Ideal) (ms0_5 t).view ((hs0_5 t).unread (iblk m c 5 t)) : FVec Ideal S128x8 .f32) i =
    M (i 1) (i 0) := by
  rw [Memref.IsWhole.read_unread]; exact h5 i

set_option maxHeartbeats 2000000 in
include h0 h1 h2 h3 h4 h5 in
theorem point (y) : (outsAt0 m c t).1 y = gate U V L B M W (y 0) (y 1) := by
  unfold outsAt0
  dsimp only
  unfold out0_A_6
  rw [View.read_writes_junk_eq_canon]
  unfold kernelRun0_A
  dsimp only
  have key := fun (g : Fin 8) (q : Fin 4) => piece (in0 h0) (in1 h1) (in2 h2) (in3 h3) (in4 h4) (in5 h5) g q (tiles g q) (parts g)
    (params g) (planes g) (columns g) (chunks q)
  exact View.canon_append_of_piecesOf (Val := Elt Ideal) (s := S512x1024) (e := .f32)
    (fun y : S512x1024.Idx => gate U V L B M W (y 0) (y 1)) [] [_, _, _, _, _, _, _, _,
      _, _, _, _, _, _, _, _, _, _, _, _, _, _, _, _, _, _, _, _, _, _, _, _]
    ⟨key 7 3 _ fun _ => rfl, key 7 2 _ fun _ => rfl, key 7 1 _ fun _ => rfl, key 7 0 _ fun _ => rfl,
      key 6 3 _ fun _ => rfl, key 6 2 _ fun _ => rfl, key 6 1 _ fun _ => rfl, key 6 0 _ fun _ => rfl,
      key 5 3 _ fun _ => rfl, key 5 2 _ fun _ => rfl, key 5 1 _ fun _ => rfl, key 5 0 _ fun _ => rfl,
      key 4 3 _ fun _ => rfl, key 4 2 _ fun _ => rfl, key 4 1 _ fun _ => rfl, key 4 0 _ fun _ => rfl,
      key 3 3 _ fun _ => rfl, key 3 2 _ fun _ => rfl, key 3 1 _ fun _ => rfl, key 3 0 _ fun _ => rfl,
      key 2 3 _ fun _ => rfl, key 2 2 _ fun _ => rfl, key 2 1 _ fun _ => rfl, key 2 0 _ fun _ => rfl,
      key 1 3 _ fun _ => rfl, key 1 2 _ fun _ => rfl, key 1 1 _ fun _ => rfl, key 1 0 _ fun _ => rfl,
      key 0 3 _ fun _ => rfl, key 0 2 _ fun _ => rfl, key 0 1 _ fun _ => rfl, key 0 0 _ fun _ => rfl, trivial⟩ y
    (View.cover_of_tiledL (s := S512x1024) _ S128x128.size (by sl_kernel_rfl) y)

end Point

/-! ## The blocks at point `t` -/

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

theorem whole2 (t : Fin cfg0.N) (i : S1x1024.Idx) : (win0_2.blk t).view.emb i = i :=
  funext fun a => Fin.ext (win0_2.rect_emb_val_of_index_zero t a (by rw [idx2 t]; fin_cases a <;> rfl) i)
theorem whole3 (t : Fin cfg0.N) (i : S1x1024.Idx) : (win0_3.blk t).view.emb i = i :=
  funext fun a => Fin.ext (win0_3.rect_emb_val_of_index_zero t a (by rw [idx3 t]; fin_cases a <;> rfl) i)
theorem whole4 (t : Fin cfg0.N) (i : S8x128x128.Idx) : (win0_4.blk t).view.emb i = i :=
  funext fun a => Fin.ext (win0_4.rect_emb_val_of_index_zero t a (by rw [idx4 t]; fin_cases a <;> rfl) i)
theorem whole5 (t : Fin cfg0.N) (i : S128x8.Idx) : (win0_5.blk t).view.emb i = i :=
  funext fun a => Fin.ext (win0_5.rect_emb_val_of_index_zero t a (by rw [idx5 t]; fin_cases a <;> rfl) i)

section Entries

variable {m c} {P L B M : ℕ → ℕ → EReal} {W : ℕ → ℕ → ℕ → EReal}
  (a0 : ∀ i, (m ((c : Thread nD τ).loc main_arg0) : FVec Ideal S4096x3328 .f32) i = P (i 0) (i 1))
  (a1 : ∀ i, (m ((c : Thread nD τ).loc main_arg1) : FVec Ideal S1x8x128 .f32) i = L (i 1) (i 2))
  (a2 : ∀ i, (m ((c : Thread nD τ).loc main_arg2) : FVec Ideal S1x8x128 .f32) i = B (i 1) (i 2))
  (a3 : ∀ i, (m ((c : Thread nD τ).loc main_arg3) : FVec Ideal S1x8x128x128 .f32) i = W (i 1) (i 2) (i 3))
  (a4 : ∀ i, (m ((c : Thread nD τ).loc main_arg4) : FVec Ideal S1x8x128 .f32) i = M (i 1) (i 2))

include a1 in
theorem host_gain (i : S1x1024.Idx) : V m c main_v0 i = L (i 1 / 128) (i 1 % 128) := by
  simp only [V, hostOps0, List.flatten_cons, List.flatten_nil, List.append_nil, List.cons_append, List.nil_append]
  entry_read
  show shapeCast S1x1024 (m ((c : Thread nD τ).loc main_arg1) : FVec Ideal S1x8x128 .f32) shapeCasts_S1x8x128_S1x1024 i = _
  pointwise []
  exact (a1 _).trans rfl

include a2 in
theorem host_bias (i : S1x1024.Idx) : V m c main_v1 i = B (i 1 / 128) (i 1 % 128) := by
  simp only [V, hostOps0, List.flatten_cons, List.flatten_nil, List.append_nil, List.cons_append, List.nil_append]
  entry_read
  show shapeCast S1x1024 (m ((c : Thread nD τ).loc main_arg2) : FVec Ideal S1x8x128 .f32) shapeCasts_S1x8x128_S1x1024 i = _
  pointwise []
  exact (a2 _).trans rfl

include a3 in
theorem host_mix (i : S8x128x128.Idx) : V m c main_v4 i = W (i 0) (i 1) (i 2) := by
  simp only [V, hostOps0, List.flatten_cons, List.flatten_nil, List.append_nil, List.cons_append, List.nil_append]
  entry_read
  exact (shapeCast_dropUnit_apply ![8, 128, 128] (m ((c : Thread nD τ).loc main_arg3) : FVec Ideal S1x8x128x128 .f32)
    shapeCasts_S1x8x128x128_S8x128x128 i).trans (a3 _)

include a4 in
theorem host_shift (i : S128x8.Idx) : V m c main_v3 i = M (i 1) (i 0) := by
  simp only [V, hostOps0, List.flatten_cons, List.flatten_nil, List.append_nil, List.cons_append, List.nil_append]
  entry_read
  show transpose S128x8 [1, 0] (shapeCast S8x128 (m ((c : Thread nD τ).loc main_arg4) : FVec Ideal S1x8x128 .f32)
    shapeCasts_S1x8x128_S8x128) transposes_S8x128_S128x8_1_0 i = _
  refine (transpose_apply [1, 0] _ _ i (ix2 (i 1) (i 0)) fun b => by fin_cases b <;> rfl).trans ?_
  exact (shapeCast_dropUnit_apply ![8, 128] (m ((c : Thread nD τ).loc main_arg4) : FVec Ideal S1x8x128 .f32)
    shapeCasts_S1x8x128_S8x128 _).trans (a4 _)

include a0 in
theorem block_u (t : Fin cfg0.N) (i) : (X0_0 m c t : FVec Ideal S512x1024 .f32) i = P (512 * t + i 0) (i 1) := by
  unfold X0_0 Pipeline.Window.fill
  rw [dif_pos (moved0_0 t i)]
  have e0 := win0_0.rect_emb_val t (fun a => ⟨i a, lt_of_lt_of_eq (i a).isLt (xsize0_0 t a).symm⟩) 0 rfl
  have e1 := win0_0.rect_emb_val t (fun a => ⟨i a, lt_of_lt_of_eq (i a).isLt (xsize0_0 t a).symm⟩) 1 rfl
  rw [idx0 t] at e0 e1
  exact (a0 _).trans (congrArg₂ P (e0.trans (by show t.val * 512 + (i 0 : ℕ) = _; omega))
    (e1.trans (by show 0 * 1024 + (i 1 : ℕ) = _; omega)))

include a0 in
theorem block_v (t : Fin cfg0.N) (i) : (X0_1 m c t : FVec Ideal S512x1024 .f32) i = P (512 * t + i 0) (1024 + i 1) := by
  unfold X0_1 Pipeline.Window.fill
  rw [dif_pos (moved0_1 t i)]
  have e0 := win0_1.rect_emb_val t (fun a => ⟨i a, lt_of_lt_of_eq (i a).isLt (xsize0_1 t a).symm⟩) 0 rfl
  have e1 := win0_1.rect_emb_val t (fun a => ⟨i a, lt_of_lt_of_eq (i a).isLt (xsize0_1 t a).symm⟩) 1 rfl
  rw [idx1 t] at e0 e1
  exact (a0 _).trans (congrArg₂ P (e0.trans (by show t.val * 512 + (i 0 : ℕ) = _; omega))
    (e1.trans (by show 1 * 1024 + (i 1 : ℕ) = _; omega)))

include a0 a1 a2 a3 a4 in
/-- The result array. -/
theorem final : (dats m 0 c).arrAt 6 cfg0.N =
    (fun i : S4096x1024.Idx => gate P (fun r k => P r (1024 + k)) L B M W (i 0) (i 1)) := by
  refine (dats m 0 c).arrAt_eq_of_covers 6 _ (by decide +kernel) fun t hf y => ?_
  rw [after0_6]
  have e := point (U := fun r k => P (512 * t + r) k) (block_u a0 t) (V := fun r k => P (512 * t + r) (1024 + k)) (block_v a0 t)
    (fun i => (congrArg (V m c main_v0) (whole2 t i)).trans (host_gain a1 i))
    (fun i => (congrArg (V m c main_v1) (whole3 t i)).trans (host_bias a2 i))
    (fun i => (congrArg (V m c main_v4) (whole4 t i)).trans (host_mix a3 i))
    (fun i => (congrArg (V m c main_v3) (whole5 t i)).trans (host_shift a4 i)) (fun a => ⟨y a, (y a).isLt⟩)
  refine e.trans ((gate_tile P (fun r k => P r (1024 + k)) L B M W t _ _).trans ?_)
  have e0 := win0_6.rect_emb_val t y 0 rfl
  have e1 := win0_6.rect_emb_val t y 1 rfl
  rw [idx6 t] at e0 e1
  exact (congrArg₂ (gate P (fun r k => P r (1024 + k)) L B M W)
    (e0.trans (by show t.val * 512 + (y 0 : ℕ) = 512 * t.val + (y 0 : ℕ); omega))
    (e1.trans (by show 0 * 1024 + (y 1 : ℕ) = (y 1 : ℕ); omega))).symm

end Entries

end Cert.GateFwdIdeal.Mixer

end
-- ==== Proof.GateFwd.lean ====
/-
The spatial gate's forward step: over the extended reals, the kernel's result array is the reference's.
-/
module

public import proofs.«01_k».proof.Defs
public import proofs.«01_k».proof.Proof.GateForward
public import proofs.«01_k».proof.Proof.Gen.GateFwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem Cert.Mixer

namespace Cert.GateFwdRefIdeal.Mixer

open Cert.GateFwdRefIdeal Cert.GateFwdRefIdeal.Gen Cert.GateFwdRefIdeal.Read

/-! ## The reference at an index -/

variable {x0 : FVec Ideal S4096x3328 .f32} {x1 x2 : FVec Ideal S1x8x128 .f32} {x3 : FVec Ideal S1x8x128x128 .f32}
  {x4 : FVec Ideal S1x8x128 .f32} {P L B M : ℕ → ℕ → EReal} {W : ℕ → ℕ → ℕ → EReal}
  (h0 : ∀ i, x0 i = P (i 0) (i 1)) (h1 : ∀ i, x1 i = L (i 1) (i 2)) (h2 : ∀ i, x2 i = B (i 1) (i 2))
  (h3 : ∀ i, x3 i = W (i 1) (i 2) (i 3)) (h4 : ∀ i, x4 i = M (i 1) (i 2))

/-- Every entry of the array of rows, groups and lanes is what `X` gives, the group first. -/
abbrev Ig (x : FVec Ideal S4096x8x128 .f32) (X : ℕ → ℕ → ℕ → EReal) : Prop := ∀ i, x i = X (i 1) (i 0) (i 2)

/-- The same of the array of chunks, positions, groups and lanes, the group first. -/
abbrev Ic (x : FVec Ideal S32x128x8x128 .f32) (X : ℕ → ℕ → ℕ → EReal) : Prop :=
  ∀ i, x i = X (i 2) (i 0 * 128 + i 1) (i 3)

variable (P) in
/-- The second half of a row. -/
abbrev second (r k : ℕ) : EReal := P r (1024 + k)

include h0 in
theorem at_v1 : Ig (val_main_v1 (F := Ideal) x0) (part P) := fun i => by
  pointwise [val_main_v1, val_main_v0]
  exact h0 _

include h0 in
theorem at_v3 : Ig (val_main_v3 (F := Ideal) x0) (part (second P)) := fun i => by
  pointwise [val_main_v3, val_main_v2]
  exact h0 _

include h0 in
theorem at_v22 : Ig (val_main_v22 (F := Ideal) x0) fun g r d => act (part P g r d) := fun i => by
  pointwise [val_main_v22, val_main_v21, val_main_v20, val_main_v19, val_main_v18, val_main_v17, val_main_v16, val_main_v15,
    val_main_v14, val_main_v13, val_main_v12, val_main_v11, val_main_v10, val_main_v9, val_main_v8, val_main_cst,
    val_main_cst_0, val_main_cst_1, val_main_cst_2, val_main_cst_3]
  rw [at_v1 h0]
  exact act_quot _

include h0 in
theorem at_v37 : Ig (val_main_v37 (F := Ideal) x0) fun g r d => act (part (second P) g r d) := fun i => by
  pointwise [val_main_v37, val_main_v36, val_main_v35, val_main_v34, val_main_v33, val_main_v32, val_main_v31, val_main_v30,
    val_main_v29, val_main_v28, val_main_v27, val_main_v26, val_main_v25, val_main_v24, val_main_v23, val_main_cst_4,
    val_main_cst_5, val_main_cst_6, val_main_cst_7, val_main_cst_8]
  rw [at_v3 h0]
  exact act_quot _

include h0 in
theorem at_v43 : Ig (val_main_v43 (F := Ideal) x0) fun g r => cen fun e => act (part (second P) g r e) := fun i => by
  pointwise [val_main_v43, val_main_v42, val_main_v41, val_main_v40, val_main_v39, val_main_v38, val_main_cst_9, val_main_cst_10]
  simp only [at_v37 h0]
  rfl

include h0 in
theorem at_v51 (i) : val_main_v51 (F := Ideal) x0 i = rstd fun e => act (part (second P) (i 1) (i 0) e) := by
  pointwise [val_main_v51, val_main_v50, val_main_v49, val_main_v48, val_main_v47, val_main_v46, val_main_v45, val_main_v44,
    val_main_cst_11, val_main_cst_12, val_main_cst_13]
  simp only [at_v43 h0]
  rfl

include h0 h1 h2 in
theorem at_v59 : Ig (val_main_v59 (F := Ideal) x0 x1 x2) fun g => vn (part (second P) g) (L g) (B g) := fun i => by
  pointwise [val_main_v59, val_main_v58, val_main_v57, val_main_v56, val_main_v55, val_main_v54, val_main_v53, val_main_v52,
    val_main_v5, val_main_v4]
  simp only [at_v43 h0, at_v51 h0, h1, h2]
  rfl

include h0 h1 h2 in
theorem at_v60 : Ic (val_main_v60 (F := Ideal) x0 x1 x2) fun g => vn (part (second P) g) (L g) (B g) := fun i => by
  pointwise [val_main_v60]
  exact at_v59 h0 h1 h2 _

theorem word_ge (x y : Fin 128) :
    IntOp.cmpi .sge (IntOp.addi (BitVec.ofNat 32 x) 0#32) (BitVec.ofNat 32 y) = if y ≤ x then 1#1 else 0#1 := by
  revert x y; decide +kernel

/-- The mask keeps the entries on and below the diagonal. -/
theorem at_mask (i : S8x128x128.Idx) : val_main_call1_v0 (F := Ideal) i = if (i 2 : ℕ) ≤ i 1 then 1#1 else 0#1 := by
  pointwise [val_main_call1_v0, val_main_v63, val_main_v62, val_main_v61, val_main_c, val_main_call0_v0, val_main_call0_c,
    val_main_call0_v1, val_main_call0_v2, val_main_call0_v3, val_main_call0_v4, val_main_call0_c_0, val_main_call0_v5]
  rw [show (if (i 2 : ℕ) ≤ i 1 then 1#1 else 0#1) = _ from (word_ge (i 1) (i 2)).symm]
  generalize IntOp.cmpi .sge _ _ = b
  revert b; decide

include h3 in
theorem at_v65 (i : S8x128x128.Idx) : val_main_v65 (F := Ideal) x3 i = tril (W (i 0)) (i 1) (i 2) := by
  pointwise [val_main_v65, val_main_v64, val_main_cst_14, val_main_v6]
  rw [at_mask, h3]
  exact Cert.GateFwdIdeal.Mixer.select_word _ _

include h0 h1 h2 h3 h4 in
theorem at_v71 : Ic (val_main_v71 (F := Ideal) x0 x1 x2 x3 x4)
    fun g => mixed (part (second P) g) (W g) (L g) (B g) (M g) := fun i => by
  pointwise [val_main_v71, val_main_v70, val_main_v69, val_main_v68, val_main_v67, val_main_v66, val_main_v7]
  rw [mixed_chunk _ _ _ _ _ (Nat.mul_mod_left _ _) (i 1).isLt]
  simp only [at_v60 h0 h1 h2, at_v65 h3, h4, mul_comm (vn _ _ _ _ _)]
  rfl

include h0 h1 h2 h3 h4 in
theorem at_v72 : Ig (val_main_v72 (F := Ideal) x0 x1 x2 x3 x4)
    fun g => mixed (part (second P) g) (W g) (L g) (B g) (M g) := fun i => by
  pointwise [val_main_v72]
  rw [at_v71 h0 h1 h2 h3 h4]
  exact congrArg (fun r => mixed _ _ _ _ _ r _) (Nat.div_add_mod' _ _)

include h0 h1 h2 h3 h4 in
theorem at_v74 (i) : val_main_v74 (F := Ideal) x0 x1 x2 x3 x4 i = gate P (second P) L B M W (i 0) (i 1) := by
  pointwise [val_main_v74, val_main_v73]
  rw [at_v22 h0, at_v72 h0 h1 h2 h3 h4]
  exact congrArg (fun k => act (P (i 0) k) * _) (Nat.div_add_mod' _ _)

end Cert.GateFwdRefIdeal.Mixer

namespace Cert.GateFwdIdeal.Mixer

open Cert.GateFwdIdeal Cert.GateFwdIdeal.Gen Cert.GateFwdRefIdeal.Read Cert.GateFwdRefIdeal.Mixer

/-! ## The kernel's array is the reference's -/

/-- An array's entries, as a function of what tells its indices apart. -/
theorem exists_at {ι α : Type} (f : ι → α) (hf : Function.Injective f) (x : ι → EReal) : ∃ P : α → EReal, ∀ i, x i = P (f i) :=
  ⟨Function.extend f x fun _ => 0, fun i => (hf.extend_apply x _ i).symm⟩

theorem exists_rows {n k : ℕ} (x : (⟨2, ![n, k]⟩ : Shape).Idx → EReal) : ∃ P : ℕ → ℕ → EReal, ∀ i, x i = P (i 0) (i 1) := by
  obtain ⟨P, hP⟩ := exists_at (fun i : (⟨2, ![n, k]⟩ : Shape).Idx => ((i 0 : ℕ), (i 1 : ℕ))) (fun i j h => by
    rw [Prod.mk.injEq] at h
    funext a; fin_cases a <;> exact Fin.ext (by first | exact h.1 | exact h.2)) x
  exact ⟨fun r d => P (r, d), hP⟩

theorem exists_groups {n k : ℕ} (x : (⟨3, ![1, n, k]⟩ : Shape).Idx → EReal) :
    ∃ P : ℕ → ℕ → EReal, ∀ i, x i = P (i 1) (i 2) := by
  obtain ⟨P, hP⟩ := exists_at (fun i : (⟨3, ![1, n, k]⟩ : Shape).Idx => ((i 1 : ℕ), (i 2 : ℕ))) (fun i j h => by
    rw [Prod.mk.injEq] at h
    have h0 : (i 0 : ℕ) < 1 := (i 0).isLt
    have h0' : (j 0 : ℕ) < 1 := (j 0).isLt
    funext a; fin_cases a <;> exact Fin.ext (by first | exact h.1 | exact h.2 | (show (i 0 : ℕ) = j 0; omega))) x
  exact ⟨fun r d => P (r, d), hP⟩

theorem exists_squares {n k l : ℕ} (x : (⟨4, ![1, n, k, l]⟩ : Shape).Idx → EReal) :
    ∃ P : ℕ → ℕ → ℕ → EReal, ∀ i, x i = P (i 1) (i 2) (i 3) := by
  obtain ⟨P, hP⟩ := exists_at (fun i : (⟨4, ![1, n, k, l]⟩ : Shape).Idx => ((i 1 : ℕ), (i 2 : ℕ), (i 3 : ℕ))) (fun i j h => by
    rw [Prod.mk.injEq, Prod.mk.injEq] at h
    have h0 : (i 0 : ℕ) < 1 := (i 0).isLt
    have h0' : (j 0 : ℕ) < 1 := (j 0).isLt
    funext a
    fin_cases a <;> exact Fin.ext (by first | exact h.1 | exact h.2.1 | exact h.2.2 | (show (i 0 : ℕ) = j 0; omega))) x
  exact ⟨fun r d e => P (r, d, e), hP⟩

variable (m : (ℓ : Loc nD τ sig) → Buf (Elt Ideal) ℓ) (c : Dev nD)

/-- Argument 0 of the step on a device. -/
abbrev arg0 : FVec Ideal S4096x3328 .f32 := m ((c.tc : Thread nD τ).loc main_arg0)

/-- Argument 1 of the step on a device. -/
abbrev arg1 : FVec Ideal S1x8x128 .f32 := m ((c.tc : Thread nD τ).loc main_arg1)

/-- Argument 2 of the step on a device. -/
abbrev arg2 : FVec Ideal S1x8x128 .f32 := m ((c.tc : Thread nD τ).loc main_arg2)

/-- Argument 3 of the step on a device. -/
abbrev arg3 : FVec Ideal S1x8x128x128 .f32 := m ((c.tc : Thread nD τ).loc main_arg3)

/-- Argument 4 of the step on a device. -/
abbrev arg4 : FVec Ideal S1x8x128 .f32 := m ((c.tc : Thread nD τ).loc main_arg4)

theorem result : (dats m 0 c).arrAt 6 cfg0.N =
    val_main_v74 (F := Ideal) (arg0 m c) (arg1 m c) (arg2 m c) (arg3 m c) (arg4 m c) := by
  obtain ⟨P, a0⟩ := exists_rows (arg0 m c)
  obtain ⟨L, a1⟩ := exists_groups (arg1 m c)
  obtain ⟨B, a2⟩ := exists_groups (arg2 m c)
  obtain ⟨W, a3⟩ := exists_squares (arg3 m c)
  obtain ⟨M, a4⟩ := exists_groups (arg4 m c)
  exact (final a0 a1 a2 a3 a4).trans (funext fun i => (at_v74 a0 a1 a2 a3 a4 i).symm)

end Cert.GateFwdIdeal.Mixer

namespace Cert.Proof

open Cert.GateFwdIdeal.Mixer Cert.GateFwdRefIdeal.Read

theorem algebraic_GateFwd : Cert.algebraic_GateFwdIdeal_GateFwdRefIdeal := fun m ρ m' ρ' _ hag =>
  ⟨fun c => val_main_v74 (F := Ideal) (arg0 m c) (arg1 m c) (arg2 m c) (arg3 m c) (arg4 m c),
    (θ_run _ _ _).mono (fun _ k c => ⟨(k c).1.trans (result m c), (k c).2.2⟩) (Cert.GateFwdIdeal.Value.run_blocks m ρ),
    (θ_run _ _ _).mono (fun _ k c => by
      obtain ⟨e0, e1, e2, e3, e4⟩ := hag c
      refine ⟨(k c).1.trans ?_, (k c).2⟩
      refine (val_main_v74_eq _ _).trans ?_; simp only [StableHlo.launchContents_devRef, e0, e1, e2, e3, e4])
      (Cert.GateFwdRefIdeal.Value.run m' ρ')⟩

end Cert.Proof

end
-- ==== Proof.GradDown.lean ====
/-
The down projection's weight gradient: the kernel squares the rectified activations tile by tile and contracts the
rows; over the extended reals that is the derivative of `relu(pre)² @ w_down` in `w_down`.
-/
module

public import proofs.«01_k».proof.Defs
public import proofs.«01_k».proof.Proof.Gen.GradDownIdeal.Value
public import proofs.«01_k».proof.Proof.Gen.GradDownRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.GradDownRefIdeal.Product

open Cert.GradDownRefIdeal Cert.GradDownRefIdeal.Gen Cert.GradDownRefIdeal.Read

/-- Entry (p, q) is the sum over the rows of the squared activation's column p times the cotangent's column q. -/
theorem ref_apply (x0 : (⟨Cert.GradDownRefIdeal.S4096x8192, .f32⟩ : BufTy).Contents (Elt Ideal)) (x1 : (⟨Cert.GradDownRefIdeal.S4096x2048, .bf16⟩ : BufTy).Contents (Elt Ideal)) (i : S8192x2048.Idx) :
    val_main_v7 (F := Ideal) x0 x1 i = (∑ k : Fin 4096, (max (x0 (ix2 k (i 0))) 0 * max (x0 (ix2 k (i 0))) 0) * x1 (ix2 k (i 1)) : EReal) := by
  pointwise [val_main_v7, val_main_v6, val_main_v5, val_main_v4, val_main_v2, val_main_v1, val_main_call0_v0, val_main_call0_cst]
  exact Finset.sum_congr rfl fun k _ => mul_comm _ _

end Cert.GradDownRefIdeal.Product

/-! ## The kernel's result array -/

namespace Cert.GradDownIdeal.Product

open Cert.GradDownIdeal Cert.GradDownIdeal.Gen

variable (m : (ℓ : Loc nD τ sig) → Buf (Elt Ideal) ℓ) (ρ : Dev nD → PrngReg)

theorem idx0 : ∀ t : Fin cfg0.N, win0_0.index t = ![0, (grid0.coords t 0).val] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The array that the kernel reads as `z` is the rectified `pre`: the host lines before the region compute it. -/
theorem V_z (c : Dev nD) (i : S4096x8192.Idx) :
    V m c main_v1 i = (max (m ((c : Thread nD τ).loc main_arg0) i) 0 : EReal) := by
  simp only [V, hostOps0, hostOps0_1, List.flatten_cons, List.flatten_nil, List.append_nil, List.cons_append, List.nil_append]
  entry_read
  show (max (m ((c : Thread nD τ).loc main_arg0) i) (Ideal.ofBits .f32 0x00000000#32) : EReal) = _
  rw [Ideal.ofBits_zero_f32]

theorem iblk_z (c : Dev nD) (t : Fin cfg0.N) (j : S4096x1024.Idx) :
    iblk m c 0 t j = (max (m ((c : Thread nD τ).loc main_arg0) ((win0_0.blk t).view.emb j)) 0 : EReal) :=
  V_z m c _

/-- The kernel's result array is the reference's function of the arguments: every point writes back its block of it. -/
theorem final (c : Dev nD) : (dats m 0 c).arrAt 2 cfg0.N
    = Cert.GradDownRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.GradDownRefIdeal.Product.ref_apply]
  pointwise [k0_pay1]
  refine Finset.sum_congr (M := EReal) rfl fun k _ => ?_
  rw [iblk_z]
  blk_point [iblk, V, idx0 t, idx1 t, idx2 t]

end Cert.GradDownIdeal.Product

namespace Cert.Proof

theorem algebraic_GradDown : Cert.algebraic_GradDownIdeal_GradDownRefIdeal := fun m ρ m' ρ' _ hag =>
  ⟨fun c => Cert.GradDownRefIdeal.Read.val_main_v7 (F := Ideal) (m ((c.tc : Thread Cert.GradDownIdeal.nD Cert.GradDownIdeal.τ).loc Cert.GradDownIdeal.main_arg0)) (m ((c.tc : Thread Cert.GradDownIdeal.nD Cert.GradDownIdeal.τ).loc Cert.GradDownIdeal.main_arg1)),
    (θ_run _ _ _).mono (fun _ h c => ⟨(h c).1.trans (Cert.GradDownIdeal.Product.final m c), (h c).2.2⟩)
      (Cert.GradDownIdeal.Value.run_blocks m ρ),
    (θ_run _ _ _).mono (fun _ h c => ⟨(h c).1.trans (by rw [(hag c).1, (hag c).2]; rfl), (h c).2⟩)
      (Cert.GradDownRefIdeal.Value.run m' ρ')⟩

end Cert.Proof

end
-- ==== Proof.GradIn.lean ====
/-
The input projection's weight gradient, transposed as the kernel keeps it: over the extended reals, the derivative of
`n @ w_in` in `w_in`.
-/
module

public import proofs.«01_k».proof.Defs
public import proofs.«01_k».proof.Proof.Gen.GradInIdeal.Value
public import proofs.«01_k».proof.Proof.Gen.GradInRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.GradInRefIdeal.Product

open Cert.GradInRefIdeal Cert.GradInRefIdeal.Gen Cert.GradInRefIdeal.Read

/-- Entry (p, q) is the sum over the rows of the cotangent's column p times `n`'s column q. -/
theorem ref_apply (x0 : (⟨Cert.GradInRefIdeal.S4096x3328, .bf16⟩ : BufTy).Contents (Elt Ideal)) (x1 : (⟨Cert.GradInRefIdeal.S4096x2048, .bf16⟩ : BufTy).Contents (Elt Ideal)) (i : S3328x2048.Idx) :
    val_main_v7 (F := Ideal) x0 x1 i = (∑ k : Fin 4096, x0 (ix2 k (i 0)) * x1 (ix2 k (i 1)) : EReal) := by
  pointwise [val_main_v7, val_main_v6, val_main_v5, val_main_v4, val_main_v3, val_main_v1]

end Cert.GradInRefIdeal.Product

/-! ## The kernel's result array -/

namespace Cert.GradInIdeal.Product

open Cert.GradInIdeal Cert.GradInIdeal.Gen

variable (m : (ℓ : Loc nD τ sig) → Buf (Elt Ideal) ℓ) (ρ : Dev nD → PrngReg)

theorem idx0 : ∀ t : Fin cfg0.N, win0_0.index t = ![0, (grid0.coords t 0).val] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's result array is the reference's function of the arguments: every point writes back its block of it. -/
theorem final (c : Dev nD) : (dats m 0 c).arrAt 2 cfg0.N
    = Cert.GradInRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.GradInRefIdeal.Product.ref_apply]
  pointwise [k0_pay1]
  blk_point [iblk, V, idx0 t, idx1 t, idx2 t]

end Cert.GradInIdeal.Product

namespace Cert.Proof

theorem algebraic_GradIn : Cert.algebraic_GradInIdeal_GradInRefIdeal := fun m ρ m' ρ' _ hag =>
  ⟨fun c => Cert.GradInRefIdeal.Read.val_main_v7 (F := Ideal) (m ((c.tc : Thread Cert.GradInIdeal.nD Cert.GradInIdeal.τ).loc Cert.GradInIdeal.main_arg0)) (m ((c.tc : Thread Cert.GradInIdeal.nD Cert.GradInIdeal.τ).loc Cert.GradInIdeal.main_arg1)),
    (θ_run _ _ _).mono (fun _ h c => ⟨(h c).1.trans (Cert.GradInIdeal.Product.final m c), (h c).2.2⟩)
      (Cert.GradInIdeal.Value.run_blocks m ρ),
    (θ_run _ _ _).mono (fun _ h c => ⟨(h c).1.trans (by rw [(hag c).1, (hag c).2]; rfl), (h c).2⟩)
      (Cert.GradInRefIdeal.Value.run m' ρ')⟩

end Cert.Proof

end
-- ==== Proof.GradOut.lean ====
/-
The output projection's weight gradient: the kernel's tiled product is, over the extended reals, the derivative of
`mixed @ w_out` in `w_out`. Every grid point contracts all 4096 rows, so each tile is a block of the whole product.
-/
module

public import proofs.«01_k».proof.Defs
public import proofs.«01_k».proof.Proof.Gen.GradOutIdeal.Value
public import proofs.«01_k».proof.Proof.Gen.GradOutRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.GradOutRefIdeal.Product

open Cert.GradOutRefIdeal Cert.GradOutRefIdeal.Gen Cert.GradOutRefIdeal.Read

/-- Entry (p, q) is the sum over the rows of `mixed`'s column p times the cotangent's column q. -/
theorem ref_apply (x0 : (⟨Cert.GradOutRefIdeal.S4096x2048, .bf16⟩ : BufTy).Contents (Elt Ideal)) (x1 : (⟨Cert.GradOutRefIdeal.S4096x2048, .bf16⟩ : BufTy).Contents (Elt Ideal)) (i : S2048x2048.Idx) :
    val_main_v6 (F := Ideal) x0 x1 i = (∑ k : Fin 4096, x0 (ix2 k (i 0)) * x1 (ix2 k (i 1)) : EReal) := by
  pointwise [val_main_v6, val_main_v5, val_main_v4, val_main_v3, val_main_v1]
  exact Finset.sum_congr rfl fun k _ => mul_comm _ _

end Cert.GradOutRefIdeal.Product

/-! ## The kernel's result array -/

namespace Cert.GradOutIdeal.Product

open Cert.GradOutIdeal Cert.GradOutIdeal.Gen

variable (m : (ℓ : Loc nD τ sig) → Buf (Elt Ideal) ℓ) (ρ : Dev nD → PrngReg)

theorem idx0 : ∀ t : Fin cfg0.N, win0_0.index t = ![0, (grid0.coords t 0).val] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's result array is the reference's function of the arguments: every point writes back its block of it. -/
theorem final (c : Dev nD) : (dats m 0 c).arrAt 2 cfg0.N
    = Cert.GradOutRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.GradOutRefIdeal.Product.ref_apply]
  pointwise [k0_pay1]
  blk_point [iblk, V, idx0 t, idx1 t, idx2 t]

end Cert.GradOutIdeal.Product

namespace Cert.Proof

theorem algebraic_GradOut : Cert.algebraic_GradOutIdeal_GradOutRefIdeal := fun m ρ m' ρ' _ hag =>
  ⟨fun c => Cert.GradOutRefIdeal.Read.val_main_v6 (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)),
    (θ_run _ _ _).mono (fun _ h c => ⟨(h c).1.trans (Cert.GradOutIdeal.Product.final m c), (h c).2.2⟩)
      (Cert.GradOutIdeal.Value.run_blocks m ρ),
    (θ_run _ _ _).mono (fun _ h c => ⟨(h c).1.trans (by rw [(hag c).1, (hag c).2]; rfl), (h c).2⟩)
      (Cert.GradOutRefIdeal.Value.run m' ρ')⟩

end Cert.Proof

end
-- ==== Proof.GradUp.lean ====
/-
The up projection's weight gradient, cut into the eight column blocks that the devices own: over the extended reals, the
derivative of `n @ w_up` in `w_up`.
-/
module

public import proofs.«01_k».proof.Defs
public import proofs.«01_k».proof.Proof.Gen.GradUpIdeal.Value
public import proofs.«01_k».proof.Proof.Gen.GradUpRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.GradUpRefIdeal.Product

open Cert.GradUpRefIdeal Cert.GradUpRefIdeal.Gen Cert.GradUpRefIdeal.Read

/-- Entry (b, p, q) is the sum over the rows of `n`'s column p times the cotangent's column 1024 b + q. -/
theorem ref_apply (x0 : (⟨Cert.GradUpRefIdeal.S4096x2048, .bf16⟩ : BufTy).Contents (Elt Ideal)) (x1 : (⟨Cert.GradUpRefIdeal.S4096x8192, .bf16⟩ : BufTy).Contents (Elt Ideal)) (i : S8x2048x1024.Idx) :
    val_main_v8 (F := Ideal) x0 x1 i = (∑ k : Fin 4096, x0 (ix2 k (i 1)) * x1 (ix2 k (⟨(i 0).val * 1024 + (i 2).val, by have := (i 0).isLt; have := (i 2).isLt; simp at *; omega⟩)) : EReal) := by
  pointwise [val_main_v8, val_main_v7, val_main_v6, val_main_v5, val_main_v4, val_main_v3, val_main_v1]
  exact Finset.sum_congr rfl fun k _ => mul_comm _ _

end Cert.GradUpRefIdeal.Product

/-! ## The kernel's result array -/

namespace Cert.GradUpIdeal.Product

open Cert.GradUpIdeal Cert.GradUpIdeal.Gen

variable (m : (ℓ : Loc nD τ sig) → Buf (Elt Ideal) ℓ) (ρ : Dev nD → PrngReg)

theorem idx0 : ∀ t : Fin cfg0.N, win0_0.index t = ![0, (grid0.coords t 0).val] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 1).val, (grid0.coords t 0).val, 0] :=
  (by decide +kernel : ∀ t : Fin grid0.N, _)

/-- The kernel's result array is the reference's function of the arguments: every point writes back its block of it. -/
theorem final (c : Dev nD) : (dats m 0 c).arrAt 2 cfg0.N
    = Cert.GradUpRefIdeal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.GradUpRefIdeal.Product.ref_apply]
  pointwise [k0_pay1]
  blk_point [iblk, V, idx0 t, idx1 t, idx2 t]

end Cert.GradUpIdeal.Product

namespace Cert.Proof

theorem algebraic_GradUp : Cert.algebraic_GradUpIdeal_GradUpRefIdeal := fun m ρ m' ρ' _ hag =>
  ⟨fun c => Cert.GradUpRefIdeal.Read.val_main_v8 (F := Ideal) (m ((c.tc : Thread Cert.GradUpIdeal.nD Cert.GradUpIdeal.τ).loc Cert.GradUpIdeal.main_arg0)) (m ((c.tc : Thread Cert.GradUpIdeal.nD Cert.GradUpIdeal.τ).loc Cert.GradUpIdeal.main_arg1)),
    (θ_run _ _ _).mono (fun _ h c => ⟨(h c).1.trans (Cert.GradUpIdeal.Product.final m c), (h c).2.2⟩)
      (Cert.GradUpIdeal.Value.run_blocks m ρ),
    (θ_run _ _ _).mono (fun _ h c => ⟨(h c).1.trans (by rw [(hag c).1, (hag c).2]; rfl), (h c).2⟩)
      (Cert.GradUpRefIdeal.Value.run m' ρ')⟩

end Cert.Proof

end
-- ==== Proof.Rms.lean ====
/-
The root mean square normalization: the derivative's two forms agree over the extended reals, at every argument.
-/
module

public import Idealize.ShloMosaic.PureOps.Ideal
public import Idealize.ShloMosaic.Lib.ValueIdx

@[expose] public section

noncomputable section

namespace Cert.Rms

open Idealize.ShloMosaic
open scoped BigOperators

/-- The cube of a reciprocal root is the reciprocal root over its argument. -/
theorem cube {m : EReal} (h : 0 < m) : Ideal.rsqrt m * Ideal.rsqrt m * Ideal.rsqrt m = Ideal.div (Ideal.rsqrt m) m := by
  induction m with
  | bot => exact absurd h (by simp)
  | top => simp [Ideal.div]
  | coe x =>
    have hx : 0 < x := EReal.coe_pos.mp h
    rw [Ideal.rsqrt_coe, if_neg hx.le.not_gt, if_neg hx.ne', Ideal.div, if_neg h.ne', ← EReal.coe_inv, ← EReal.coe_mul,
      ← EReal.coe_mul, ← EReal.coe_mul]
    refine congrArg _ ?_
    rw [mul_assoc, ← mul_inv, Real.mul_self_sqrt hx.le]

/-- Twice minus a half of a number is its negative. -/
theorem halves (u : EReal) : ((-(1 / 2) : ℝ) : EReal) * u + ((-(1 / 2) : ℝ) : EReal) * u = -u := by
  induction u with
  | bot => rw [EReal.coe_mul_bot_of_neg (by norm_num)]; rfl
  | top => rw [EReal.coe_mul_top_of_neg (by norm_num)]; rfl
  | coe x => rw [← EReal.coe_mul, ← EReal.coe_add, ← EReal.coe_neg]; congr 1; ring

theorem word_neg_half : Ideal.ofBits .f32 0xBF000000#32 = ((-(1 / 2) : ℝ) : EReal) := by
  simp [Ideal.ofBits, Ideal.ieee]
  exact_mod_cast (by norm_num : (8388608 : ℝ) * (2 ^ 24)⁻¹ = 2⁻¹)

theorem word_wide : Ideal.ofBits .f32 0x45000000#32 = ((2048 : ℝ) : EReal) := by
  simp [Ideal.ofBits, Ideal.ieee]
  exact_mod_cast (by norm_num : (8388608 : ℝ) * (2 ^ 12)⁻¹ = 2048)

theorem word_narrow : Ideal.ofBits .f32 0x44800000#32 = ((1024 : ℝ) : EReal) := by
  simp [Ideal.ofBits, Ideal.ieee]
  exact_mod_cast (by norm_num : (8388608 : ℝ) * (2 ^ 13)⁻¹ = 1024)

theorem wide_pos : 0 < Ideal.ofBits .f32 0x45000000#32 := by
  rw [word_wide]; exact EReal.coe_pos.mpr (by norm_num)

theorem narrow_pos : 0 < Ideal.ofBits .f32 0x44800000#32 := by
  rw [word_narrow]; exact EReal.coe_pos.mpr (by norm_num)

theorem ridge_pos : 0 < Ideal.ofBits .f32 0x3727C5AC#32 := by
  simp [Ideal.ofBits, Ideal.ieee]
  exact_mod_cast (by norm_num : (0 : ℝ) < 10995116 * (2 ^ 40)⁻¹)

theorem square_nonneg (x : EReal) : 0 ≤ x * x := by
  induction x with
  | bot => simp
  | top => simp
  | coe x => rw [← EReal.coe_mul]; exact EReal.coe_nonneg.mpr (mul_self_nonneg x)

variable {n : ℕ}

/-- The mean of the squares of a row, with the ridge. -/
def mean (N : EReal) (x : Fin n → EReal) : EReal := Ideal.div (∑ k, x k * x k) N + Ideal.ofBits .f32 0x3727C5AC#32

/-- The reciprocal root of it. -/
def root (N : EReal) (x : Fin n → EReal) : EReal := Ideal.rsqrt (mean N x)

theorem div_eq {N : EReal} (hN : 0 < N) (a : EReal) : Ideal.div a N = a * N⁻¹ := by
  rw [Ideal.div, if_neg hN.ne']

theorem mean_pos {N : EReal} (hN : 0 < N) (x : Fin n → EReal) : 0 < mean N x := by
  refine lt_of_lt_of_le ridge_pos (le_add_of_nonneg_left ?_)
  rw [div_eq hN]
  exact mul_nonneg (Finset.sum_nonneg fun k _ => square_nonneg (x k)) (EReal.inv_nonneg_of_nonneg hN.le)

/-- The derivative of `x / rms` along `w`, as the kernel writes it. -/
def closed (N : EReal) (x w : Fin n → EReal) (k : Fin n) : EReal :=
  root N x * w k - x k * (root N x * root N x * root N x) * Ideal.div (∑ j, w j * x j) N

/-- The part of it that runs through the mean, on one of the two factors of the square. -/
def path (N : EReal) (x w : Fin n → EReal) : EReal :=
  ∑ _i : Fin 1, Ideal.div ((∑ j, x j * w j) * (Ideal.ofBits .f32 0xBF000000#32 * Ideal.div (root N x) (mean N x))) N

theorem paths {N : EReal} (hN : 0 < N) (x w : Fin n → EReal) (k : Fin n) :
    x k * path N x w + path N x w * x k
      = -(x k * (root N x * root N x * root N x) * Ideal.div (∑ j, w j * x j) N) := by
  rw [mul_comm (path N x w), path, Fin.sum_univ_one, word_neg_half, root, cube (mean_pos hN x), ← halves, div_eq hN,
    div_eq hN, Finset.sum_congr rfl fun j _ => mul_comm (w j) (x j)]
  refine congrArg₂ (· + ·) ?_ ?_ <;> ac_rfl

/-- The kernel's form added to a number is the sum over the three paths. -/
theorem closed_eq {N : EReal} (hN : 0 < N) (x w : Fin n → EReal) (k : Fin n) (h : EReal) :
    h + closed N x w k = h + w k * root N x + x k * path N x w + path N x w * x k := by
  rw [add_assoc _ (x k * _), paths hN, closed, sub_eq_add_neg, mul_comm (w k), add_assoc]

theorem closed_eq' {N : EReal} (hN : 0 < N) (x w : Fin n → EReal) (k : Fin n) :
    closed N x w k = w k * root N x + x k * path N x w + path N x w * x k := by
  rw [add_assoc _ (x k * _), paths hN, closed, sub_eq_add_neg, mul_comm (w k)]

/-- Row r of the t-th block of 512 rows. -/
def row (t : Fin 8) (r : Fin 512) : Fin 4096 := ⟨512 * t.val + r.val, by omega⟩

/-- A sum over the blocks' rows is the sum over the rows. -/
theorem sum_rows (f : Fin 4096 → EReal) : ∑ t : Fin 8, ∑ r : Fin 512, f (row t r) = ∑ i : Fin 4096, f i := by
  rw [← Fintype.sum_prod_type']
  refine Eq.trans (Finset.sum_congr rfl fun x _ => ?_) (Equiv.sum_comp (finProdFinEquiv (m := 8) (n := 512)) f)
  exact congrArg f (Fin.ext (Nat.add_comm _ _))

end Cert.Rms

end
-- ==== Proof.InBwd.lean ====
/-
The backward step through the input projection and its normalization: over the extended reals the kernel's gradients of
the input's rows and of the normalization's gain are the derivative of `x, rms_norm(x, g) @ w_in`.
-/
module

public import proofs.«01_k».proof.Defs
public import proofs.«01_k».proof.Proof.Rms
public import proofs.«01_k».proof.Proof.Gen.InBwdIdeal.Value
public import proofs.«01_k».proof.Proof.Gen.InBwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InBwdRefIdeal.Grad

open Cert.InBwdRefIdeal Cert.InBwdRefIdeal.Gen Cert.InBwdRefIdeal.Read Cert.Rms

/-- The gradient that reaches the normed rows. -/
def flow (x0 : (⟨S4096x3328, .bf16⟩ : BufTy).Contents (Elt Ideal)) (x1 : (⟨S3328x2048, .bf16⟩ : BufTy).Contents (Elt Ideal)) (p : Fin 4096) (q : Fin 2048) : EReal :=
  ∑ k : Fin 3328, x0 (ix2 p k) * x1 (ix2 k q)

theorem ref_apply (x0 : (⟨S4096x3328, .bf16⟩ : BufTy).Contents (Elt Ideal)) (x1 : (⟨S3328x2048, .bf16⟩ : BufTy).Contents (Elt Ideal)) (x2 x3 : (⟨S4096x2048, .f32⟩ : BufTy).Contents (Elt Ideal)) (x4 : (⟨S1x2048, .f32⟩ : BufTy).Contents (Elt Ideal)) (p : Fin 4096) (q : Fin 2048) :
    val_main_v42 (F := Ideal) x0 x1 x2 x3 x4 (ix2 p q) = (x3 (ix2 p q) + closed (Ideal.ofBits .f32 0x45000000#32) (fun k => x2 (ix2 p k)) (fun k => flow x0 x1 p k * x4 (ix2 0 k)) q : EReal) := by
  rw [closed_eq wide_pos]
  pointwise [val_main_v42, val_main_v41, val_main_v40, val_main_v39, val_main_v38, val_main_v37, val_main_v36, val_main_v35, val_main_v34, val_main_v33, val_main_v32, val_main_v31, val_main_v30, val_main_v29, val_main_v28, val_main_v26, val_main_v25, val_main_v21, val_main_v20, val_main_v16, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem gain_apply (x0 : (⟨S4096x3328, .bf16⟩ : BufTy).Contents (Elt Ideal)) (x1 : (⟨S3328x2048, .bf16⟩ : BufTy).Contents (Elt Ideal)) (x2 : (⟨S4096x2048, .f32⟩ : BufTy).Contents (Elt Ideal)) (i : S1x2048.Idx) :
    val_main_v43 (F := Ideal) x0 x1 x2 i = (∑ r : Fin 4096, flow x0 x1 r (i 1) * (x2 (ix2 r (i 1)) * root (Ideal.ofBits .f32 0x45000000#32) fun k => x2 (ix2 r k)) : EReal) := by
  pointwise [val_main_v43, val_main_v27, val_main_v24, val_main_v23, val_main_v22, val_main_v15, val_main_v14, val_main_v21, val_main_v20, val_main_v10, val_main_v9, val_main_v8, val_main_v7, val_main_v6, val_main_v5, val_main_v4, val_main_v3, val_main_v1, val_main_v0, val_main_cst, val_main_cst_0, val_main_cst_1, val_main_cst_3, val_main_cst_4]
  exact (Fin.sum_univ_one _).trans (Finset.sum_congr rfl fun r _ => mul_comm _ _)

end Cert.InBwdRefIdeal.Grad

namespace Cert.InBwdIdeal.Grad

open Cert.InBwdIdeal Cert.InBwdIdeal.Gen Cert.Rms
open Cert.InBwdRefIdeal.Grad (flow)

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

abbrev a0 : FVec Ideal S4096x3328 .bf16 := m ((c : Thread nD τ).loc main_arg0)
abbrev a1 : FVec Ideal S3328x2048 .bf16 := m ((c : Thread nD τ).loc main_arg1)
abbrev a2 : FVec Ideal S4096x2048 .f32 := m ((c : Thread nD τ).loc main_arg2)
abbrev a3 : FVec Ideal S4096x2048 .f32 := m ((c : Thread nD τ).loc main_arg3)
abbrev a4 : FVec Ideal S1x2048 .f32 := m ((c : Thread nD τ).loc main_arg4)

abbrev x0 (t : Fin cfg0.N) : FVec Ideal S512x3328 .bf16 := iblk m c 0 t
abbrev x1 (t : Fin cfg0.N) : FVec Ideal S3328x2048 .bf16 := iblk m c 1 t
abbrev x2 (t : Fin cfg0.N) : FVec Ideal S512x2048 .f32 := iblk m c 2 t
abbrev x3 (t : Fin cfg0.N) : FVec Ideal S512x2048 .f32 := iblk m c 3 t
abbrev x4 (t : Fin cfg0.N) : FVec Ideal S1x2048 .f32 := iblk m c 4 t

/-- The gradient that reaches the normed rows of a block. -/
def flow' (t : Fin cfg0.N) (p : Fin 512) (q : Fin 2048) : EReal :=
  ∑ k : Fin 3328, x0 m c t (ix2 p k) * x1 m c t (ix2 k q)

/-- A block's entry of the rows' gradient. -/
theorem rows (t : Fin cfg0.N) (p : Fin 512) (q : Fin 2048) :
    (outsAt0 m c t.val t.isLt).1 (ix2 p q) = (x3 m c t (ix2 p q)
      + closed (Ideal.ofBits .f32 0x45000000#32) (fun k => x2 m c t (ix2 p k))
        (fun k => flow' m c t p k * x4 m c t (ix2 0 k)) q : EReal) := by
  by_cases h : t.val % 8 = 0
  · rw [outsAt0_A m c t h]
    frame_out
    pointwise [k0_pay1, k0_pay8, k0_pay9, k0_pay10, k0_pay4, k0_pay5, k0_pay7]
    rfl
  · rw [outsAt0_B m c t h]
    frame_out
    pointwise [k0_pay1, k0_pay8, k0_pay9, k0_pay10, k0_pay4, k0_pay5, k0_pay7]
    rfl

/-- A block's share of the gain's gradient. -/
def share (t : Fin cfg0.N) (i : S1x2048.Idx) : EReal :=
  ∑ r : Fin 512, flow' m c t r (i 1) * (x2 m c t (ix2 r (i 1))
    * root (Ideal.ofBits .f32 0x45000000#32) fun k => x2 m c t (ix2 r k))

theorem gainA (t : Fin cfg0.N) (h : t.val % 8 = 0) (i) : (outsAt0 m c t.val t.isLt).2.1 i = (0 + share m c t i : EReal) := by
  rw [outsAt0_A m c t h]
  frame_out
  pointwise [k0_pay6, k0_pay3, k0_pay4, k0_pay5, k0_pay7]
  rfl

theorem gainB (t : Fin cfg0.N) (h : ¬ t.val % 8 = 0) (i) : (outsAt0 m c t.val t.isLt).2.1 i
    = ((outsAt0 m c (t.val - 1) (Nat.lt_of_le_of_lt (Nat.sub_le _ _) t.isLt)).2.1 i + share m c t i : EReal) := by
  rw [outsAt0_B m c t h]
  frame_out
  pointwise [k0_pay6, k0_pay3, k0_pay4, k0_pay5, k0_pay7]
  rfl

theorem at0 (t : Fin cfg0.N) (p : Fin 512) (k : Fin 3328) : x0 m c t (ix2 p k) = a0 m c (ix2 (row t p) k) := by
  blk_point [x0, iblk, V, idx0 t, row]
theorem at1 (t : Fin cfg0.N) : x1 m c t = a1 m c := by
  blk_point [x1, iblk, V, idx1 t]
theorem at2 (t : Fin cfg0.N) (p : Fin 512) (k : Fin 2048) : x2 m c t (ix2 p k) = a2 m c (ix2 (row t p) k) := by
  blk_point [x2, iblk, V, idx2 t, row]
theorem at3 (t : Fin cfg0.N) (p : Fin 512) (k : Fin 2048) : x3 m c t (ix2 p k) = a3 m c (ix2 (row t p) k) := by
  blk_point [x3, iblk, V, idx3 t, row]
theorem at4 (t : Fin cfg0.N) : x4 m c t = a4 m c := by
  blk_point [x4, iblk, V, idx4 t]

theorem flow_eq (t : Fin cfg0.N) (p : Fin 512) (q : Fin 2048) : flow' m c t p q = flow (a0 m c) (a1 m c) (row t p) q := by
  simp only [flow', flow, at0, at1]

theorem emb (t : Fin cfg0.N) (p : Fin 512) (q : Fin 2048) : (win0_5.blk t).view.emb (ix2 p q) = (ix2 (row t p) q : S4096x2048.Idx) := by
  have e0 := win0_5.rect_emb_val t (ix2 p q) 0 rfl
  have e1 := win0_5.rect_emb_val t (ix2 p q) 1 rfl
  rw [idx5 t] at e0 e1
  funext a
  fin_cases a
  · exact Fin.ext (e0.trans (by show t.val * 512 + p.val = 512 * t.val + p.val; omega))
  · exact Fin.ext (e1.trans (by show 0 * 2048 + q.val = q.val; omega))

theorem final_rows : (dats m 0 c).arrAt 5 cfg0.N
    = Cert.InBwdRefIdeal.Read.val_main_v42 (F := Ideal) (a0 m c) (a1 m c) (a2 m c) (a3 m c) (a4 m c) := by
  refine (dats m 0 c).arrAt_eq_of_covers 5 _ (by decide +kernel) fun t hf y => ?_
  blk_simp
  rw [after0_5]
  obtain ⟨p, q, rfl⟩ : ∃ p q, y = ix2 p q := ⟨y 0, y 1, funext fun a => by fin_cases a <;> rfl⟩
  refine (rows m c t p q).trans ?_
  rw [emb, Cert.InBwdRefIdeal.Grad.ref_apply]
  simp only [at2, at3, at4, flow_eq]

theorem share_eq (t : Fin cfg0.N) (i : S1x2048.Idx) : share m c t i
    = (∑ r : Fin 512, flow (a0 m c) (a1 m c) (row t r) (i 1) * (a2 m c (ix2 (row t r) (i 1)) * root (Ideal.ofBits .f32 0x45000000#32) fun k => a2 m c (ix2 (row t r) k)) : EReal) := by
  refine Finset.sum_congr rfl fun r _ => congrArg₂ (· * ·) (flow_eq m c t r (i 1)) (congrArg₂ (· * ·) (at2 m c t r (i 1)) ?_)
  exact congrArg _ (funext fun k => at2 m c t r k)

theorem final_gain : (dats m 0 c).arrAt 6 cfg0.N
    = Cert.InBwdRefIdeal.Read.val_main_v43 (F := Ideal) (a0 m c) (a1 m c) (a2 m c) := by
  refine (dats m 0 c).arrAt_eq_of_after_last 6 ⟨7, by decide⟩ (by decide +kernel) _ fun j => ?_
  rw [after0_6]
  have e := Pipeline.eq_sum_fin_of_reset_step_apply_last (N := 8) (M := EReal)
    (fun n h => (outsAt0 m c n h).2.1) 8 _ (fun t i => share m c t i)
    (fun t h => gainA m c t h) (fun t h => gainB m c t h) le_rfl 7 rfl j
  rw [zero_add] at e
  refine e.trans ?_
  refine Eq.trans ?_ (Cert.InBwdRefIdeal.Grad.gain_apply (a0 m c) (a1 m c) (a2 m c) j).symm
  rw [← sum_rows]
  exact Finset.sum_congr rfl fun t _ => share_eq m c t j

end Cert.InBwdIdeal.Grad

namespace Cert.Proof

open Cert.InBwdRefIdeal.Read Cert.InBwdIdeal.Grad

theorem algebraic_InBwd : Cert.algebraic_InBwdIdeal_InBwdRefIdeal := fun m ρ m' ρ' _ hag =>
  ⟨fun c => val_main_v42 (F := Ideal) (a0 m c) (a1 m c) (a2 m c) (a3 m c) (a4 m c),
    fun c => val_main_v43 (F := Ideal) (a0 m c) (a1 m c) (a2 m c),
    (θ_run _ _ _).mono (fun _ k c =>
      ⟨(k c).1.trans (final_rows m c), (k c).2.1.trans (final_gain m c), (k c).2.2.2⟩)
      (Cert.InBwdIdeal.Value.run_blocks m ρ),
    (θ_run _ _ _).mono (fun _ k c => by
      obtain ⟨e0, e1, e2, e3, e4⟩ := hag c
      refine ⟨(k c).1.trans ?_, (k c).2.1.trans ?_, (k c).2.2⟩
      · refine (val_main_v42_eq _ _).trans ?_; simp only [StableHlo.launchContents_devRef, e0, e1, e2, e3, e4]
      · refine (val_main_v43_eq _ _ _).trans ?_; simp only [StableHlo.launchContents_devRef, e0, e1, e2])
      (Cert.InBwdRefIdeal.Value.run m' ρ')⟩

end Cert.Proof

end
-- ==== Proof.InFwd.lean ====
/-
The input projection: over the extended reals the kernel's row tiles are the blocks of `n @ w_in`, the weight read
transposed.
-/
module

public import proofs.«01_k».proof.Defs
public import proofs.«01_k».proof.Proof.Gen.InFwdIdeal.Value
public import proofs.«01_k».proof.Proof.Gen.InFwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.InFwdRefIdeal.Product

open Cert.InFwdRefIdeal Cert.InFwdRefIdeal.Gen Cert.InFwdRefIdeal.Read

/-- Entry (p, q) is the sum over the model axis of `n`'s row p times the transposed weight's row q. -/
theorem ref_apply (x0 : (⟨Cert.InFwdRefIdeal.S4096x2048, .bf16⟩ : BufTy).Contents (Elt Ideal)) (x1 : (⟨Cert.InFwdRefIdeal.S3328x2048, .bf16⟩ : BufTy).Contents (Elt Ideal)) (i : S4096x3328.Idx) :
    val_main_v3 (F := Ideal) x0 x1 i = (∑ k : Fin 2048, x0 (ix2 (i 0) k) * x1 (ix2 (i 1) k) : EReal) := by
  pointwise [val_main_v3, val_main_v2, val_main_v1, val_main_v0]

end Cert.InFwdRefIdeal.Product

/-! ## The kernel's result array -/

namespace Cert.InFwdIdeal.Product

open Cert.InFwdIdeal Cert.InFwdIdeal.Gen

variable (m : (ℓ : Loc nD τ sig) → Buf (Elt Ideal) ℓ) (ρ : Dev nD → PrngReg)

theorem idx0 : ∀ t : Fin cfg0.N, win0_0.index t = ![(grid0.coords t 0).val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![(grid0.coords t 0).val, 0] :=
  (by decide +kernel : ∀ t : Fin grid0.N, _)

/-- The kernel's result array is the reference's function of the arguments: every point writes back its block of it. -/
theorem final (c : Dev nD) : (dats m 0 c).arrAt 2 cfg0.N
    = Cert.InFwdRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.InFwdRefIdeal.Product.ref_apply]
  pointwise [k0_pay1]
  blk_point [iblk, V, idx0 t, idx1 t, idx2 t]

end Cert.InFwdIdeal.Product

namespace Cert.Proof

theorem algebraic_InFwd : Cert.algebraic_InFwdIdeal_InFwdRefIdeal := fun m ρ m' ρ' _ hag =>
  ⟨fun c => Cert.InFwdRefIdeal.Read.val_main_v3 (F := Ideal) (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)),
    (θ_run _ _ _).mono (fun _ h c => ⟨(h c).1.trans (Cert.InFwdIdeal.Product.final m c), (h c).2.2⟩)
      (Cert.InFwdIdeal.Value.run_blocks m ρ),
    (θ_run _ _ _).mono (fun _ h c => ⟨(h c).1.trans (by rw [(hag c).1, (hag c).2]; rfl), (h c).2⟩)
      (Cert.InFwdRefIdeal.Value.run m' ρ')⟩

end Cert.Proof

end
-- ==== Proof.LossHead.lean ====
/-
The final norm and the loss: over the extended reals the kernel's loss, and its gradients of the gain and of the rows,
are half the sum over the rows of the mean of the squared errors of `rms_norm(h, g)`, and its derivative.
-/
module

public import proofs.«01_k».proof.Defs
public import proofs.«01_k».proof.Proof.Rms
public import proofs.«01_k».proof.Proof.Gen.LossHeadIdeal.Value
public import proofs.«01_k».proof.Proof.Gen.LossHeadRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Loss

open Cert.Rms

/-- The reciprocal of the number of columns, and half of it. -/
def inv : EReal := Ideal.ofBits .f32 0x3A000000#32
def halfInv : EReal := Ideal.ofBits .f32 0x39800000#32

theorem word_inv : inv = ((1 / 2048 : ℝ) : EReal) := by
  simp [inv, Ideal.ofBits, Ideal.ieee]
  exact_mod_cast (by norm_num : (8388608 : ℝ) * (2 ^ 34)⁻¹ = 2048⁻¹)

theorem word_halfInv : halfInv = ((1 / 4096 : ℝ) : EReal) := by
  simp [halfInv, Ideal.ofBits, Ideal.ieee]
  exact_mod_cast (by norm_num : (8388608 : ℝ) * (2 ^ 35)⁻¹ = 4096⁻¹)

theorem word_half : Ideal.ofBits .f32 0x3F000000#32 = ((1 / 2 : ℝ) : EReal) := by
  simp [Ideal.ofBits, Ideal.ieee]
  exact_mod_cast (by norm_num : (8388608 : ℝ) * (2 ^ 24)⁻¹ = 2⁻¹)

theorem word_two : Ideal.ofBits .f32 0x40000000#32 = ((2 : ℝ) : EReal) := by
  simp [Ideal.ofBits, Ideal.ieee]
  exact_mod_cast (by norm_num : (8388608 : ℝ) * (2 ^ 22)⁻¹ = 2)

/-- The derivative of half the mean of squares: half over the count, times twice the error. -/
theorem twice (e : EReal) : Ideal.div (Ideal.ofBits .f32 0x3F000000#32) (Ideal.ofBits .f32 0x45000000#32)
    * (Ideal.ofBits .f32 0x40000000#32 * e) = e * inv := by
  rw [div_eq wide_pos, word_half, word_wide, word_two, word_inv, ← EReal.coe_inv, ← EReal.coe_mul, ← mul_assoc,
    ← EReal.coe_mul, mul_comm e]
  congr 2
  norm_num

theorem mul_sum {ι : Type} (s : Finset ι) (f : ι → EReal) (hf : ∀ i, 0 ≤ f i) (a : EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

/-- The weight of a sum of nonnegative rows, inside or outside of it. -/
theorem weigh {n : ℕ} (f : Fin n → EReal) (hf : ∀ i, 0 ≤ f i) : Ideal.ofBits .f32 0x3F000000#32
    * ∑ i, Ideal.div (f i) (Ideal.ofBits .f32 0x45000000#32) = halfInv * ∑ i, f i := by
  simp only [div_eq wide_pos, mul_comm (f _)]
  rw [← mul_sum _ f hf, ← mul_assoc, word_half, word_wide, word_halfInv, ← EReal.coe_inv, ← EReal.coe_mul]
  congr 2
  norm_num

variable {n : ℕ}

/-- A row's normed entries, before the gain. -/
def unit (h : Fin n → EReal) (q : Fin n) : EReal := h q * root (Ideal.ofBits .f32 0x45000000#32) h

/-- A row's errors. -/
def err (h g t : Fin n → EReal) (q : Fin n) : EReal := unit h q * g q - t q

/-- A row's gradient. -/
def rowsAt (h g t : Fin n → EReal) (q : Fin n) : EReal :=
  closed (Ideal.ofBits .f32 0x45000000#32) h (fun k => err h g t k * inv * g k) q

/-- A row's share of the gain's gradient. -/
def gainAt (h g t : Fin n → EReal) (q : Fin n) : EReal := err h g t q * inv * unit h q

/-- A row's sum of squared errors. -/
def squares (h g t : Fin n → EReal) : EReal := ∑ k, err h g t k * err h g t k

theorem squares_nonneg (h g t : Fin n → EReal) : 0 ≤ squares h g t := Finset.sum_nonneg fun k _ => square_nonneg (err h g t k)

end Cert.Loss

namespace Cert.LossHeadRefIdeal.Head

open Cert.LossHeadRefIdeal Cert.LossHeadRefIdeal.Gen Cert.LossHeadRefIdeal.Read Cert.Rms Cert.Loss

theorem rows_apply (x0 : (⟨S4096x2048, .f32⟩ : BufTy).Contents (Elt Ideal)) (x1 : (⟨S1x2048, .f32⟩ : BufTy).Contents (Elt Ideal)) (x2 : (⟨S4096x2048, .f32⟩ : BufTy).Contents (Elt Ideal)) (p : Fin 4096) (q : Fin 2048) : val_main_v51 (F := Ideal) x0 x1 x2 (ix2 p q)
    = rowsAt (fun k => x0 (ix2 p k)) (fun k => x1 (ix2 0 k)) (fun k => x2 (ix2 p k)) q := by
  rw [rowsAt, closed_eq' wide_pos]
  simp only [← twice]
  pointwise [val_main_v51, val_main_v50, val_main_v49, val_main_v48, val_main_v47, val_main_v46, val_main_cst_15, val_main_v45, val_main_v44, val_main_cst_14, val_main_v43, val_main_v42, val_main_v41, val_main_v40, val_main_v39, val_main_cst_13, val_main_v38, val_main_v37, val_main_cst_12, val_main_v36, val_main_v35, val_main_v34, val_main_v33, val_main_cst_11, val_main_v32, val_main_v31, val_main_v30, val_main_v29, val_main_v28, val_main_cst_10, val_main_v27, val_main_v26, val_main_cst_9, val_main_cst_8, val_main_v25, val_main_cst_7, val_main_v24, val_main_cst_6, val_main_v23, val_main_v22, val_main_cst_5, val_main_v21, val_main_cst_4, val_main_v20, val_main_v19, val_main_cst_3, val_main_v18, val_main_v17, val_main_v16, val_main_v15, val_main_v14, val_main_v13, val_main_v12, val_main_v11, val_main_v10, val_main_cst_2, val_main_v9, val_main_v8, val_main_v7, val_main_v6, val_main_cst_1, val_main_v5, val_main_v4, val_main_cst_0, val_main_v3, val_main_v2, val_main_cst, val_main_v1, val_main_v0]
  rfl

theorem gain_apply (x0 : (⟨S4096x2048, .f32⟩ : BufTy).Contents (Elt Ideal)) (x1 : (⟨S1x2048, .f32⟩ : BufTy).Contents (Elt Ideal)) (x2 : (⟨S4096x2048, .f32⟩ : BufTy).Contents (Elt Ideal)) (i : S1x2048.Idx) : val_main_v53 (F := Ideal) x0 x1 x2 i
    = (∑ r : Fin 4096, gainAt (fun k => x0 (ix2 r k)) (fun k => x1 (ix2 0 k)) (fun k => x2 (ix2 r k)) (i 1) : EReal) := by
  obtain ⟨q, rfl⟩ : ∃ q, i = ix2 0 q := ⟨i 1, funext fun a => by fin_cases a; exact Subsingleton.elim (α := Fin 1) _ _; rfl⟩
  simp only [gainAt, ← twice]
  pointwise [val_main_v53, val_main_v51, val_main_v50, val_main_v49, val_main_v48, val_main_v47, val_main_v46, val_main_cst_15, val_main_v45, val_main_v44, val_main_cst_14, val_main_v43, val_main_v42, val_main_v41, val_main_v40, val_main_v39, val_main_cst_13, val_main_v38, val_main_v37, val_main_cst_12, val_main_v36, val_main_v35, val_main_v34, val_main_v33, val_main_cst_11, val_main_v32, val_main_v31, val_main_v30, val_main_v29, val_main_v28, val_main_cst_10, val_main_v27, val_main_v26, val_main_cst_9, val_main_cst_8, val_main_v25, val_main_cst_7, val_main_v24, val_main_cst_6, val_main_v23, val_main_v22, val_main_cst_5, val_main_v21, val_main_cst_4, val_main_v20, val_main_v19, val_main_cst_3, val_main_v18, val_main_v17, val_main_v16, val_main_v15, val_main_v14, val_main_v13, val_main_v12, val_main_v11, val_main_v10, val_main_cst_2, val_main_v9, val_main_v8, val_main_v7, val_main_v6, val_main_cst_1, val_main_v5, val_main_v4, val_main_cst_0, val_main_v3, val_main_v2, val_main_cst, val_main_v1, val_main_v0]
  exact (Fin.sum_univ_one _).trans (Finset.sum_congr rfl fun r _ => mul_comm _ _)

theorem loss_apply (x0 : (⟨S4096x2048, .f32⟩ : BufTy).Contents (Elt Ideal)) (x1 : (⟨S1x2048, .f32⟩ : BufTy).Contents (Elt Ideal)) (x2 : (⟨S4096x2048, .f32⟩ : BufTy).Contents (Elt Ideal)) (i : S1x1.Idx) : val_main_v52 (F := Ideal) x0 x1 x2 i
    = (halfInv * ∑ r : Fin 4096, squares (fun k => x0 (ix2 r k)) (fun k => x1 (ix2 0 k)) (fun k => x2 (ix2 r k)) : EReal) := by
  rw [← weigh _ fun r => squares_nonneg _ _ _]
  pointwise [val_main_v52, val_main_v51, val_main_v50, val_main_v49, val_main_v48, val_main_v47, val_main_v46, val_main_cst_15, val_main_v45, val_main_v44, val_main_cst_14, val_main_v43, val_main_v42, val_main_v41, val_main_v40, val_main_v39, val_main_cst_13, val_main_v38, val_main_v37, val_main_cst_12, val_main_v36, val_main_v35, val_main_v34, val_main_v33, val_main_cst_11, val_main_v32, val_main_v31, val_main_v30, val_main_v29, val_main_v28, val_main_cst_10, val_main_v27, val_main_v26, val_main_cst_9, val_main_cst_8, val_main_v25, val_main_cst_7, val_main_v24, val_main_cst_6, val_main_v23, val_main_v22, val_main_cst_5, val_main_v21, val_main_cst_4, val_main_v20, val_main_v19, val_main_cst_3, val_main_v18, val_main_v17, val_main_v16, val_main_v15, val_main_v14, val_main_v13, val_main_v12, val_main_v11, val_main_v10, val_main_cst_2, val_main_v9, val_main_v8, val_main_v7, val_main_v6, val_main_cst_1, val_main_v5, val_main_v4, val_main_cst_0, val_main_v3, val_main_v2, val_main_cst, val_main_v1, val_main_v0]
  rfl

end Cert.LossHeadRefIdeal.Head

namespace Cert.LossHeadIdeal.Head

open Cert.LossHeadIdeal Cert.LossHeadIdeal.Gen Cert.Rms Cert.Loss
open Cert.LossHeadRefIdeal.Head (rows_apply gain_apply loss_apply)
open Cert.LossHeadRefIdeal.Read (val_main_v51 val_main_v52 val_main_v53 val_main_v54)

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

abbrev a0 : FVec Ideal S4096x2048 .f32 := m ((c : Thread nD τ).loc main_arg0)
abbrev a1 : FVec Ideal S1x2048 .f32 := m ((c : Thread nD τ).loc main_arg1)
abbrev a2 : FVec Ideal S4096x2048 .f32 := m ((c : Thread nD τ).loc main_arg2)

abbrev x0 (t : Fin cfg0.N) : FVec Ideal S512x2048 .f32 := iblk m c 0 t
abbrev x1 (t : Fin cfg0.N) : FVec Ideal S1x2048 .f32 := iblk m c 1 t
abbrev x2 (t : Fin cfg0.N) : FVec Ideal S512x2048 .f32 := iblk m c 2 t

theorem at0 (t : Fin cfg0.N) (p : Fin 512) (k : Fin 2048) : x0 m c t (ix2 p k) = a0 m c (ix2 (row t p) k) := by
  blk_point [x0, iblk, V, idx0 t, row]
theorem at1 (t : Fin cfg0.N) : x1 m c t = a1 m c := by
  blk_point [x1, iblk, V, idx1 t]
theorem at2 (t : Fin cfg0.N) (p : Fin 512) (k : Fin 2048) : x2 m c t (ix2 p k) = a2 m c (ix2 (row t p) k) := by
  blk_point [x2, iblk, V, idx2 t, row]

/-- A block's entry of the rows' gradient, and the second copy of it. -/
theorem rows (t : Fin cfg0.N) (p : Fin 512) (q : Fin 2048) : (outsAt0 m c t.val t.isLt).2.2.1 (ix2 p q)
    = rowsAt (fun k => x0 m c t (ix2 p k)) (fun k => x1 m c t (ix2 0 k)) (fun k => x2 m c t (ix2 p k)) q := by
  by_cases h : t.val % 8 = 0
  · rw [outsAt0_A m c t h]
    frame_out
    pointwise [k0_pay1, k0_pay2, k0_pay3, k0_pay7, k0_pay8, k0_pay9, k0_pay10, k0_pay11, k0_pay12, k0_pay13]
    rfl
  · rw [outsAt0_B m c t h]
    frame_out
    pointwise [k0_pay1, k0_pay2, k0_pay3, k0_pay7, k0_pay8, k0_pay9, k0_pay10, k0_pay11, k0_pay12, k0_pay13]
    rfl

theorem copy (t : Fin cfg0.N) (p : Fin 512) (q : Fin 2048) : (outsAt0 m c t.val t.isLt).2.2.2.1 (ix2 p q)
    = rowsAt (fun k => x0 m c t (ix2 p k)) (fun k => x1 m c t (ix2 0 k)) (fun k => x2 m c t (ix2 p k)) q := by
  by_cases h : t.val % 8 = 0
  · rw [outsAt0_A m c t h]
    frame_out
    pointwise [k0_pay1, k0_pay2, k0_pay3, k0_pay7, k0_pay8, k0_pay9, k0_pay10, k0_pay11, k0_pay12, k0_pay13]
    rfl
  · rw [outsAt0_B m c t h]
    frame_out
    pointwise [k0_pay1, k0_pay2, k0_pay3, k0_pay7, k0_pay8, k0_pay9, k0_pay10, k0_pay11, k0_pay12, k0_pay13]
    rfl

/-- A block's share of the gain's gradient. -/
def share (t : Fin cfg0.N) (i : S1x2048.Idx) : EReal :=
  ∑ r : Fin 512, gainAt (fun k => x0 m c t (ix2 r k)) (fun k => x1 m c t (ix2 0 k)) (fun k => x2 m c t (ix2 r k)) (i 1)

theorem gainA (t : Fin cfg0.N) (h : t.val % 8 = 0) (i) : (outsAt0 m c t.val t.isLt).2.1 i = (0 + share m c t i : EReal) := by
  rw [outsAt0_A m c t h]
  frame_out
  pointwise [k0_pay1, k0_pay2, k0_pay3, k0_pay7, k0_pay8, k0_pay9, k0_pay10, k0_pay11, k0_pay12, k0_pay13, k0_pay6]
  rfl

theorem gainB (t : Fin cfg0.N) (h : ¬ t.val % 8 = 0) (i) : (outsAt0 m c t.val t.isLt).2.1 i
    = ((outsAt0 m c (t.val - 1) (Nat.lt_of_le_of_lt (Nat.sub_le _ _) t.isLt)).2.1 i + share m c t i : EReal) := by
  rw [outsAt0_B m c t h]
  frame_out
  pointwise [k0_pay1, k0_pay2, k0_pay3, k0_pay7, k0_pay8, k0_pay9, k0_pay10, k0_pay11, k0_pay12, k0_pay13, k0_pay6]
  rfl

/-- A block's share of the loss. -/
def part (t : Fin cfg0.N) : EReal := halfInv
  * ∑ k : Fin 2048, ∑ r : Fin 512, err (fun k => x0 m c t (ix2 r k)) (fun k => x1 m c t (ix2 0 k)) (fun k => x2 m c t (ix2 r k)) k
    * err (fun k => x0 m c t (ix2 r k)) (fun k => x1 m c t (ix2 0 k)) (fun k => x2 m c t (ix2 r k)) k

theorem lossA (t : Fin cfg0.N) (h : t.val % 8 = 0) (i) : (outsAt0 m c t.val t.isLt).1 i = (0 + part m c t : EReal) := by
  rw [outsAt0_A m c t h]
  frame_out
  pointwise [k0_pay1, k0_pay2, k0_pay3, k0_pay7, k0_pay8, k0_pay9, k0_pay10, k0_pay11, k0_pay12, k0_pay13, k0_pay5]
  rfl

theorem lossB (t : Fin cfg0.N) (h : ¬ t.val % 8 = 0) (i) : (outsAt0 m c t.val t.isLt).1 i
    = ((outsAt0 m c (t.val - 1) (Nat.lt_of_le_of_lt (Nat.sub_le _ _) t.isLt)).1 i + part m c t : EReal) := by
  rw [outsAt0_B m c t h]
  frame_out
  pointwise [k0_pay1, k0_pay2, k0_pay3, k0_pay7, k0_pay8, k0_pay9, k0_pay10, k0_pay11, k0_pay12, k0_pay13, k0_pay5]
  rfl

theorem share_eq (t : Fin cfg0.N) (i : S1x2048.Idx) : share m c t i
    = (∑ r : Fin 512, gainAt (fun k => a0 m c (ix2 (row t r) k)) (fun k => a1 m c (ix2 0 k)) (fun k => a2 m c (ix2 (row t r) k)) (i 1) : EReal) := by
  simp only [share, at0, at1, at2]

theorem part_eq (t : Fin cfg0.N) : part m c t
    = halfInv * ∑ r : Fin 512, squares (fun k => a0 m c (ix2 (row t r) k)) (fun k => a1 m c (ix2 0 k)) (fun k => a2 m c (ix2 (row t r) k)) := by
  rw [part, Finset.sum_comm]
  simp only [squares, at0, at1, at2]

theorem emb5 (t : Fin cfg0.N) (p : Fin 512) (q : Fin 2048) : (win0_5.blk t).view.emb (ix2 p q) = (ix2 (row t p) q : S4096x2048.Idx) := by
  have e0 := win0_5.rect_emb_val t (ix2 p q) 0 rfl
  have e1 := win0_5.rect_emb_val t (ix2 p q) 1 rfl
  rw [idx5 t] at e0 e1
  funext a
  fin_cases a
  · exact Fin.ext (e0.trans (by show t.val * 512 + p.val = 512 * t.val + p.val; omega))
  · exact Fin.ext (e1.trans (by show 0 * 2048 + q.val = q.val; omega))

theorem final_rows : (dats m 0 c).arrAt 5 cfg0.N = val_main_v51 (F := Ideal) (a0 m c) (a1 m c) (a2 m c) := by
  refine (dats m 0 c).arrAt_eq_of_covers 5 _ (by decide +kernel) fun t hf y => ?_
  blk_simp
  rw [after0_5]
  obtain ⟨p, q, rfl⟩ : ∃ p q, y = ix2 p q := ⟨y 0, y 1, funext fun a => by fin_cases a <;> rfl⟩
  refine (rows m c t p q).trans ?_
  rw [emb5]
  refine Eq.trans ?_ (rows_apply (a0 m c) (a1 m c) (a2 m c) (row t p) q).symm
  simp only [at0, at1, at2]

theorem emb6 (t : Fin cfg0.N) (p : Fin 512) (q : Fin 2048) : (win0_6.blk t).view.emb (ix2 p q) = (ix2 (row t p) q : S4096x2048.Idx) := by
  have e0 := win0_6.rect_emb_val t (ix2 p q) 0 rfl
  have e1 := win0_6.rect_emb_val t (ix2 p q) 1 rfl
  rw [idx6 t] at e0 e1
  funext a
  fin_cases a
  · exact Fin.ext (e0.trans (by show t.val * 512 + p.val = 512 * t.val + p.val; omega))
  · exact Fin.ext (e1.trans (by show 0 * 2048 + q.val = q.val; omega))

theorem final_copy : (dats m 0 c).arrAt 6 cfg0.N = val_main_v54 (F := Ideal) (a0 m c) (a1 m c) (a2 m c) := by
  refine (dats m 0 c).arrAt_eq_of_covers 6 _ (by decide +kernel) fun t hf y => ?_
  blk_simp
  rw [after0_6]
  obtain ⟨p, q, rfl⟩ : ∃ p q, y = ix2 p q := ⟨y 0, y 1, funext fun a => by fin_cases a <;> rfl⟩
  refine (copy m c t p q).trans ?_
  rw [emb6]
  refine Eq.trans ?_ (rows_apply (a0 m c) (a1 m c) (a2 m c) (row t p) q).symm
  simp only [at0, at1, at2]

theorem final_gain : (dats m 0 c).arrAt 4 cfg0.N = val_main_v53 (F := Ideal) (a0 m c) (a1 m c) (a2 m c) := by
  refine (dats m 0 c).arrAt_eq_of_after_last 4 ⟨7, by decide⟩ (by decide +kernel) _ fun j => ?_
  rw [after0_4]
  have e := Pipeline.eq_sum_fin_of_reset_step_apply_last (N := 8) (M := EReal)
    (fun n h => (outsAt0 m c n h).2.1) 8 _ (fun t i => share m c t i)
    (fun t h => gainA m c t h) (fun t h => gainB m c t h) le_rfl 7 rfl j
  rw [zero_add] at e
  refine e.trans ?_
  refine Eq.trans ?_ (gain_apply (a0 m c) (a1 m c) (a2 m c) j).symm
  rw [← sum_rows]
  exact Finset.sum_congr rfl fun t _ => share_eq m c t j

theorem final_loss : (dats m 0 c).arrAt 3 cfg0.N = val_main_v52 (F := Ideal) (a0 m c) (a1 m c) (a2 m c) := by
  refine (dats m 0 c).arrAt_eq_of_after_last 3 ⟨7, by decide⟩ (by decide +kernel) _ fun j => ?_
  rw [after0_3]
  have e := Pipeline.eq_sum_fin_of_reset_step_apply_last (N := 8) (M := EReal)
    (fun n h => (outsAt0 m c n h).1) 8 _ (fun t _ => part m c t)
    (fun t h => lossA m c t h) (fun t h => lossB m c t h) le_rfl 7 rfl j
  rw [zero_add] at e
  refine e.trans ?_
  refine Eq.trans ?_ (loss_apply (a0 m c) (a1 m c) (a2 m c) j).symm
  rw [← sum_rows, mul_sum _ _ fun t => Finset.sum_nonneg fun r _ => squares_nonneg _ _ _]
  exact Finset.sum_congr rfl fun t _ => part_eq m c t

end Cert.LossHeadIdeal.Head

namespace Cert.Proof

open Cert.LossHeadRefIdeal.Read Cert.LossHeadIdeal.Head

theorem algebraic_LossHead : Cert.algebraic_LossHeadIdeal_LossHeadRefIdeal := fun m ρ m' ρ' _ hag =>
  ⟨fun c => val_main_v52 (F := Ideal) (a0 m c) (a1 m c) (a2 m c),
    fun c => val_main_v53 (F := Ideal) (a0 m c) (a1 m c) (a2 m c),
    fun c => val_main_v51 (F := Ideal) (a0 m c) (a1 m c) (a2 m c),
    fun c => val_main_v54 (F := Ideal) (a0 m c) (a1 m c) (a2 m c),
    (θ_run _ _ _).mono (fun _ k c =>
      ⟨(k c).1.trans (final_loss m c), (k c).2.1.trans (final_gain m c), (k c).2.2.1.trans (final_rows m c),
        (k c).2.2.2.1.trans (final_copy m c), (k c).2.2.2.2.2⟩)
      (Cert.LossHeadIdeal.Value.run_blocks m ρ),
    (θ_run _ _ _).mono (fun _ k c => by
      obtain ⟨e0, e1, e2⟩ := hag c
      refine ⟨(k c).1.trans ?_, (k c).2.1.trans ?_, (k c).2.2.1.trans ?_, (k c).2.2.2.1.trans ?_, (k c).2.2.2.2⟩
      · refine (val_main_v52_eq _ _ _).trans ?_; simp only [StableHlo.launchContents_devRef, e0, e1, e2]
      · refine (val_main_v53_eq _ _ _).trans ?_; simp only [StableHlo.launchContents_devRef, e0, e1, e2]
      · refine (val_main_v51_eq _ _).trans ?_; simp only [StableHlo.launchContents_devRef, e0, e1, e2]
      · refine (val_main_v54_eq _ _).trans ?_; simp only [StableHlo.launchContents_devRef, e0, e1, e2])
      (Cert.LossHeadRefIdeal.Value.run m' ρ')⟩

end Cert.Proof

end
-- ==== Proof.NormBwd.lean ====
/-
The backward step through the hidden layer's normalization: over the extended reals the kernel's gradients of the rows
and of the gain are the derivative of `h, rms_norm(h, g)`.
-/
module

public import proofs.«01_k».proof.Defs
public import proofs.«01_k».proof.Proof.Rms
public import proofs.«01_k».proof.Proof.Gen.NormBwdIdeal.Value
public import proofs.«01_k».proof.Proof.Gen.NormBwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdRefIdeal.Grad

open Cert.NormBwdRefIdeal Cert.NormBwdRefIdeal.Gen Cert.NormBwdRefIdeal.Read Cert.Rms

theorem ref_apply (x0 x1 x2 : (⟨S4096x2048, .f32⟩ : BufTy).Contents (Elt Ideal)) (x3 : (⟨S1x2048, .f32⟩ : BufTy).Contents (Elt Ideal)) (p : Fin 4096) (q : Fin 2048) :
    val_main_v37 (F := Ideal) x0 x1 x2 x3 (ix2 p q) = (x1 (ix2 p q) + closed (Ideal.ofBits .f32 0x45000000#32) (fun k => x2 (ix2 p k)) (fun k => x0 (ix2 p k) * x3 (ix2 0 k)) q : EReal) := by
  rw [closed_eq wide_pos]
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem gain_apply (x0 x2 : (⟨S4096x2048, .f32⟩ : BufTy).Contents (Elt Ideal)) (i : S1x2048.Idx) :
    val_main_v39 (F := Ideal) x0 x2 i = (∑ r : Fin 4096, x0 (ix2 r (i 1)) * (x2 (ix2 r (i 1)) * root (Ideal.ofBits .f32 0x45000000#32) fun k => x2 (ix2 r k)) : EReal) := by
  pointwise [val_main_v39, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  exact (Fin.sum_univ_one _).trans (Finset.sum_congr rfl fun r _ => mul_comm _ _)

end Cert.NormBwdRefIdeal.Grad

namespace Cert.NormBwdIdeal.Grad

open Cert.NormBwdIdeal Cert.NormBwdIdeal.Gen Cert.Rms

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

abbrev a0 : FVec Ideal S4096x2048 .f32 := m ((c : Thread nD τ).loc main_arg0)
abbrev a1 : FVec Ideal S4096x2048 .f32 := m ((c : Thread nD τ).loc main_arg1)
abbrev a2 : FVec Ideal S4096x2048 .f32 := m ((c : Thread nD τ).loc main_arg2)
abbrev a3 : FVec Ideal S1x2048 .f32 := m ((c : Thread nD τ).loc main_arg3)

abbrev x0 (t : Fin cfg0.N) : FVec Ideal S512x2048 .f32 := iblk m c 0 t
abbrev x1 (t : Fin cfg0.N) : FVec Ideal S512x2048 .f32 := iblk m c 1 t
abbrev x2 (t : Fin cfg0.N) : FVec Ideal S512x2048 .f32 := iblk m c 2 t
abbrev x3 (t : Fin cfg0.N) : FVec Ideal S1x2048 .f32 := iblk m c 3 t

theorem at0 (t : Fin cfg0.N) (p : Fin 512) (k : Fin 2048) : x0 m c t (ix2 p k) = a0 m c (ix2 (row t p) k) := by
  blk_point [x0, iblk, V, idx0 t, row]
theorem at1 (t : Fin cfg0.N) (p : Fin 512) (k : Fin 2048) : x1 m c t (ix2 p k) = a1 m c (ix2 (row t p) k) := by
  blk_point [x1, iblk, V, idx1 t, row]
theorem at2 (t : Fin cfg0.N) (p : Fin 512) (k : Fin 2048) : x2 m c t (ix2 p k) = a2 m c (ix2 (row t p) k) := by
  blk_point [x2, iblk, V, idx2 t, row]
theorem at3 (t : Fin cfg0.N) : x3 m c t = a3 m c := by
  blk_point [x3, iblk, V, idx3 t]

/-- A block's entry of the rows' gradient. -/
theorem rows (t : Fin cfg0.N) (p : Fin 512) (q : Fin 2048) :
    (outsAt0 m c t.val t.isLt).1 (ix2 p q) = (x1 m c t (ix2 p q)
      + closed (Ideal.ofBits .f32 0x45000000#32) (fun k => x2 m c t (ix2 p k)) (fun k => x0 m c t (ix2 p k) * x3 m c t (ix2 0 k)) q : EReal) := by
  by_cases h : t.val % 8 = 0
  · rw [outsAt0_A m c t h]
    frame_out
    pointwise [k0_pay1, k0_pay10, k0_pay9, k0_pay8, k0_pay7, k0_pay5]
    rfl
  · rw [outsAt0_B m c t h]
    frame_out
    pointwise [k0_pay1, k0_pay10, k0_pay9, k0_pay8, k0_pay7, k0_pay5]
    rfl

/-- The second copy of it. -/
theorem copy (t : Fin cfg0.N) (p : Fin 512) (q : Fin 2048) :
    (outsAt0 m c t.val t.isLt).2.1 (ix2 p q) = (x1 m c t (ix2 p q)
      + closed (Ideal.ofBits .f32 0x45000000#32) (fun k => x2 m c t (ix2 p k)) (fun k => x0 m c t (ix2 p k) * x3 m c t (ix2 0 k)) q : EReal) := by
  by_cases h : t.val % 8 = 0
  · rw [outsAt0_A m c t h]
    frame_out
    pointwise [k0_pay2, k0_pay1, k0_pay10, k0_pay9, k0_pay8, k0_pay7, k0_pay5]
    rfl
  · rw [outsAt0_B m c t h]
    frame_out
    pointwise [k0_pay2, k0_pay1, k0_pay10, k0_pay9, k0_pay8, k0_pay7, k0_pay5]
    rfl

/-- A block's share of the gain's gradient. -/
def share (t : Fin cfg0.N) (i : S1x2048.Idx) : EReal :=
  ∑ r : Fin 512, x0 m c t (ix2 r (i 1)) * (x2 m c t (ix2 r (i 1))
    * root (Ideal.ofBits .f32 0x45000000#32) fun k => x2 m c t (ix2 r k))

theorem gainA (t : Fin cfg0.N) (h : t.val % 8 = 0) (i) : (outsAt0 m c t.val t.isLt).2.2.1 i = (0 + share m c t i : EReal) := by
  rw [outsAt0_A m c t h]
  frame_out
  pointwise [k0_pay6, k0_pay4, k0_pay5]
  rfl

theorem gainB (t : Fin cfg0.N) (h : ¬ t.val % 8 = 0) (i) : (outsAt0 m c t.val t.isLt).2.2.1 i
    = ((outsAt0 m c (t.val - 1) (Nat.lt_of_le_of_lt (Nat.sub_le _ _) t.isLt)).2.2.1 i + share m c t i : EReal) := by
  rw [outsAt0_B m c t h]
  frame_out
  pointwise [k0_pay6, k0_pay4, k0_pay5]
  rfl

theorem share_eq (t : Fin cfg0.N) (i : S1x2048.Idx) : share m c t i
    = (∑ r : Fin 512, a0 m c (ix2 (row t r) (i 1)) * (a2 m c (ix2 (row t r) (i 1)) * root (Ideal.ofBits .f32 0x45000000#32) fun k => a2 m c (ix2 (row t r) k)) : EReal) := by
  refine Finset.sum_congr rfl fun r _ => congrArg₂ (· * ·) (at0 m c t r (i 1)) (congrArg₂ (· * ·) (at2 m c t r (i 1)) ?_)
  exact congrArg _ (funext fun k => at2 m c t r k)

theorem emb4 (t : Fin cfg0.N) (p : Fin 512) (q : Fin 2048) : (win0_4.blk t).view.emb (ix2 p q) = (ix2 (row t p) q : S4096x2048.Idx) := by
  have e0 := win0_4.rect_emb_val t (ix2 p q) 0 rfl
  have e1 := win0_4.rect_emb_val t (ix2 p q) 1 rfl
  rw [idx4 t] at e0 e1
  funext a
  fin_cases a
  · exact Fin.ext (e0.trans (by show t.val * 512 + p.val = 512 * t.val + p.val; omega))
  · exact Fin.ext (e1.trans (by show 0 * 2048 + q.val = q.val; omega))

theorem final_rows : (dats m 0 c).arrAt 4 cfg0.N
    = Cert.NormBwdRefIdeal.Read.val_main_v37 (F := Ideal) (a0 m c) (a1 m c) (a2 m c) (a3 m c) := by
  refine (dats m 0 c).arrAt_eq_of_covers 4 _ (by decide +kernel) fun t hf y => ?_
  blk_simp
  rw [after0_4]
  obtain ⟨p, q, rfl⟩ : ∃ p q, y = ix2 p q := ⟨y 0, y 1, funext fun a => by fin_cases a <;> rfl⟩
  refine (rows m c t p q).trans ?_
  rw [emb4]
  refine Eq.trans ?_ (Cert.NormBwdRefIdeal.Grad.ref_apply (a0 m c) (a1 m c) (a2 m c) (a3 m c) (row t p) q).symm
  simp only [at0, at1, at2, at3]

theorem emb5 (t : Fin cfg0.N) (p : Fin 512) (q : Fin 2048) : (win0_5.blk t).view.emb (ix2 p q) = (ix2 (row t p) q : S4096x2048.Idx) := by
  have e0 := win0_5.rect_emb_val t (ix2 p q) 0 rfl
  have e1 := win0_5.rect_emb_val t (ix2 p q) 1 rfl
  rw [idx5 t] at e0 e1
  funext a
  fin_cases a
  · exact Fin.ext (e0.trans (by show t.val * 512 + p.val = 512 * t.val + p.val; omega))
  · exact Fin.ext (e1.trans (by show 0 * 2048 + q.val = q.val; omega))

theorem final_copy : (dats m 0 c).arrAt 5 cfg0.N
    = Cert.NormBwdRefIdeal.Read.val_main_v38 (F := Ideal) (a0 m c) (a1 m c) (a2 m c) (a3 m c) := by
  refine (dats m 0 c).arrAt_eq_of_covers 5 _ (by decide +kernel) fun t hf y => ?_
  blk_simp
  rw [after0_5]
  obtain ⟨p, q, rfl⟩ : ∃ p q, y = ix2 p q := ⟨y 0, y 1, funext fun a => by fin_cases a <;> rfl⟩
  refine (copy m c t p q).trans ?_
  rw [emb5]
  refine Eq.trans ?_ (Cert.NormBwdRefIdeal.Grad.ref_apply (a0 m c) (a1 m c) (a2 m c) (a3 m c) (row t p) q).symm
  simp only [at0, at1, at2, at3]

theorem final_gain : (dats m 0 c).arrAt 6 cfg0.N
    = Cert.NormBwdRefIdeal.Read.val_main_v39 (F := Ideal) (a0 m c) (a2 m c) := by
  refine (dats m 0 c).arrAt_eq_of_after_last 6 ⟨7, by decide⟩ (by decide +kernel) _ fun j => ?_
  rw [after0_6]
  have e := Pipeline.eq_sum_fin_of_reset_step_apply_last (N := 8) (M := EReal)
    (fun n h => (outsAt0 m c n h).2.2.1) 8 _ (fun t i => share m c t i)
    (fun t h => gainA m c t h) (fun t h => gainB m c t h) le_rfl 7 rfl j
  rw [zero_add] at e
  refine e.trans ?_
  refine Eq.trans ?_ (Cert.NormBwdRefIdeal.Grad.gain_apply (a0 m c) (a2 m c) j).symm
  rw [← sum_rows]
  exact Finset.sum_congr rfl fun t _ => share_eq m c t j

end Cert.NormBwdIdeal.Grad

namespace Cert.Proof

open Cert.NormBwdRefIdeal.Read Cert.NormBwdIdeal.Grad

theorem algebraic_NormBwd : Cert.algebraic_NormBwdIdeal_NormBwdRefIdeal := fun m ρ m' ρ' _ hag =>
  ⟨fun c => val_main_v37 (F := Ideal) (a0 m c) (a1 m c) (a2 m c) (a3 m c),
    fun c => val_main_v38 (F := Ideal) (a0 m c) (a1 m c) (a2 m c) (a3 m c),
    fun c => val_main_v39 (F := Ideal) (a0 m c) (a2 m c),
    (θ_run _ _ _).mono (fun _ k c =>
      ⟨(k c).1.trans (final_rows m c), (k c).2.1.trans (final_copy m c), (k c).2.2.1.trans (final_gain m c), (k c).2.2.2.2⟩)
      (Cert.NormBwdIdeal.Value.run_blocks m ρ),
    (θ_run _ _ _).mono (fun _ k c => by
      obtain ⟨e0, e1, e2, e3⟩ := hag c
      refine ⟨(k c).1.trans ?_, (k c).2.1.trans ?_, (k c).2.2.1.trans ?_, (k c).2.2.2⟩
      · refine (val_main_v37_eq _ _).trans ?_; simp only [StableHlo.launchContents_devRef, e0, e1, e2, e3]
      · refine (val_main_v38_eq _ _).trans ?_; simp only [StableHlo.launchContents_devRef, e0, e1, e2, e3]
      · refine (val_main_v39_eq _ _).trans ?_; simp only [StableHlo.launchContents_devRef, e0, e2])
      (Cert.NormBwdRefIdeal.Value.run m' ρ')⟩

end Cert.Proof

end
-- ==== Proof.NormFwd.lean ====
/-
The normalization before the mixer: over the extended reals the kernel's blocks of rows are `rms_norm(x, g)`.
-/
module

public import proofs.«01_k».proof.Defs
public import proofs.«01_k».proof.Proof.Gen.NormFwdIdeal.Value
public import proofs.«01_k».proof.Proof.Gen.NormFwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwdIdeal.Norm

open Cert.NormFwdIdeal Cert.NormFwdIdeal.Gen Cert.NormFwdRefIdeal.Read

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem final : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx0 t, idx1 t, idx2 t]

end Cert.NormFwdIdeal.Norm

namespace Cert.Proof

theorem algebraic_NormFwd : Cert.algebraic_NormFwdIdeal_NormFwdRefIdeal := fun m ρ m' ρ' _ hag =>
  ⟨fun c => Cert.NormFwdRefIdeal.Read.val_main_v14 (F := Ideal) (m ((c.tc : Thread Cert.NormFwdIdeal.nD Cert.NormFwdIdeal.τ).loc Cert.NormFwdIdeal.main_arg0)) (m ((c.tc : Thread Cert.NormFwdIdeal.nD Cert.NormFwdIdeal.τ).loc Cert.NormFwdIdeal.main_arg1)),
    (θ_run _ _ _).mono (fun _ h c => ⟨(h c).1.trans (Cert.NormFwdIdeal.Norm.final m c), (h c).2.2⟩)
      (Cert.NormFwdIdeal.Value.run_blocks m ρ),
    (θ_run _ _ _).mono (fun _ h c => ⟨(h c).1.trans (by rw [(hag c).1, (hag c).2]; rfl), (h c).2⟩)
      (Cert.NormFwdRefIdeal.Value.run m' ρ')⟩

end Cert.Proof

end
-- ==== Proof.OutBwd.lean ====
/-
The backward step through the output projection and its operands' normalizations: over the extended reals the kernel's
gradients of both operands' rows and of both gains are the derivative of
`concatenate([rms_norm(a, ga), rms_norm(b, gb)]) @ w_out`.
-/
module

public import proofs.«01_k».proof.Defs
public import proofs.«01_k».proof.Proof.Rms
public import proofs.«01_k».proof.Proof.Gen.OutBwdIdeal.Value
public import proofs.«01_k».proof.Proof.Gen.OutBwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdRefIdeal.Grad

open Cert.OutBwdRefIdeal Cert.OutBwdRefIdeal.Gen Cert.OutBwdRefIdeal.Read Cert.Rms

/-- The weight's row of the first operand's column. -/
def lo (q : Fin 1024) : Fin 2048 := ⟨q.val, by omega⟩

/-- The weight's row of the second operand's column. -/
def hi (q : Fin 1024) : Fin 2048 := ⟨1024 + q.val, by omega⟩

/-- The gradient that reaches a column of the normed operands. -/
def flow (l : Fin 2048 → EReal) (w : (⟨S2048x2048, .bf16⟩ : BufTy).Contents (Elt Ideal)) (q : Fin 2048) : EReal :=
  ∑ k : Fin 2048, l k * w (ix2 q k)

theorem fst_apply (x0 : (⟨S4096x2048, .bf16⟩ : BufTy).Contents (Elt Ideal)) (x1 : (⟨S2048x2048, .bf16⟩ : BufTy).Contents (Elt Ideal)) (x2 : (⟨S4096x1024, .f32⟩ : BufTy).Contents (Elt Ideal)) (x4 : (⟨S1x1024, .f32⟩ : BufTy).Contents (Elt Ideal)) (p : Fin 4096) (q : Fin 1024) :
    val_main_v80 (F := Ideal) x0 x1 x2 x4 (ix2 p q) = (closed (Ideal.ofBits .f32 0x44800000#32) (fun k => x2 (ix2 p k)) (fun k => flow (fun j => x0 (ix2 p j)) x1 (lo k) * x4 (ix2 0 k)) q : EReal) := by
  rw [closed_eq' narrow_pos]
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rfl

theorem snd_apply (x0 : (⟨S4096x2048, .bf16⟩ : BufTy).Contents (Elt Ideal)) (x1 : (⟨S2048x2048, .bf16⟩ : BufTy).Contents (Elt Ideal)) (x2 : (⟨S4096x1024, .f32⟩ : BufTy).Contents (Elt Ideal)) (x4 : (⟨S1x1024, .f32⟩ : BufTy).Contents (Elt Ideal)) (p : Fin 4096) (q : Fin 1024) :
    val_main_v60 (F := Ideal) x0 x1 x2 x4 (ix2 p q) = (closed (Ideal.ofBits .f32 0x44800000#32) (fun k => x2 (ix2 p k)) (fun k => flow (fun j => x0 (ix2 p j)) x1 (hi k) * x4 (ix2 0 k)) q : EReal) := by
  rw [closed_eq' narrow_pos]
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  rfl

theorem fst_gain (x0 : (⟨S4096x2048, .bf16⟩ : BufTy).Contents (Elt Ideal)) (x1 : (⟨S2048x2048, .bf16⟩ : BufTy).Contents (Elt Ideal)) (x2 : (⟨S4096x1024, .f32⟩ : BufTy).Contents (Elt Ideal)) (i : S1x1024.Idx) :
    val_main_v81 (F := Ideal) x0 x1 x2 i = (∑ r : Fin 4096, flow (fun j => x0 (ix2 r j)) x1 (lo (i 1)) * (x2 (ix2 r (i 1)) * root (Ideal.ofBits .f32 0x44800000#32) fun k => x2 (ix2 r k)) : EReal) := by
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  exact (Fin.sum_univ_one _).trans (Finset.sum_congr rfl fun r _ => mul_comm _ _)

theorem snd_gain (x0 : (⟨S4096x2048, .bf16⟩ : BufTy).Contents (Elt Ideal)) (x1 : (⟨S2048x2048, .bf16⟩ : BufTy).Contents (Elt Ideal)) (x2 : (⟨S4096x1024, .f32⟩ : BufTy).Contents (Elt Ideal)) (i : S1x1024.Idx) :
    val_main_v82 (F := Ideal) x0 x1 x2 i = (∑ r : Fin 4096, flow (fun j => x0 (ix2 r j)) x1 (hi (i 1)) * (x2 (ix2 r (i 1)) * root (Ideal.ofBits .f32 0x44800000#32) fun k => x2 (ix2 r k)) : EReal) := by
  pointwise [val_main_v82, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  exact (Fin.sum_univ_one _).trans (Finset.sum_congr rfl fun r _ => mul_comm _ _)

end Cert.OutBwdRefIdeal.Grad

namespace Cert.OutBwdIdeal.Grad

open Cert.OutBwdIdeal Cert.OutBwdIdeal.Gen Cert.Rms
open Cert.OutBwdRefIdeal.Grad (lo hi flow fst_apply snd_apply fst_gain snd_gain)
open Cert.OutBwdRefIdeal.Read (val_main_v80 val_main_v60 val_main_v81 val_main_v82)

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

abbrev a0 : FVec Ideal S4096x2048 .bf16 := m ((c : Thread nD τ).loc main_arg0)
abbrev a1 : FVec Ideal S2048x2048 .bf16 := m ((c : Thread nD τ).loc main_arg1)
abbrev a2 : FVec Ideal S4096x1024 .f32 := m ((c : Thread nD τ).loc main_arg2)
abbrev a3 : FVec Ideal S4096x1024 .f32 := m ((c : Thread nD τ).loc main_arg3)
abbrev a4 : FVec Ideal S1x1024 .f32 := m ((c : Thread nD τ).loc main_arg4)
abbrev a5 : FVec Ideal S1x1024 .f32 := m ((c : Thread nD τ).loc main_arg5)

abbrev x0 (t : Fin cfg0.N) : FVec Ideal S512x2048 .bf16 := iblk m c 0 t
abbrev x1 (t : Fin cfg0.N) : FVec Ideal S2048x2048 .bf16 := iblk m c 1 t
abbrev x2 (t : Fin cfg0.N) : FVec Ideal S512x1024 .f32 := iblk m c 2 t
abbrev x3 (t : Fin cfg0.N) : FVec Ideal S512x1024 .f32 := iblk m c 3 t
abbrev x4 (t : Fin cfg0.N) : FVec Ideal S1x1024 .f32 := iblk m c 4 t
abbrev x5 (t : Fin cfg0.N) : FVec Ideal S1x1024 .f32 := iblk m c 5 t

theorem at0 (t : Fin cfg0.N) (p : Fin 512) (k : Fin 2048) : x0 m c t (ix2 p k) = a0 m c (ix2 (row t p) k) := by
  blk_point [x0, iblk, V, idx0 t, row]
theorem at1 (t : Fin cfg0.N) : x1 m c t = a1 m c := by
  blk_point [x1, iblk, V, idx1 t]
theorem at2 (t : Fin cfg0.N) (p : Fin 512) (k : Fin 1024) : x2 m c t (ix2 p k) = a2 m c (ix2 (row t p) k) := by
  blk_point [x2, iblk, V, idx2 t, row]
theorem at3 (t : Fin cfg0.N) (p : Fin 512) (k : Fin 1024) : x3 m c t (ix2 p k) = a3 m c (ix2 (row t p) k) := by
  blk_point [x3, iblk, V, idx3 t, row]
theorem at4 (t : Fin cfg0.N) : x4 m c t = a4 m c := by
  blk_point [x4, iblk, V, idx4 t]
theorem at5 (t : Fin cfg0.N) : x5 m c t = a5 m c := by
  blk_point [x5, iblk, V, idx5 t]

/-! ## The first operand -/

theorem fst_rows (t : Fin cfg0.N) (p : Fin 512) (q : Fin 1024) :
    (outsAt0 m c t.val t.isLt).1 (ix2 p q) = (closed (Ideal.ofBits .f32 0x44800000#32) (fun k => x2 m c t (ix2 p k))
      (fun k => flow (fun j => x0 m c t (ix2 p j)) (x1 m c t) (lo k) * x4 m c t (ix2 0 k)) q : EReal) := by
  by_cases h : t.val % 8 = 0
  · rw [outsAt0_A m c t h]
    frame_out
    pointwise [k0_pay14, k0_pay13, k0_pay12, k0_pay11, k0_pay10, k0_pay8, k0_pay6, k0_pay5]
    rfl
  · rw [outsAt0_B m c t h]
    frame_out
    pointwise [k0_pay14, k0_pay13, k0_pay12, k0_pay11, k0_pay10, k0_pay8, k0_pay6, k0_pay5]
    rfl

def fst_share (t : Fin cfg0.N) (i : S1x1024.Idx) : EReal :=
  ∑ r : Fin 512, flow (fun j => x0 m c t (ix2 r j)) (x1 m c t) (lo (i 1)) * (x2 m c t (ix2 r (i 1))
    * root (Ideal.ofBits .f32 0x44800000#32) fun k => x2 m c t (ix2 r k))

theorem fst_gainA (t : Fin cfg0.N) (h : t.val % 8 = 0) (i) : (outsAt0 m c t.val t.isLt).2.2.1 i = (0 + fst_share m c t i : EReal) := by
  rw [outsAt0_A m c t h]
  frame_out
  pointwise [k0_pay9, k0_pay3, k0_pay8, k0_pay6, k0_pay5]
  rfl

theorem fst_gainB (t : Fin cfg0.N) (h : ¬ t.val % 8 = 0) (i) : (outsAt0 m c t.val t.isLt).2.2.1 i
    = ((outsAt0 m c (t.val - 1) (Nat.lt_of_le_of_lt (Nat.sub_le _ _) t.isLt)).2.2.1 i + fst_share m c t i : EReal) := by
  rw [outsAt0_B m c t h]
  frame_out
  pointwise [k0_pay9, k0_pay3, k0_pay8, k0_pay6, k0_pay5]
  rfl

theorem fst_share_eq (t : Fin cfg0.N) (i : S1x1024.Idx) : fst_share m c t i
    = (∑ r : Fin 512, flow (fun j => a0 m c (ix2 (row t r) j)) (a1 m c) (lo (i 1)) * (a2 m c (ix2 (row t r) (i 1))
      * root (Ideal.ofBits .f32 0x44800000#32) fun k => a2 m c (ix2 (row t r) k)) : EReal) := by
  refine Finset.sum_congr rfl fun r _ => congrArg₂ (· * ·) ?_ (congrArg₂ (· * ·) (at2 m c t r (i 1)) ?_)
  · rw [at1]; exact congrArg (flow · _ _) (funext fun j => at0 m c t r j)
  · exact congrArg _ (funext fun k => at2 m c t r k)

theorem emb6 (t : Fin cfg0.N) (p : Fin 512) (q : Fin 1024) : (win0_6.blk t).view.emb (ix2 p q) = (ix2 (row t p) q : S4096x1024.Idx) := by
  have e0 := win0_6.rect_emb_val t (ix2 p q) 0 rfl
  have e1 := win0_6.rect_emb_val t (ix2 p q) 1 rfl
  rw [idx6 t] at e0 e1
  funext a
  fin_cases a
  · exact Fin.ext (e0.trans (by show t.val * 512 + p.val = 512 * t.val + p.val; omega))
  · exact Fin.ext (e1.trans (by show 0 * 1024 + q.val = q.val; omega))

theorem fst_final : (dats m 0 c).arrAt 6 cfg0.N = val_main_v80 (F := Ideal) (a0 m c) (a1 m c) (a2 m c) (a4 m c) := by
  refine (dats m 0 c).arrAt_eq_of_covers 6 _ (by decide +kernel) fun t hf y => ?_
  blk_simp
  rw [after0_6]
  obtain ⟨p, q, rfl⟩ : ∃ p q, y = ix2 p q := ⟨y 0, y 1, funext fun a => by fin_cases a <;> rfl⟩
  refine (fst_rows m c t p q).trans ?_
  rw [emb6]
  refine Eq.trans ?_ (fst_apply (a0 m c) (a1 m c) (a2 m c) (a4 m c) (row t p) q).symm
  simp only [at0, at1, at2, at4]

theorem fst_total : (dats m 0 c).arrAt 8 cfg0.N = val_main_v81 (F := Ideal) (a0 m c) (a1 m c) (a2 m c) := by
  refine (dats m 0 c).arrAt_eq_of_after_last 8 ⟨7, by decide⟩ (by decide +kernel) _ fun j => ?_
  rw [after0_8]
  have e := Pipeline.eq_sum_fin_of_reset_step_apply_last (N := 8) (M := EReal)
    (fun n h => (outsAt0 m c n h).2.2.1) 8 _ (fun t i => fst_share m c t i)
    (fun t h => fst_gainA m c t h) (fun t h => fst_gainB m c t h) le_rfl 7 rfl j
  rw [zero_add] at e
  refine e.trans ?_
  refine Eq.trans ?_ (fst_gain (a0 m c) (a1 m c) (a2 m c) j).symm
  rw [← sum_rows]
  exact Finset.sum_congr rfl fun t _ => fst_share_eq m c t j

/-! ## The second operand -/

theorem snd_rows (t : Fin cfg0.N) (p : Fin 512) (q : Fin 1024) :
    (outsAt0 m c t.val t.isLt).2.1 (ix2 p q) = (closed (Ideal.ofBits .f32 0x44800000#32) (fun k => x3 m c t (ix2 p k))
      (fun k => flow (fun j => x0 m c t (ix2 p j)) (x1 m c t) (hi k) * x5 m c t (ix2 0 k)) q : EReal) := by
  by_cases h : t.val % 8 = 0
  · rw [outsAt0_A m c t h]
    frame_out
    pointwise [k0_pay1, k0_pay19, k0_pay18, k0_pay17, k0_pay15, k0_pay7, k0_pay5]
    rfl
  · rw [outsAt0_B m c t h]
    frame_out
    pointwise [k0_pay1, k0_pay19, k0_pay18, k0_pay17, k0_pay15, k0_pay7, k0_pay5]
    rfl

def snd_share (t : Fin cfg0.N) (i : S1x1024.Idx) : EReal :=
  ∑ r : Fin 512, flow (fun j => x0 m c t (ix2 r j)) (x1 m c t) (hi (i 1)) * (x3 m c t (ix2 r (i 1))
    * root (Ideal.ofBits .f32 0x44800000#32) fun k => x3 m c t (ix2 r k))

theorem snd_gainA (t : Fin cfg0.N) (h : t.val % 8 = 0) (i) : (outsAt0 m c t.val t.isLt).2.2.2.1 i = (0 + snd_share m c t i : EReal) := by
  rw [outsAt0_A m c t h]
  frame_out
  pointwise [k0_pay16, k0_pay4, k0_pay15, k0_pay7, k0_pay5]
  rfl

theorem snd_gainB (t : Fin cfg0.N) (h : ¬ t.val % 8 = 0) (i) : (outsAt0 m c t.val t.isLt).2.2.2.1 i
    = ((outsAt0 m c (t.val - 1) (Nat.lt_of_le_of_lt (Nat.sub_le _ _) t.isLt)).2.2.2.1 i + snd_share m c t i : EReal) := by
  rw [outsAt0_B m c t h]
  frame_out
  pointwise [k0_pay16, k0_pay4, k0_pay15, k0_pay7, k0_pay5]
  rfl

theorem snd_share_eq (t : Fin cfg0.N) (i : S1x1024.Idx) : snd_share m c t i
    = (∑ r : Fin 512, flow (fun j => a0 m c (ix2 (row t r) j)) (a1 m c) (hi (i 1)) * (a3 m c (ix2 (row t r) (i 1))
      * root (Ideal.ofBits .f32 0x44800000#32) fun k => a3 m c (ix2 (row t r) k)) : EReal) := by
  refine Finset.sum_congr rfl fun r _ => congrArg₂ (· * ·) ?_ (congrArg₂ (· * ·) (at3 m c t r (i 1)) ?_)
  · rw [at1]; exact congrArg (flow · _ _) (funext fun j => at0 m c t r j)
  · exact congrArg _ (funext fun k => at3 m c t r k)

theorem emb7 (t : Fin cfg0.N) (p : Fin 512) (q : Fin 1024) : (win0_7.blk t).view.emb (ix2 p q) = (ix2 (row t p) q : S4096x1024.Idx) := by
  have e0 := win0_7.rect_emb_val t (ix2 p q) 0 rfl
  have e1 := win0_7.rect_emb_val t (ix2 p q) 1 rfl
  rw [idx7 t] at e0 e1
  funext a
  fin_cases a
  · exact Fin.ext (e0.trans (by show t.val * 512 + p.val = 512 * t.val + p.val; omega))
  · exact Fin.ext (e1.trans (by show 0 * 1024 + q.val = q.val; omega))

theorem snd_final : (dats m 0 c).arrAt 7 cfg0.N = val_main_v60 (F := Ideal) (a0 m c) (a1 m c) (a3 m c) (a5 m c) := by
  refine (dats m 0 c).arrAt_eq_of_covers 7 _ (by decide +kernel) fun t hf y => ?_
  blk_simp
  rw [after0_7]
  obtain ⟨p, q, rfl⟩ : ∃ p q, y = ix2 p q := ⟨y 0, y 1, funext fun a => by fin_cases a <;> rfl⟩
  refine (snd_rows m c t p q).trans ?_
  rw [emb7]
  refine Eq.trans ?_ (snd_apply (a0 m c) (a1 m c) (a3 m c) (a5 m c) (row t p) q).symm
  simp only [at0, at1, at3, at5]

theorem snd_total : (dats m 0 c).arrAt 9 cfg0.N = val_main_v82 (F := Ideal) (a0 m c) (a1 m c) (a3 m c) := by
  refine (dats m 0 c).arrAt_eq_of_after_last 9 ⟨7, by decide⟩ (by decide +kernel) _ fun j => ?_
  rw [after0_9]
  have e := Pipeline.eq_sum_fin_of_reset_step_apply_last (N := 8) (M := EReal)
    (fun n h => (outsAt0 m c n h).2.2.2.1) 8 _ (fun t i => snd_share m c t i)
    (fun t h => snd_gainA m c t h) (fun t h => snd_gainB m c t h) le_rfl 7 rfl j
  rw [zero_add] at e
  refine e.trans ?_
  refine Eq.trans ?_ (snd_gain (a0 m c) (a1 m c) (a3 m c) j).symm
  rw [← sum_rows]
  exact Finset.sum_congr rfl fun t _ => snd_share_eq m c t j

end Cert.OutBwdIdeal.Grad

namespace Cert.Proof

open Cert.OutBwdRefIdeal.Read Cert.OutBwdIdeal.Grad

theorem algebraic_OutBwd : Cert.algebraic_OutBwdIdeal_OutBwdRefIdeal := fun m ρ m' ρ' _ hag =>
  ⟨fun c => val_main_v80 (F := Ideal) (a0 m c) (a1 m c) (a2 m c) (a4 m c),
    fun c => val_main_v60 (F := Ideal) (a0 m c) (a1 m c) (a3 m c) (a5 m c),
    fun c => val_main_v81 (F := Ideal) (a0 m c) (a1 m c) (a2 m c),
    fun c => val_main_v82 (F := Ideal) (a0 m c) (a1 m c) (a3 m c),
    (θ_run _ _ _).mono (fun _ k c =>
      ⟨(k c).1.trans (fst_final m c), (k c).2.1.trans (snd_final m c), (k c).2.2.1.trans (fst_total m c),
        (k c).2.2.2.1.trans (snd_total m c), (k c).2.2.2.2.2⟩)
      (Cert.OutBwdIdeal.Value.run_blocks m ρ),
    (θ_run _ _ _).mono (fun _ k c => by
      obtain ⟨e0, e1, e2, e3, e4, e5⟩ := hag c
      refine ⟨(k c).1.trans ?_, (k c).2.1.trans ?_, (k c).2.2.1.trans ?_, (k c).2.2.2.1.trans ?_, (k c).2.2.2.2⟩
      · refine (val_main_v80_eq _ _).trans ?_; simp only [StableHlo.launchContents_devRef, e0, e1, e2, e4]
      · refine (val_main_v60_eq _ _).trans ?_; simp only [StableHlo.launchContents_devRef, e0, e1, e3, e5]
      · refine (val_main_v81_eq _ _ _).trans ?_; simp only [StableHlo.launchContents_devRef, e0, e1, e2]
      · refine (val_main_v82_eq _ _ _).trans ?_; simp only [StableHlo.launchContents_devRef, e0, e1, e3])
      (Cert.OutBwdRefIdeal.Value.run m' ρ')⟩

end Cert.Proof

end
-- ==== Proof.OutFwd.lean ====
/-
The forward step through the output projection: over the extended reals the kernel's blocks of rows are the normed
operands side by side, their product with the weight added to the residual, and the norm of that.
-/
module

public import proofs.«01_k».proof.Defs
public import proofs.«01_k».proof.Proof.Rms
public import proofs.«01_k».proof.Proof.Gen.OutFwdIdeal.Value
public import proofs.«01_k».proof.Proof.Gen.OutFwdRefIdeal.Read
public import Idealize.ShloMosaic.Lib.Pipeline.ValueKit
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutFwdRefIdeal.Rows

open Cert.OutFwdRefIdeal Cert.OutFwdRefIdeal.Gen Cert.OutFwdRefIdeal.Read Cert.Rms

/-- A row of the two normed operands side by side. -/
def mixed (a b g h : Fin 1024 → EReal) (q : Fin 2048) : EReal :=
  if hq : q.val < 1024 then a ⟨q.val, hq⟩ * root (Ideal.ofBits .f32 0x44800000#32) a * g ⟨q.val, hq⟩
  else b ⟨q.val - 1024, by omega⟩ * root (Ideal.ofBits .f32 0x44800000#32) b * h ⟨q.val - 1024, by omega⟩

/-- A row of the residual with the product. -/
def hidden (l x : Fin 2048 → EReal) (w : (⟨S2048x2048, .bf16⟩ : BufTy).Contents (Elt Ideal)) (q : Fin 2048) : EReal :=
  x q + ∑ k : Fin 2048, l k * w (ix2 k q)

theorem mixed_apply (x0 x1 : (⟨S4096x1024, .f32⟩ : BufTy).Contents (Elt Ideal)) (x2 x3 : (⟨S1x1024, .f32⟩ : BufTy).Contents (Elt Ideal)) (p : Fin 4096) (q : Fin 2048) :
    val_main_v28 (F := Ideal) x0 x1 x2 x3 (ix2 p q) = mixed (fun k => x0 (ix2 p k)) (fun k => x1 (ix2 p k)) (fun k => x2 (ix2 0 k)) (fun k => x3 (ix2 0 k)) q := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

theorem copy_apply (x0 x1 : (⟨S4096x1024, .f32⟩ : BufTy).Contents (Elt Ideal)) (x2 x3 : (⟨S1x1024, .f32⟩ : BufTy).Contents (Elt Ideal)) (p : Fin 4096) (q : Fin 2048) :
    val_main_v32 (F := Ideal) x0 x1 x2 x3 (ix2 p q) = mixed (fun k => x0 (ix2 p k)) (fun k => x1 (ix2 p k)) (fun k => x2 (ix2 0 k)) (fun k => x3 (ix2 0 k)) q :=
  mixed_apply x0 x1 x2 x3 p q

theorem hidden_apply (x0 x1 : (⟨S4096x1024, .f32⟩ : BufTy).Contents (Elt Ideal)) (x2 x3 : (⟨S1x1024, .f32⟩ : BufTy).Contents (Elt Ideal)) (x4 : (⟨S4096x2048, .f32⟩ : BufTy).Contents (Elt Ideal)) (x5 : (⟨S2048x2048, .bf16⟩ : BufTy).Contents (Elt Ideal)) (p : Fin 4096) (q : Fin 2048) :
    val_main_v31 (F := Ideal) x0 x1 x2 x3 x4 x5 (ix2 p q) = hidden (mixed (fun k => x0 (ix2 p k)) (fun k => x1 (ix2 p k)) (fun k => x2 (ix2 0 k)) (fun k => x3 (ix2 0 k))) (fun k => x4 (ix2 p k)) x5 q := by
  pointwise [val_main_v31, val_main_v30, val_main_v29]
  simp only [mixed_apply]
  rfl

theorem norm_apply (x0 x1 : (⟨S4096x1024, .f32⟩ : BufTy).Contents (Elt Ideal)) (x2 x3 : (⟨S1x1024, .f32⟩ : BufTy).Contents (Elt Ideal)) (x4 : (⟨S4096x2048, .f32⟩ : BufTy).Contents (Elt Ideal)) (x5 : (⟨S2048x2048, .bf16⟩ : BufTy).Contents (Elt Ideal)) (x6 : (⟨S1x2048, .f32⟩ : BufTy).Contents (Elt Ideal)) (p : Fin 4096) (q : Fin 2048) :
    val_main_v47 (F := Ideal) x0 x1 x2 x3 x4 x5 x6 (ix2 p q) = (hidden (mixed (fun k => x0 (ix2 p k)) (fun k => x1 (ix2 p k)) (fun k => x2 (ix2 0 k)) (fun k => x3 (ix2 0 k))) (fun k => x4 (ix2 p k)) x5 q
      * root (Ideal.ofBits .f32 0x45000000#32) (hidden (mixed (fun k => x0 (ix2 p k)) (fun k => x1 (ix2 p k)) (fun k => x2 (ix2 0 k)) (fun k => x3 (ix2 0 k))) (fun k => x4 (ix2 p k)) x5) * x6 (ix2 0 q) : EReal) := by
  pointwise [val_main_v47, val_main_v46, val_main_v45, val_main_v44, val_main_v43, val_main_v42, val_main_v41, val_main_v40, val_main_v39, val_main_v38, val_main_v37, val_main_v36, val_main_v35, val_main_v34, val_main_v33, val_main_cst_5, val_main_cst_6, val_main_cst_7]
  simp only [hidden_apply]
  rfl

end Cert.OutFwdRefIdeal.Rows

namespace Cert.OutFwdIdeal.Rows

open Cert.OutFwdIdeal Cert.OutFwdIdeal.Gen Cert.Rms
open Cert.OutFwdRefIdeal.Rows (mixed hidden hidden_apply copy_apply norm_apply)
open Cert.OutFwdRefIdeal.Read (val_main_v31 val_main_v32 val_main_v47)

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

abbrev a0 : FVec Ideal S4096x1024 .f32 := m ((c : Thread nD τ).loc main_arg0)
abbrev a1 : FVec Ideal S4096x1024 .f32 := m ((c : Thread nD τ).loc main_arg1)
abbrev a2 : FVec Ideal S1x1024 .f32 := m ((c : Thread nD τ).loc main_arg2)
abbrev a3 : FVec Ideal S1x1024 .f32 := m ((c : Thread nD τ).loc main_arg3)
abbrev a4 : FVec Ideal S4096x2048 .f32 := m ((c : Thread nD τ).loc main_arg4)
abbrev a5 : FVec Ideal S2048x2048 .bf16 := m ((c : Thread nD τ).loc main_arg5)
abbrev a6 : FVec Ideal S1x2048 .f32 := m ((c : Thread nD τ).loc main_arg6)

abbrev x0 (t : Fin cfg0.N) : FVec Ideal S512x1024 .f32 := iblk m c 0 t
abbrev x1 (t : Fin cfg0.N) : FVec Ideal S512x1024 .f32 := iblk m c 1 t
abbrev x2 (t : Fin cfg0.N) : FVec Ideal S1x1024 .f32 := iblk m c 2 t
abbrev x3 (t : Fin cfg0.N) : FVec Ideal S1x1024 .f32 := iblk m c 3 t
abbrev x4 (t : Fin cfg0.N) : FVec Ideal S512x2048 .f32 := iblk m c 4 t
abbrev x5 (t : Fin cfg0.N) : FVec Ideal S2048x2048 .bf16 := iblk m c 5 t
abbrev x6 (t : Fin cfg0.N) : FVec Ideal S1x2048 .f32 := iblk m c 6 t

theorem at0 (t : Fin cfg0.N) (p : Fin 512) (k : Fin 1024) : x0 m c t (ix2 p k) = a0 m c (ix2 (row t p) k) := by
  blk_point [x0, iblk, V, idx0 t, row]
theorem at1 (t : Fin cfg0.N) (p : Fin 512) (k : Fin 1024) : x1 m c t (ix2 p k) = a1 m c (ix2 (row t p) k) := by
  blk_point [x1, iblk, V, idx1 t, row]
theorem at2 (t : Fin cfg0.N) : x2 m c t = a2 m c := by
  blk_point [x2, iblk, V, idx2 t]
theorem at3 (t : Fin cfg0.N) : x3 m c t = a3 m c := by
  blk_point [x3, iblk, V, idx3 t]
theorem at4 (t : Fin cfg0.N) (p : Fin 512) (k : Fin 2048) : x4 m c t (ix2 p k) = a4 m c (ix2 (row t p) k) := by
  blk_point [x4, iblk, V, idx4 t, row]
theorem at5 (t : Fin cfg0.N) : x5 m c t = a5 m c := by
  blk_point [x5, iblk, V, idx5 t]
theorem at6 (t : Fin cfg0.N) : x6 m c t = a6 m c := by
  blk_point [x6, iblk, V, idx6 t]

/-- The second operand's half of a block. -/
theorem pieceB (a b : FVec Ideal S512x1024 .f32) (g h : FVec Ideal S1x1024 .f32) (i1) (x : S512x1024.Idx) :
    k0_pay5 (F := Ideal) b h x = (fun y : S512x2048.Idx => mixed (fun k => a (ix2 (y 0) k)) (fun k => b (ix2 (y 0) k)) (fun k => g (ix2 0 k)) (fun k => h (ix2 0 k)) (y 1))
      ((Rect.unit (s := S512x2048) ![0, 1024] ![512, 1024] i1).emb x) := by
  obtain ⟨p, k, rfl⟩ : ∃ p k, x = ix2 p k := ⟨x 0, x 1, funext fun a => by fin_cases a <;> rfl⟩
  have e : (Rect.unit (s := S512x2048) ![0, 1024] ![512, 1024] i1).emb (ix2 p k) = (ix2 p ⟨1024 + k.val, by omega⟩ : S512x2048.Idx) := by
    funext a
    fin_cases a
    · exact Fin.ext ((ValueKit.rect_emb_unit_val _ _ _ _ _).trans (Nat.zero_add _))
    · exact Fin.ext ((ValueKit.rect_emb_unit_val _ _ _ _ _).trans (rfl))
  rw [e]
  pointwise [k0_pay5]
  have hk : (⟨1024 + k.val - 1024, by omega⟩ : Fin 1024) = k := Fin.ext (by show 1024 + k.val - 1024 = k.val; omega)
  refine Eq.trans ?_ (dif_neg (by show ¬ 1024 + k.val < 1024; omega)).symm
  show _ = ((b (ix2 p ⟨1024 + k.val - 1024, _⟩) * root _ _ * h (ix2 0 ⟨1024 + k.val - 1024, _⟩) : EReal))
  rw [hk]
  rfl

/-- The first operand's half of a block. -/
theorem pieceA (a b : FVec Ideal S512x1024 .f32) (g h : FVec Ideal S1x1024 .f32) (i0) (x : S512x1024.Idx) :
    k0_pay4 (F := Ideal) a g x = (fun y : S512x2048.Idx => mixed (fun k => a (ix2 (y 0) k)) (fun k => b (ix2 (y 0) k)) (fun k => g (ix2 0 k)) (fun k => h (ix2 0 k)) (y 1))
      ((Rect.unit (s := S512x2048) ![0, 0] ![512, 1024] i0).emb x) := by
  obtain ⟨p, k, rfl⟩ : ∃ p k, x = ix2 p k := ⟨x 0, x 1, funext fun a => by fin_cases a <;> rfl⟩
  have e : (Rect.unit (s := S512x2048) ![0, 0] ![512, 1024] i0).emb (ix2 p k) = (ix2 p ⟨k.val, by omega⟩ : S512x2048.Idx) := by
    funext a
    fin_cases a
    · exact Fin.ext ((ValueKit.rect_emb_unit_val _ _ _ _ _).trans (Nat.zero_add _))
    · exact Fin.ext ((ValueKit.rect_emb_unit_val _ _ _ _ _).trans (Nat.zero_add _))
  rw [e]
  pointwise [k0_pay4]
  refine Eq.trans ?_ (dif_pos (show k.val < 1024 from k.isLt)).symm
  rfl

/-- The two stores fill a block of the normed operands. -/
theorem stores (a b : FVec Ideal S512x1024 .f32) (g h : FVec Ideal S1x1024 .f32) (i1 i0) (p : Fin 512) (q : Fin 2048) :
    View.canon (Val := Elt Ideal) (s := S512x2048) (e := .bf16) [⟨Rect.unit ![0, 1024] ![512, 1024] i1, k0_pay5 (F := Ideal) b h⟩, ⟨Rect.unit ![0, 0] ![512, 1024] i0, k0_pay4 (F := Ideal) a g⟩] (ix2 p q)
      = mixed (fun k => a (ix2 p k)) (fun k => b (ix2 p k)) (fun k => g (ix2 0 k)) (fun k => h (ix2 0 k)) q := by
  refine View.canon_append_of_piecesOf (Val := Elt Ideal) (s := S512x2048) (e := .bf16)
    (fun y => mixed (fun k => a (ix2 (y 0) k)) (fun k => b (ix2 (y 0) k)) (fun k => g (ix2 0 k)) (fun k => h (ix2 0 k)) (y 1)) [] [_, _]
    ⟨?_, ?_, trivial⟩ (ix2 p q) (View.cover_of_tiledL (s := S512x2048) _ S512x1024.size (by sl_kernel_rfl) (ix2 p q))
  · exact pieceB a b g h i1
  · exact pieceA a b g h i0

theorem copy (t : Fin cfg0.N) (p : Fin 512) (q : Fin 2048) : (outsAt0 m c t).2.1 (ix2 p q) = mixed (fun k => (x0 m c t) (ix2 p k)) (fun k => (x1 m c t) (ix2 p k)) (fun k => (x2 m c t) (ix2 0 k)) (fun k => (x3 m c t) (ix2 0 k)) q := by
  unfold outsAt0
  frame_out
  exact stores _ _ _ _ _ _ p q

theorem load (v : View sig .tc .vmem S512x2048 .bf16) (a b : FVec Ideal S512x1024 .f32) (g h : FVec Ideal S1x1024 .f32) (i1 i0) (i : ∀ a, (![0, 0] : Fin 2 → ℕ) a + (![512, 2048] : Fin 2 → ℕ) a ≤ S512x2048.size a) (p : Fin 512) (q : Fin 2048) :
    v.readCov (Val := Elt Ideal) [⟨Rect.unit ![0, 1024] ![512, 1024] i1, k0_pay5 (F := Ideal) b h⟩, ⟨Rect.unit ![0, 0] ![512, 1024] i0, k0_pay4 (F := Ideal) a g⟩]
      (Rect.unit (s := S512x2048) ![0, 0] ![512, 2048] i).toLoadRect (ix2 p q : S512x2048.Idx) = mixed (fun k => a (ix2 p k)) (fun k => b (ix2 p k)) (fun k => g (ix2 0 k)) (fun k => h (ix2 0 k)) q := by
  rw [View.readCov_eq_canon']
  refine Eq.trans (congrArg _ ?_) (stores a b g h i1 i0 p q)
  funext a
  fin_cases a
  · exact Fin.ext ((Rect.idx_unit_val _ _ _ _ _).trans (Nat.zero_add _))
  · exact Fin.ext ((Rect.idx_unit_val _ _ _ _ _).trans (Nat.zero_add _))

theorem rows (t : Fin cfg0.N) (p : Fin 512) (q : Fin 2048) : (outsAt0 m c t).1 (ix2 p q) = hidden (mixed (fun k => (x0 m c t) (ix2 p k)) (fun k => (x1 m c t) (ix2 p k)) (fun k => (x2 m c t) (ix2 0 k)) (fun k => (x3 m c t) (ix2 0 k))) (fun k => (x4 m c t) (ix2 p k)) (x5 m c t) q := by
  unfold outsAt0
  frame_out
  pointwise [k0_pay1, k0_pay6]
  simp only [load]
  rfl

theorem norms (t : Fin cfg0.N) (p : Fin 512) (q : Fin 2048) : (outsAt0 m c t).2.2.1 (ix2 p q)
    = (hidden (mixed (fun k => (x0 m c t) (ix2 p k)) (fun k => (x1 m c t) (ix2 p k)) (fun k => (x2 m c t) (ix2 0 k)) (fun k => (x3 m c t) (ix2 0 k))) (fun k => (x4 m c t) (ix2 p k)) (x5 m c t) q * root (Ideal.ofBits .f32 0x45000000#32) (hidden (mixed (fun k => (x0 m c t) (ix2 p k)) (fun k => (x1 m c t) (ix2 p k)) (fun k => (x2 m c t) (ix2 0 k)) (fun k => (x3 m c t) (ix2 0 k))) (fun k => (x4 m c t) (ix2 p k)) (x5 m c t)) * x6 m c t (ix2 0 q) : EReal) := by
  unfold outsAt0
  frame_out
  pointwise [k0_pay2, k0_pay1, k0_pay6]
  simp only [load]
  rfl

theorem emb7 (t : Fin cfg0.N) (p : Fin 512) (q : Fin 2048) : (win0_7.blk t).view.emb (ix2 p q) = (ix2 (row t p) q : S4096x2048.Idx) := by
  have e0 := win0_7.rect_emb_val t (ix2 p q) 0 rfl
  have e1 := win0_7.rect_emb_val t (ix2 p q) 1 rfl
  rw [idx7 t] at e0 e1
  funext a
  fin_cases a
  · exact Fin.ext (e0.trans (by show t.val * 512 + p.val = 512 * t.val + p.val; omega))
  · exact Fin.ext (e1.trans (by show 0 * 2048 + q.val = q.val; omega))

theorem final_rows : (dats m 0 c).arrAt 7 cfg0.N = val_main_v31 (F := Ideal) (a0 m c) (a1 m c) (a2 m c) (a3 m c) (a4 m c) (a5 m c) := by
  refine (dats m 0 c).arrAt_eq_of_covers 7 _ (by decide +kernel) fun t hf y => ?_
  blk_simp
  rw [after0_7]
  obtain ⟨p, q, rfl⟩ : ∃ p q, y = ix2 p q := ⟨y 0, y 1, funext fun a => by fin_cases a <;> rfl⟩
  refine (rows m c t p q).trans ?_
  rw [emb7]
  refine Eq.trans ?_ (hidden_apply (a0 m c) (a1 m c) (a2 m c) (a3 m c) (a4 m c) (a5 m c) (row t p) q).symm
  simp only [at0, at1, at2, at3, at4, at5, at6]

theorem emb8 (t : Fin cfg0.N) (p : Fin 512) (q : Fin 2048) : (win0_8.blk t).view.emb (ix2 p q) = (ix2 (row t p) q : S4096x2048.Idx) := by
  have e0 := win0_8.rect_emb_val t (ix2 p q) 0 rfl
  have e1 := win0_8.rect_emb_val t (ix2 p q) 1 rfl
  rw [idx8 t] at e0 e1
  funext a
  fin_cases a
  · exact Fin.ext (e0.trans (by show t.val * 512 + p.val = 512 * t.val + p.val; omega))
  · exact Fin.ext (e1.trans (by show 0 * 2048 + q.val = q.val; omega))

theorem final_copy : (dats m 0 c).arrAt 8 cfg0.N = val_main_v32 (F := Ideal) (a0 m c) (a1 m c) (a2 m c) (a3 m c) := by
  refine (dats m 0 c).arrAt_eq_of_covers 8 _ (by decide +kernel) fun t hf y => ?_
  blk_simp
  rw [after0_8]
  obtain ⟨p, q, rfl⟩ : ∃ p q, y = ix2 p q := ⟨y 0, y 1, funext fun a => by fin_cases a <;> rfl⟩
  refine (copy m c t p q).trans ?_
  rw [emb8]
  refine Eq.trans ?_ (copy_apply (a0 m c) (a1 m c) (a2 m c) (a3 m c) (row t p) q).symm
  simp only [at0, at1, at2, at3, at4, at5, at6]

theorem emb9 (t : Fin cfg0.N) (p : Fin 512) (q : Fin 2048) : (win0_9.blk t).view.emb (ix2 p q) = (ix2 (row t p) q : S4096x2048.Idx) := by
  have e0 := win0_9.rect_emb_val t (ix2 p q) 0 rfl
  have e1 := win0_9.rect_emb_val t (ix2 p q) 1 rfl
  rw [idx9 t] at e0 e1
  funext a
  fin_cases a
  · exact Fin.ext (e0.trans (by show t.val * 512 + p.val = 512 * t.val + p.val; omega))
  · exact Fin.ext (e1.trans (by show 0 * 2048 + q.val = q.val; omega))

theorem final_norms : (dats m 0 c).arrAt 9 cfg0.N = val_main_v47 (F := Ideal) (a0 m c) (a1 m c) (a2 m c) (a3 m c) (a4 m c) (a5 m c) (a6 m c) := by
  refine (dats m 0 c).arrAt_eq_of_covers 9 _ (by decide +kernel) fun t hf y => ?_
  blk_simp
  rw [after0_9]
  obtain ⟨p, q, rfl⟩ : ∃ p q, y = ix2 p q := ⟨y 0, y 1, funext fun a => by fin_cases a <;> rfl⟩
  refine (norms m c t p q).trans ?_
  rw [emb9]
  refine Eq.trans ?_ (norm_apply (a0 m c) (a1 m c) (a2 m c) (a3 m c) (a4 m c) (a5 m c) (a6 m c) (row t p) q).symm
  simp only [at0, at1, at2, at3, at4, at5, at6]

end Cert.OutFwdIdeal.Rows

namespace Cert.Proof

open Cert.OutFwdRefIdeal.Read Cert.OutFwdIdeal.Rows

theorem algebraic_OutFwd : Cert.algebraic_OutFwdIdeal_OutFwdRefIdeal := fun m ρ m' ρ' _ hag =>
  ⟨fun c => val_main_v31 (F := Ideal) (a0 m c) (a1 m c) (a2 m c) (a3 m c) (a4 m c) (a5 m c),
    fun c => val_main_v32 (F := Ideal) (a0 m c) (a1 m c) (a2 m c) (a3 m c),
    fun c => val_main_v47 (F := Ideal) (a0 m c) (a1 m c) (a2 m c) (a3 m c) (a4 m c) (a5 m c) (a6 m c),
    (θ_run _ _ _).mono (fun _ k c =>
      ⟨(k c).1.trans (final_rows m c), (k c).2.1.trans (final_copy m c), (k c).2.2.1.trans (final_norms m c), (k c).2.2.2.2⟩)
      (Cert.OutFwdIdeal.Value.run_blocks m ρ),
    (θ_run _ _ _).mono (fun _ k c => by
      obtain ⟨e0, e1, e2, e3, e4, e5, e6⟩ := hag c
      refine ⟨(k c).1.trans ?_, (k c).2.1.trans ?_, (k c).2.2.1.trans ?_, (k c).2.2.2⟩
      · refine (val_main_v31_eq _ _ _ _ _ _).trans ?_; simp only [StableHlo.launchContents_devRef, e0, e1, e2, e3, e4, e5]
      · refine (val_main_v32_eq _ _ _ _).trans ?_; simp only [StableHlo.launchContents_devRef, e0, e1, e2, e3]
      · refine (val_main_v47_eq _ _).trans ?_; simp only [StableHlo.launchContents_devRef, e0, e1, e2, e3, e4, e5, e6])
      (Cert.OutFwdRefIdeal.Value.run m' ρ')⟩

end Cert.Proof

end
-- ==== Proof.UpBwd.lean ====
/-
The backward step through the up projection: over the extended reals each output tile, accumulated over the two halves of
the hidden axis, is a block of `dzp @ w_upᵀ`.
-/
module

public import proofs.«01_k».proof.Defs
public import proofs.«01_k».proof.Proof.Gen.UpBwdIdeal.Value
public import proofs.«01_k».proof.Proof.Gen.UpBwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.UpBwdRefIdeal.Product

open Cert.UpBwdRefIdeal Cert.UpBwdRefIdeal.Gen Cert.UpBwdRefIdeal.Read

/-- Entry (p, q) is the sum over the hidden axis of `dzp`'s row p times the weight's row q. -/
theorem ref_apply (x0 : (⟨Cert.UpBwdRefIdeal.S4096x8192, .bf16⟩ : BufTy).Contents (Elt Ideal)) (x1 : (⟨Cert.UpBwdRefIdeal.S8x2048x1024, .bf16⟩ : BufTy).Contents (Elt Ideal)) (i : S4096x2048.Idx) :
    val_main_v6 (F := Ideal) x0 x1 i = (∑ k : Fin 8192, x0 (ix2 (i 0) k) * x1 (ix3 ⟨k.val / 1024, by omega⟩ (i 1) ⟨k.val % 1024, Nat.mod_lt _ (by omega)⟩) : EReal) := by
  pointwise [val_main_v6, val_main_v5, val_main_v2, val_main_v1, val_main_v0]

end Cert.UpBwdRefIdeal.Product

/-! ## The kernel's result array -/

namespace Cert.UpBwdIdeal.Product

open Cert.UpBwdIdeal Cert.UpBwdIdeal.Gen

variable (m : (ℓ : Loc nD τ sig) → Buf (Elt Ideal) ℓ) (ρ : Dev nD → PrngReg)

theorem idx0 : ∀ t : Fin cfg0.N, win0_0.index t = ![t.val / 4, t.val % 2] :=
  (by decide +kernel : ∀ t : Fin grid0.N, _)
theorem idx1 : ∀ t : Fin cfg0.N, win0_1.index t = ![t.val % 2, t.val / 2 % 2] :=
  (by decide +kernel : ∀ t : Fin grid0.N, _)
theorem idx2 : ∀ t : Fin cfg0.N, win0_2.index t = ![t.val / 4, t.val / 2 % 2] :=
  (by decide +kernel : ∀ t : Fin grid0.N, _)

/-- The kernel's result array is the reference's function of the arguments: every point writes back its block of it. -/
theorem final (c : Dev nD) : (dats m 0 c).arrAt 2 cfg0.N
    = Cert.UpBwdRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  rw [Cert.UpBwdRefIdeal.Product.ref_apply]
  have h1 : t.val % 2 = 1 := (flush0_2 t).mp hf
  have hlt' : t.val - 1 < cfg0.N := Nat.lt_of_le_of_lt (Nat.sub_le _ _) t.isLt
  rw [outsAt0_B m c t (by omega) h1]
  frame_out
  rw [outsAt0_A m c ⟨t.val - 1, hlt'⟩ (by show (t.val - 1) % 2 = 0; omega) (by show ¬(t.val - 1) % 2 = 1; omega)]
  frame_out
  pointwise [k0_pay2, k0_pay1]
  refine Eq.trans ?_ (Fin.sum_univ_add (a := 4096) (b := 4096) (M := EReal) _).symm
  congr 1
  · blk_point [iblk, V, idx0 ⟨t.val - 1, hlt'⟩, idx1 ⟨t.val - 1, hlt'⟩, idx2 t] <;> simp only [Fin.val_castAdd] <;> omega
  · blk_point [iblk, V, idx0 t, idx1 t, idx2 t] <;> simp only [Fin.val_natAdd] <;> omega

end Cert.UpBwdIdeal.Product

namespace Cert.Proof

theorem algebraic_UpBwd : Cert.algebraic_UpBwdIdeal_UpBwdRefIdeal := fun m ρ m' ρ' _ hag =>
  ⟨fun c => Cert.UpBwdRefIdeal.Read.val_main_v6 (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)),
    (θ_run _ _ _).mono (fun _ h c => ⟨(h c).1.trans (Cert.UpBwdIdeal.Product.final m c), (h c).2.2⟩)
      (Cert.UpBwdIdeal.Value.run_blocks m ρ),
    (θ_run _ _ _).mono (fun _ h c => ⟨(h c).1.trans (by rw [(hag c).1, (hag c).2]; rfl), (h c).2⟩)
      (Cert.UpBwdRefIdeal.Value.run m' ρ')⟩

end Cert.Proof

end
-- ==== Proof.UpFwd.lean ====
/-
The up projection and its rectifier: over the extended reals the kernel's tiles are the blocks of `relu(n @ w_up)`, the
weight read from the eight gathered column blocks.
-/
module

public import proofs.«01_k».proof.Defs
public import proofs.«01_k».proof.Proof.Gen.UpFwdIdeal.Value
public import proofs.«01_k».proof.Proof.Gen.UpFwdRefIdeal.Read
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an index -/

namespace Cert.UpFwdRefIdeal.Product

open Cert.UpFwdRefIdeal Cert.UpFwdRefIdeal.Gen Cert.UpFwdRefIdeal.Read

/-- Entry (p, q) is the larger of 0 and the sum over the model axis of `n`'s row p times the weight's column q. -/
theorem ref_apply (x0 : (⟨Cert.UpFwdRefIdeal.S4096x2048, .bf16⟩ : BufTy).Contents (Elt Ideal)) (x1 : (⟨Cert.UpFwdRefIdeal.S8x2048x1024, .bf16⟩ : BufTy).Contents (Elt Ideal)) (i : S4096x8192.Idx) :
    val_main_v6 (F := Ideal) x0 x1 i = (max (∑ k : Fin 2048, x0 (ix2 (i 0) k) * x1 (ix3 ⟨(i 1).val / 1024, by have := (i 1).isLt; simp at *; omega⟩ k ⟨(i 1).val % 1024, Nat.mod_lt _ (by omega)⟩)) 0 : EReal) := by
  pointwise [val_main_v6, val_main_v5, val_main_v4, val_main_v3, val_main_v2, val_main_v1, val_main_v0, val_main_call0_v0, val_main_call0_cst]

end Cert.UpFwdRefIdeal.Product

/-! ## The kernel's result array -/

namespace Cert.UpFwdIdeal.Product

open Cert.UpFwdIdeal Cert.UpFwdIdeal.Gen

variable (m : (ℓ : Loc nD τ sig) → Buf (Elt Ideal) ℓ) (ρ : Dev nD → PrngReg)

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 1).val, 0, 0] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's result array is the reference's function of the arguments: every point writes back its block of it. -/
theorem final (c : Dev nD) : (dats m 0 c).arrAt 2 cfg0.N
    = Cert.UpFwdRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.UpFwdRefIdeal.Product.ref_apply]
  pointwise [k0_pay1]
  blk_point [iblk, V, idx0 t, idx1 t, idx2 t]

end Cert.UpFwdIdeal.Product

namespace Cert.Proof

theorem algebraic_UpFwd : Cert.algebraic_UpFwdIdeal_UpFwdRefIdeal := fun m ρ m' ρ' _ hag =>
  ⟨fun c => Cert.UpFwdRefIdeal.Read.val_main_v6 (F := Ideal) (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)),
    (θ_run _ _ _).mono (fun _ h c => ⟨(h c).1.trans (Cert.UpFwdIdeal.Product.final m c), (h c).2.2⟩)
      (Cert.UpFwdIdeal.Value.run_blocks m ρ),
    (θ_run _ _ _).mono (fun _ h c => ⟨(h c).1.trans (by rw [(hag c).1, (hag c).2]; rfl), (h c).2⟩)
      (Cert.UpFwdRefIdeal.Value.run m' ρ')⟩

end Cert.Proof

end
-- ==== Proof.lean ====
module

public import proofs.«01_k».proof.Defs
public import proofs.«01_k».proof.Proof.Gen.BiasFwd
public import proofs.«01_k».proof.Proof.Gen.BiasFwd.Skeleton
public import proofs.«01_k».proof.Proof.Gen.BiasFwd.Launch
public import proofs.«01_k».proof.Proof.Gen.BiasFwd.Points
public import proofs.«01_k».proof.Proof.Gen.BiasFwd.Frame
public import proofs.«01_k».proof.Proof.Gen.BiasFwdIdeal
public import proofs.«01_k».proof.Proof.Gen.BiasFwdIdeal.Skeleton
public import proofs.«01_k».proof.Proof.Gen.BiasFwdIdeal.Launch
public import proofs.«01_k».proof.Proof.Gen.BiasFwdIdeal.Points
public import proofs.«01_k».proof.Proof.Gen.BiasFwdIdeal.Frame
public import proofs.«01_k».proof.Proof.Gen.BiasFwdRefIdeal
public import proofs.«01_k».proof.Proof.Gen.BiasBwd
public import proofs.«01_k».proof.Proof.Gen.BiasBwd.Skeleton
public import proofs.«01_k».proof.Proof.Gen.BiasBwd.Launch
public import proofs.«01_k».proof.Proof.Gen.BiasBwd.Points
public import proofs.«01_k».proof.Proof.Gen.BiasBwd.Frame
public import proofs.«01_k».proof.Proof.Gen.BiasBwdIdeal
public import proofs.«01_k».proof.Proof.Gen.BiasBwdIdeal.Skeleton
public import proofs.«01_k».proof.Proof.Gen.BiasBwdIdeal.Launch
public import proofs.«01_k».proof.Proof.Gen.BiasBwdIdeal.Points
public import proofs.«01_k».proof.Proof.Gen.BiasBwdIdeal.Frame
public import proofs.«01_k».proof.Proof.Gen.BiasBwdRefIdeal
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdRefIdeal
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.GradDown
public import proofs.«01_k».proof.Proof.Gen.GradDown.Skeleton
public import proofs.«01_k».proof.Proof.Gen.GradDown.Launch
public import proofs.«01_k».proof.Proof.Gen.GradDown.Points
public import proofs.«01_k».proof.Proof.Gen.GradDown.Frame
public import proofs.«01_k».proof.Proof.Gen.GradDownIdeal
public import proofs.«01_k».proof.Proof.Gen.GradDownIdeal.Skeleton
public import proofs.«01_k».proof.Proof.Gen.GradDownIdeal.Launch
public import proofs.«01_k».proof.Proof.Gen.GradDownIdeal.Points
public import proofs.«01_k».proof.Proof.Gen.GradDownIdeal.Frame
public import proofs.«01_k».proof.Proof.Gen.GradDownRefIdeal
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdRefIdeal
public import proofs.«01_k».proof.Proof.Gen.GradUp
public import proofs.«01_k».proof.Proof.Gen.GradUp.Skeleton
public import proofs.«01_k».proof.Proof.Gen.GradUp.Launch
public import proofs.«01_k».proof.Proof.Gen.GradUp.Points
public import proofs.«01_k».proof.Proof.Gen.GradUp.Frame
public import proofs.«01_k».proof.Proof.Gen.GradUpIdeal
public import proofs.«01_k».proof.Proof.Gen.GradUpIdeal.Skeleton
public import proofs.«01_k».proof.Proof.Gen.GradUpIdeal.Launch
public import proofs.«01_k».proof.Proof.Gen.GradUpIdeal.Points
public import proofs.«01_k».proof.Proof.Gen.GradUpIdeal.Frame
public import proofs.«01_k».proof.Proof.Gen.GradUpRefIdeal
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdRefIdeal
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutRefIdeal
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInRefIdeal
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdRefIdeal
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite_table
public import proofs.«01_k».proof.Proof.Gen.Pre_finite_dbias
public import proofs.«01_k».proof.Proof.Gen.Pre_finite
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GradDownIdeal.Value
public import proofs.«01_k».proof.Proof.Gen.GradDownRefIdeal.Read
public import proofs.«01_k».proof.Proof.Gen.DownBwdIdeal.Value
public import proofs.«01_k».proof.Proof.Gen.DownBwdRefIdeal.Read
public import proofs.«01_k».proof.Proof.Gen.GradUpIdeal.Value
public import proofs.«01_k».proof.Proof.Gen.GradUpRefIdeal.Read
public import proofs.«01_k».proof.Proof.Gen.UpBwdIdeal.Value
public import proofs.«01_k».proof.Proof.Gen.UpBwdRefIdeal.Read
public import proofs.«01_k».proof.Proof.Gen.GradOutIdeal.Value
public import proofs.«01_k».proof.Proof.Gen.GradOutRefIdeal.Read
public import proofs.«01_k».proof.Proof.Gen.GradInIdeal.Value
public import proofs.«01_k».proof.Proof.Gen.GradInRefIdeal.Read
public import proofs.«01_k».proof.Proof.Gen.UpFwdIdeal.Value
public import proofs.«01_k».proof.Proof.Gen.UpFwdRefIdeal.Read
public import proofs.«01_k».proof.Proof.Gen.DownFwdIdeal.Value
public import proofs.«01_k».proof.Proof.Gen.DownFwdRefIdeal.Read
public import proofs.«01_k».proof.Proof.Gen.InFwdIdeal.Value
public import proofs.«01_k».proof.Proof.Gen.InFwdRefIdeal.Read
public import proofs.«01_k».proof.Proof.Gen.Reference.Run
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.BiasFwdIdeal.Value
public import proofs.«01_k».proof.Proof.Gen.BiasFwdRefIdeal.Run
public import proofs.«01_k».proof.Proof.Gen.BiasFwdRefIdeal.Read
public import proofs.«01_k».proof.Proof.Gen.BiasBwdIdeal.Value
public import proofs.«01_k».proof.Proof.Gen.BiasBwdRefIdeal.Run
public import proofs.«01_k».proof.Proof.Gen.BiasBwdRefIdeal.Read
public import proofs.«01_k».proof.Proof.AdamDown
public import proofs.«01_k».proof.Proof.AdamIn
public import proofs.«01_k».proof.Proof.AdamOut
public import proofs.«01_k».proof.Proof.AdamUp
public import proofs.«01_k».proof.Proof.BiasBwd
public import proofs.«01_k».proof.Proof.BiasFwd
public import proofs.«01_k».proof.Proof.DownBwd
public import proofs.«01_k».proof.Proof.DownFwd
public import proofs.«01_k».proof.Proof.Finite
public import proofs.«01_k».proof.Proof.Gate
public import proofs.«01_k».proof.Proof.GateClaim
public import proofs.«01_k».proof.Proof.GateForward
public import proofs.«01_k».proof.Proof.GateFwd
public import proofs.«01_k».proof.Proof.GateGroup
public import proofs.«01_k».proof.Proof.GateKernel
public import proofs.«01_k».proof.Proof.GateRef
public import proofs.«01_k».proof.Proof.GateTile
public import proofs.«01_k».proof.Proof.GateTotal
public import proofs.«01_k».proof.Proof.GateValue
public import proofs.«01_k».proof.Proof.GradDown
public import proofs.«01_k».proof.Proof.GradIn
public import proofs.«01_k».proof.Proof.GradOut
public import proofs.«01_k».proof.Proof.GradUp
public import proofs.«01_k».proof.Proof.InBwd
public import proofs.«01_k».proof.Proof.InFwd
public import proofs.«01_k».proof.Proof.LossHead
public import proofs.«01_k».proof.Proof.NormBwd
public import proofs.«01_k».proof.Proof.NormFwd
public import proofs.«01_k».proof.Proof.OutBwd
public import proofs.«01_k».proof.Proof.OutFwd
public import proofs.«01_k».proof.Proof.Rms
public import proofs.«01_k».proof.Proof.UpBwd
public import proofs.«01_k».proof.Proof.UpFwd
public import Idealize.ShloMosaic.Adequacy
public import Idealize.ShloMosaic.Init

@[expose] public section

noncomputable section

namespace Cert.Proof

open Idealize.ShloMosaic Idealize.SL.Sem Cert.BiasFwd

/-- The claim: the side conditions of every program hold; each program terminates without a fault, leaves its arguments
    as they were and its semaphore counters at zero; each idealized program is the kernel over the extended reals; and
    each kernel computes its reference's function there. -/
theorem claim : Cert.Claim :=
  ⟨Cert.BiasFwd.Gen.facts, Cert.BiasFwdIdeal.Gen.facts, Cert.BiasFwdRefIdeal.Gen.facts, Cert.BiasBwd.Gen.facts, Cert.BiasBwdIdeal.Gen.facts, Cert.BiasBwdRefIdeal.Gen.facts, Cert.GateFwd.Gen.facts, Cert.GateFwdIdeal.Gen.facts, Cert.GateFwdRefIdeal.Gen.facts, Cert.LossHead.Gen.facts, Cert.LossHeadIdeal.Gen.facts, Cert.LossHeadRefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.InBwd.Gen.facts, Cert.InBwdIdeal.Gen.facts, Cert.InBwdRefIdeal.Gen.facts, Cert.OutBwd.Gen.facts, Cert.OutBwdIdeal.Gen.facts, Cert.OutBwdRefIdeal.Gen.facts, Cert.NormBwd.Gen.facts, Cert.NormBwdIdeal.Gen.facts, Cert.NormBwdRefIdeal.Gen.facts, Cert.OutFwd.Gen.facts, Cert.OutFwdIdeal.Gen.facts, Cert.OutFwdRefIdeal.Gen.facts, Cert.NormFwd.Gen.facts, Cert.NormFwdIdeal.Gen.facts, Cert.NormFwdRefIdeal.Gen.facts, Cert.GradDown.Gen.facts, Cert.GradDownIdeal.Gen.facts, Cert.GradDownRefIdeal.Gen.facts, Cert.DownBwd.Gen.facts, Cert.DownBwdIdeal.Gen.facts, Cert.DownBwdRefIdeal.Gen.facts, Cert.GradUp.Gen.facts, Cert.GradUpIdeal.Gen.facts, Cert.GradUpRefIdeal.Gen.facts, Cert.UpBwd.Gen.facts, Cert.UpBwdIdeal.Gen.facts, Cert.UpBwdRefIdeal.Gen.facts, Cert.GradOut.Gen.facts, Cert.GradOutIdeal.Gen.facts, Cert.GradOutRefIdeal.Gen.facts, Cert.GradIn.Gen.facts, Cert.GradInIdeal.Gen.facts, Cert.GradInRefIdeal.Gen.facts, Cert.UpFwd.Gen.facts, Cert.UpFwdIdeal.Gen.facts, Cert.UpFwdRefIdeal.Gen.facts, Cert.DownFwd.Gen.facts, Cert.DownFwdIdeal.Gen.facts, Cert.DownFwdRefIdeal.Gen.facts, Cert.InFwd.Gen.facts, Cert.InFwdIdeal.Gen.facts, Cert.InFwdRefIdeal.Gen.facts, Cert.Kernel.Gen.facts, Cert.KernelIdeal.Gen.facts, Cert.ReferenceIdeal.Gen.facts, Cert.Reference.Gen.facts, Cert.Pre_finite_table.Gen.facts, Cert.Pre_finite_dbias.Gen.facts, Cert.Pre_finite.Gen.facts,
    fun m ρ _ => Cert.BiasFwd.Gen.frame m ρ,
    fun m ρ _ => Cert.BiasFwdIdeal.Gen.frame m ρ,
    fun m ρ _ => Cert.BiasFwdIdeal.Gen.frame m ρ,
    fun m ρ _ => (θ_run _ _ _).mono (fun r h => ⟨fun c => (h c).2.2, sem_eq_zero_of_no_sems (by decide) r.2⟩)
      (Cert.BiasFwdRefIdeal.Value.run m ρ),
    fun m ρ _ => (θ_run _ _ _).mono (fun r h => ⟨fun c => (h c).2.2, sem_eq_zero_of_no_sems (by decide) r.2⟩)
      (Cert.BiasFwdRefIdeal.Value.run m ρ),
    fun m ρ _ => Cert.BiasBwd.Gen.frame m ρ,
    fun m ρ _ => Cert.BiasBwdIdeal.Gen.frame m ρ,
    fun m ρ _ => Cert.BiasBwdIdeal.Gen.frame m ρ,
    fun m ρ _ => (θ_run _ _ _).mono (fun r h => ⟨fun c => (h c).2, sem_eq_zero_of_no_sems (by decide) r.2⟩)
      (Cert.BiasBwdRefIdeal.Value.run m ρ),
    fun m ρ _ => (θ_run _ _ _).mono (fun r h => ⟨fun c => (h c).2, sem_eq_zero_of_no_sems (by decide) r.2⟩)
      (Cert.BiasBwdRefIdeal.Value.run m ρ),
    fun m ρ _ => Cert.GateFwd.Gen.frame m ρ,
    fun m ρ _ => Cert.GateFwdIdeal.Gen.frame m ρ,
    fun m ρ _ => (θ_run _ _ _).mono (fun r h => ⟨fun c => (h c).2, sem_eq_zero_of_no_sems (by decide) r.2⟩)
      (Cert.GateFwdRefIdeal.Value.run m ρ),
    fun m ρ _ => Cert.LossHead.Gen.frame m ρ,
    fun m ρ _ => Cert.LossHeadIdeal.Gen.frame m ρ,
    fun m ρ _ => (θ_run _ _ _).mono (fun r h => ⟨fun c => (h c).2.2.2.2, sem_eq_zero_of_no_sems (by decide) r.2⟩)
      (Cert.LossHeadRefIdeal.Value.run m ρ),
    fun m ρ _ => Cert.AdamOut.Gen.frame m ρ,
    fun m ρ _ => Cert.AdamOutIdeal.Gen.frame m ρ,
    fun m ρ _ => (θ_run _ _ _).mono (fun r h => ⟨fun c => (h c).2.2.2.2, sem_eq_zero_of_no_sems (by decide) r.2⟩)
      (Cert.AdamOutRefIdeal.Value.run m ρ),
    fun m ρ _ => Cert.AdamUp.Gen.frame m ρ,
    fun m ρ _ => Cert.AdamUpIdeal.Gen.frame m ρ,
    fun m ρ _ => (θ_run _ _ _).mono (fun r h => ⟨fun c => (h c).2.2.2.2, sem_eq_zero_of_no_sems (by decide) r.2⟩)
      (Cert.AdamUpRefIdeal.Value.run m ρ),
    fun m ρ _ => Cert.AdamDown.Gen.frame m ρ,
    fun m ρ _ => Cert.AdamDownIdeal.Gen.frame m ρ,
    fun m ρ _ => (θ_run _ _ _).mono (fun r h => ⟨fun c => (h c).2.2.2.2, sem_eq_zero_of_no_sems (by decide) r.2⟩)
      (Cert.AdamDownRefIdeal.Value.run m ρ),
    fun m ρ _ => Cert.AdamIn.Gen.frame m ρ,
    fun m ρ _ => Cert.AdamInIdeal.Gen.frame m ρ,
    fun m ρ _ => (θ_run _ _ _).mono (fun r h => ⟨fun c => (h c).2.2.2.2, sem_eq_zero_of_no_sems (by decide) r.2⟩)
      (Cert.AdamInRefIdeal.Value.run m ρ),
    fun m ρ _ => Cert.InBwd.Gen.frame m ρ,
    fun m ρ _ => Cert.InBwdIdeal.Gen.frame m ρ,
    fun m ρ _ => (θ_run _ _ _).mono (fun r h => ⟨fun c => (h c).2.2, sem_eq_zero_of_no_sems (by decide) r.2⟩)
      (Cert.InBwdRefIdeal.Value.run m ρ),
    fun m ρ _ => Cert.OutBwd.Gen.frame m ρ,
    fun m ρ _ => Cert.OutBwdIdeal.Gen.frame m ρ,
    fun m ρ _ => (θ_run _ _ _).mono (fun r h => ⟨fun c => (h c).2.2.2.2, sem_eq_zero_of_no_sems (by decide) r.2⟩)
      (Cert.OutBwdRefIdeal.Value.run m ρ),
    fun m ρ _ => Cert.NormBwd.Gen.frame m ρ,
    fun m ρ _ => Cert.NormBwdIdeal.Gen.frame m ρ,
    fun m ρ _ => (θ_run _ _ _).mono (fun r h => ⟨fun c => (h c).2.2.2, sem_eq_zero_of_no_sems (by decide) r.2⟩)
      (Cert.NormBwdRefIdeal.Value.run m ρ),
    fun m ρ _ => Cert.OutFwd.Gen.frame m ρ,
    fun m ρ _ => Cert.OutFwdIdeal.Gen.frame m ρ,
    fun m ρ _ => (θ_run _ _ _).mono (fun r h => ⟨fun c => (h c).2.2.2, sem_eq_zero_of_no_sems (by decide) r.2⟩)
      (Cert.OutFwdRefIdeal.Value.run m ρ),
    fun m ρ _ => Cert.NormFwd.Gen.frame m ρ,
    fun m ρ _ => Cert.NormFwdIdeal.Gen.frame m ρ,
    fun m ρ _ => (θ_run _ _ _).mono (fun r h => ⟨fun c => (h c).2, sem_eq_zero_of_no_sems (by decide) r.2⟩)
      (Cert.NormFwdRefIdeal.Value.run m ρ),
    fun m ρ _ => Cert.GradDown.Gen.frame m ρ,
    fun m ρ _ => Cert.GradDownIdeal.Gen.frame m ρ,
    fun m ρ _ => (θ_run _ _ _).mono (fun r h => ⟨fun c => (h c).2, sem_eq_zero_of_no_sems (by decide) r.2⟩)
      (Cert.GradDownRefIdeal.Value.run m ρ),
    fun m ρ _ => Cert.DownBwd.Gen.frame m ρ,
    fun m ρ _ => Cert.DownBwdIdeal.Gen.frame m ρ,
    fun m ρ _ => (θ_run _ _ _).mono (fun r h => ⟨fun c => (h c).2, sem_eq_zero_of_no_sems (by decide) r.2⟩)
      (Cert.DownBwdRefIdeal.Value.run m ρ),
    fun m ρ _ => Cert.GradUp.Gen.frame m ρ,
    fun m ρ _ => Cert.GradUpIdeal.Gen.frame m ρ,
    fun m ρ _ => (θ_run _ _ _).mono (fun r h => ⟨fun c => (h c).2, sem_eq_zero_of_no_sems (by decide) r.2⟩)
      (Cert.GradUpRefIdeal.Value.run m ρ),
    fun m ρ _ => Cert.UpBwd.Gen.frame m ρ,
    fun m ρ _ => Cert.UpBwdIdeal.Gen.frame m ρ,
    fun m ρ _ => (θ_run _ _ _).mono (fun r h => ⟨fun c => (h c).2, sem_eq_zero_of_no_sems (by decide) r.2⟩)
      (Cert.UpBwdRefIdeal.Value.run m ρ),
    fun m ρ _ => Cert.GradOut.Gen.frame m ρ,
    fun m ρ _ => Cert.GradOutIdeal.Gen.frame m ρ,
    fun m ρ _ => (θ_run _ _ _).mono (fun r h => ⟨fun c => (h c).2, sem_eq_zero_of_no_sems (by decide) r.2⟩)
      (Cert.GradOutRefIdeal.Value.run m ρ),
    fun m ρ _ => Cert.GradIn.Gen.frame m ρ,
    fun m ρ _ => Cert.GradInIdeal.Gen.frame m ρ,
    fun m ρ _ => (θ_run _ _ _).mono (fun r h => ⟨fun c => (h c).2, sem_eq_zero_of_no_sems (by decide) r.2⟩)
      (Cert.GradInRefIdeal.Value.run m ρ),
    fun m ρ _ => Cert.UpFwd.Gen.frame m ρ,
    fun m ρ _ => Cert.UpFwdIdeal.Gen.frame m ρ,
    fun m ρ _ => (θ_run _ _ _).mono (fun r h => ⟨fun c => (h c).2, sem_eq_zero_of_no_sems (by decide) r.2⟩)
      (Cert.UpFwdRefIdeal.Value.run m ρ),
    fun m ρ _ => Cert.DownFwd.Gen.frame m ρ,
    fun m ρ _ => Cert.DownFwdIdeal.Gen.frame m ρ,
    fun m ρ _ => (θ_run _ _ _).mono (fun r h => ⟨fun c => (h c).2, sem_eq_zero_of_no_sems (by decide) r.2⟩)
      (Cert.DownFwdRefIdeal.Value.run m ρ),
    fun m ρ _ => Cert.InFwd.Gen.frame m ρ,
    fun m ρ _ => Cert.InFwdIdeal.Gen.frame m ρ,
    fun m ρ _ => (θ_run _ _ _).mono (fun r h => ⟨fun c => (h c).2, sem_eq_zero_of_no_sems (by decide) r.2⟩)
      (Cert.InFwdRefIdeal.Value.run m ρ),
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2.2.2.2, sem_eq_zero_of_no_sems (by decide) r.2⟩)
      (Cert.ReferenceIdeal.Value.run m ρ),
    fun m ρ _ => (θ_run _ _ _).mono (fun r h => ⟨fun c => (h c).2.2.2.2.2, sem_eq_zero_of_no_sems (by decide) r.2⟩)
      (Cert.ReferenceIdeal.Value.run m ρ),
    fun m ρ _ => (θ_run _ _ _).mono (fun r h => ⟨fun c => (h c).2.2.2.2.2, sem_eq_zero_of_no_sems (by decide) r.2⟩)
      (Cert.Reference.Value.run m ρ),
    trivial,
    algebraic_BiasFwd,
    trivial,
    algebraic_BiasBwd,
    IdealRules.named_const.statement Cert.GateFwdIdeal.κ "c1" .f32 0x3D372713#32 ((8943 / 200000 : ℝ) : EReal) rfl,
    algebraic_GateFwd,
    trivial,
    algebraic_LossHead,
    trivial,
    algebraic_AdamOut,
    trivial,
    algebraic_AdamUp,
    trivial,
    algebraic_AdamDown,
    trivial,
    algebraic_AdamIn,
    trivial,
    algebraic_InBwd,
    trivial,
    algebraic_OutBwd,
    trivial,
    algebraic_NormBwd,
    trivial,
    algebraic_OutFwd,
    trivial,
    algebraic_NormFwd,
    trivial,
    algebraic_GradDown,
    trivial,
    algebraic_DownBwd,
    trivial,
    algebraic_GradUp,
    trivial,
    algebraic_UpBwd,
    trivial,
    algebraic_GradOut,
    trivial,
    algebraic_GradIn,
    trivial,
    algebraic_UpFwd,
    trivial,
    algebraic_DownFwd,
    trivial,
    algebraic_InFwd,
    ⟨IdealRules.named_const.statement Cert.KernelIdeal.κ "c1" .f32 0x3D372713#32 ((8943 / 200000 : ℝ) : EReal) rfl,
      IdealRules.named_const.statement Cert.KernelIdeal.κ "c3" .f32 0x3E095D4F#32 ((26829 / 200000 : ℝ) : EReal) rfl⟩,
    trivial,
    algebraic_Kernel⟩

end Cert.Proof

end
